-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Extract (m : (ℓ : Loc Cert.Extract.nD Cert.Extract.τ Cert.Extract.sig) → Buf (Elt Bits) ℓ) : Prop :=
  True

def Pre_Extract_ascending [hPre_ascending : Cert.Pre_ascending.Facts] (m : (ℓ : Loc Cert.Extract.nD Cert.Extract.τ Cert.Extract.sig) → Buf (Elt Bits) ℓ) : Prop :=
  ∀ c : Dev Cert.Extract.nD,
    (Cert.Pre_ascending.fn (F := Bits) (m ((c.tc : Thread Cert.Extract.nD Cert.Extract.τ).loc Cert.Extract.main_arg0)) (m ((c.tc : Thread Cert.Extract.nD Cert.Extract.τ).loc Cert.Extract.main_arg1))) = (fun _ => 1#1)

def Pre_Gathered (m : (ℓ : Loc Cert.Gathered.nD Cert.Gathered.τ Cert.Gathered.sig) → Buf (Elt Bits) ℓ) : Prop :=
  True

def Pre_Gathered_ascending [hPre_ascending : Cert.Pre_ascending.Facts] (m : (ℓ : Loc Cert.Gathered.nD Cert.Gathered.τ Cert.Gathered.sig) → Buf (Elt Bits) ℓ) : Prop :=
  ∀ c : Dev Cert.Gathered.nD,
    (Cert.Pre_ascending.fn (F := Bits) (m ((c.tc : Thread Cert.Gathered.nD Cert.Gathered.τ).loc Cert.Gathered.main_arg0)) (m ((c.tc : Thread Cert.Gathered.nD Cert.Gathered.τ).loc Cert.Gathered.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Extract [hExtract : Cert.Extract.Facts] : Prop :=
  ∀ (m : (ℓ : Loc Cert.Extract.nD Cert.Extract.τ Cert.Extract.sig) → Buf (Elt Bits) ℓ) (g : Dev Cert.Extract.nD → PrngReg), Pre_Extract m →
    θ_run (Cert.Extract.defs (F := Bits)) (onTc (τ := Cert.Extract.τ) (Cert.Extract.main (F := Bits))) ⟨m, fun _ => 0, g⟩ (fun r => (∀ c : Dev Cert.Extract.nD,
      r.2.mem ((c.tc : Thread Cert.Extract.nD Cert.Extract.τ).loc Cert.Extract.main_arg0) = m ((c.tc : Thread Cert.Extract.nD Cert.Extract.τ).loc Cert.Extract.main_arg0)
      ∧ r.2.mem ((c.tc : Thread Cert.Extract.nD Cert.Extract.τ).loc Cert.Extract.main_arg1) = m ((c.tc : Thread Cert.Extract.nD Cert.Extract.τ).loc Cert.Extract.main_arg1))
      ∧ r.2.sem = fun _ => 0)

def quiescent_Extract_pre_ascending [hExtract : Cert.Extract.Facts] [hPre_ascending : Cert.Pre_ascending.Facts] : Prop :=
  ∀ (m : (ℓ : Loc Cert.Extract.nD Cert.Extract.τ Cert.Extract.sig) → Buf (Elt Bits) ℓ) (g : Dev Cert.Extract.nD → PrngReg), Pre_Extract_ascending m →
    θ_run (Cert.Extract.defs (F := Bits)) (onTc (τ := Cert.Extract.τ) (Cert.Extract.main (F := Bits))) ⟨m, fun _ => 0, g⟩ (fun r => (∀ c : Dev Cert.Extract.nD,
      r.2.mem ((c.tc : Thread Cert.Extract.nD Cert.Extract.τ).loc Cert.Extract.main_arg0) = m ((c.tc : Thread Cert.Extract.nD Cert.Extract.τ).loc Cert.Extract.main_arg0)
      ∧ r.2.mem ((c.tc : Thread Cert.Extract.nD Cert.Extract.τ).loc Cert.Extract.main_arg1) = m ((c.tc : Thread Cert.Extract.nD Cert.Extract.τ).loc Cert.Extract.main_arg1))
      ∧ r.2.sem = fun _ => 0)

def quiescent_Gathered [hGathered : Cert.Gathered.Facts] : Prop :=
  ∀ (m : (ℓ : Loc Cert.Gathered.nD Cert.Gathered.τ Cert.Gathered.sig) → Buf (Elt Bits) ℓ) (g : Dev Cert.Gathered.nD → PrngReg), Pre_Gathered m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1))
      ∧ r.2.sem = fun _ => 0)

def quiescent_Gathered_pre_ascending [hGathered : Cert.Gathered.Facts] [hPre_ascending : Cert.Pre_ascending.Facts] : Prop :=
  ∀ (m : (ℓ : Loc Cert.Gathered.nD Cert.Gathered.τ Cert.Gathered.sig) → Buf (Elt Bits) ℓ) (g : Dev Cert.Gathered.nD → PrngReg), Pre_Gathered_ascending m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def bitexact_Extract_Gathered_pre_ascending [hExtract : Cert.Extract.Facts] [hGathered : Cert.Gathered.Facts] [hPre_ascending : Cert.Pre_ascending.Facts] : Prop :=
  ∀ (m : (ℓ : Loc Cert.Extract.nD Cert.Extract.τ Cert.Extract.sig) → Buf (Elt Bits) ℓ) (g : Dev Cert.Extract.nD → PrngReg)
    (m' : (ℓ : Loc Cert.Gathered.nD Cert.Gathered.τ Cert.Gathered.sig) → Buf (Elt Bits) ℓ) (g' : Dev Cert.Gathered.nD → PrngReg), Pre_Extract_ascending m →
    (∀ c : Dev Cert.Extract.nD,
      m' ((c.tc : Thread Cert.Gathered.nD Cert.Gathered.τ).loc Cert.Gathered.main_arg0) = m ((c.tc : Thread Cert.Extract.nD Cert.Extract.τ).loc Cert.Extract.main_arg0)
      ∧ m' ((c.tc : Thread Cert.Gathered.nD Cert.Gathered.τ).loc Cert.Gathered.main_arg1) = m ((c.tc : Thread Cert.Extract.nD Cert.Extract.τ).loc Cert.Extract.main_arg1)) →
    ∃ (v0 : (c : Dev Cert.Extract.nD) → Buf (Elt Bits) ((c.tc : Thread Cert.Extract.nD Cert.Extract.τ).loc Cert.Extract.main_v8)),
      θ_run (Cert.Extract.defs (F := Bits)) (onTc (τ := Cert.Extract.τ) (Cert.Extract.main (F := Bits))) ⟨m, fun _ => 0, g⟩ (fun r => ∀ c : Dev Cert.Extract.nD,
          r.2.mem ((c.tc : Thread Cert.Extract.nD Cert.Extract.τ).loc Cert.Extract.main_v8) = v0 c
          ∧ r.2.mem ((c.tc : Thread Cert.Extract.nD Cert.Extract.τ).loc Cert.Extract.main_arg0) = m ((c.tc : Thread Cert.Extract.nD Cert.Extract.τ).loc Cert.Extract.main_arg0)
          ∧ r.2.mem ((c.tc : Thread Cert.Extract.nD Cert.Extract.τ).loc Cert.Extract.main_arg1) = m ((c.tc : Thread Cert.Extract.nD Cert.Extract.τ).loc Cert.Extract.main_arg1))
      ∧ θ_run (Cert.Gathered.defs (F := Bits)) (onTc (τ := Cert.Gathered.τ) (Cert.Gathered.main (F := Bits))) ⟨m', fun _ => 0, g'⟩ (fun r => ∀ c : Dev Cert.Gathered.nD,
          r.2.mem ((c.tc : Thread Cert.Gathered.nD Cert.Gathered.τ).loc Cert.Gathered.main_v16) = v0 c
          ∧ r.2.mem ((c.tc : Thread Cert.Gathered.nD Cert.Gathered.τ).loc Cert.Gathered.main_arg0) = m' ((c.tc : Thread Cert.Gathered.nD Cert.Gathered.τ).loc Cert.Gathered.main_arg0)
          ∧ r.2.mem ((c.tc : Thread Cert.Gathered.nD Cert.Gathered.τ).loc Cert.Gathered.main_arg1) = m' ((c.tc : Thread Cert.Gathered.nD Cert.Gathered.τ).loc Cert.Gathered.main_arg1))

def Claim : Prop :=
  ∃ (hKernel : Cert.Kernel.Facts) (hKernelIdeal : Cert.KernelIdeal.Facts) (hReferenceIdeal : Cert.ReferenceIdeal.Facts) (hExtract : Cert.Extract.Facts) (hGathered : Cert.Gathered.Facts) (hPre_finite : Cert.Pre_finite.Facts) (hPre_ascending : Cert.Pre_ascending.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Extract (hExtract := hExtract)
    ∧ quiescent_Extract_pre_ascending (hExtract := hExtract) (hPre_ascending := hPre_ascending)
    ∧ quiescent_Gathered (hGathered := hGathered)
    ∧ quiescent_Gathered_pre_ascending (hGathered := hGathered) (hPre_ascending := hPre_ascending)
    ∧ preserves_Kernel_KernelIdeal
    ∧ algebraic_KernelIdeal_ReferenceIdeal_pre_finite (hKernelIdeal := hKernelIdeal) (hReferenceIdeal := hReferenceIdeal) (hPre_finite := hPre_finite)
    ∧ bitexact_Extract_Gathered_pre_ascending (hExtract := hExtract) (hGathered := hGathered) (hPre_ascending := hPre_ascending)
-- ==== Pre_ascending.lean ====
abbrev S24576 : Shape := ⟨1, ![24576]⟩
abbrev S850000x448 : Shape := ⟨2, ![850000, 448]⟩
abbrev S1 : Shape := ⟨1, ![1]⟩
abbrev S24575 : Shape := ⟨1, ![24575]⟩
abbrev S_ : Shape := ⟨0, ![]⟩

class Facts : Prop where
  slices_S24576_S1_0 : S24576.Slices ![0] S1
  slices_S24576_S24575_0 : S24576.Slices ![0] S24575
  concatenates_S1_S24575_S24576_d0 : Shape.Concatenates [S1, S24575] S24576 0
  bcast_S_S24576 : S_.BroadcastsInDim S24576 (![] : Fin 0 → Fin S24576.rank)

variable [Facts]

def fn {F : FTy → Type} [FloatOps F] (main_arg0 : IVec S24576 32) (main_arg1 : IVec S850000x448 8) : IVec S24576 1 :=
  let main_v0 : IVec S1 32 := (extractStridedSlice S1 ![0] · slices_S24576_S1_0) main_arg0
  let main_v1 : IVec S24575 32 := (extractStridedSlice S24575 ![0] · slices_S24576_S24575_0) main_arg0
  let main_v2 : IVec S24576 32 := (fun a b => concatenate S24576 0 [⟨S1, a⟩, ⟨S24575, b⟩] concatenates_S1_S24575_S24576_d0) main_v0 main_v1
  let main_v3 : IVec S24576 1 := cmpi .sge main_arg0 main_v2
  let main_c : IVec S_ 32 := constantI S_ 32 0#32
  let main_v4 : IVec S24576 32 := broadcastInDim S24576 ![] bcast_S_S24576 main_c
  let main_v5 : IVec S24576 1 := cmpi .sge main_arg0 main_v4
  let main_v6 : IVec S24576 1 := andi main_v3 main_v5
  let main_c_0 : IVec S_ 32 := constantI S_ 32 850000#32
  let main_v7 : IVec S24576 32 := broadcastInDim S24576 ![] bcast_S_S24576 main_c_0
  let main_v8 : IVec S24576 1 := cmpi .slt main_arg0 main_v7
  let main_v9 : IVec S24576 1 := andi main_v6 main_v8
  main_v9
-- ==== Pre_finite.lean ====
abbrev S384x448 : Shape := ⟨2, ![384, 448]⟩
abbrev S192x24576 : Shape := ⟨2, ![192, 24576]⟩
abbrev S112x24576 : Shape := ⟨2, ![112, 24576]⟩
abbrev S24576x448 : Shape := ⟨2, ![24576, 448]⟩
abbrev S24576 : Shape := ⟨1, ![24576]⟩
abbrev S_ : Shape := ⟨0, ![]⟩

class Facts : Prop where
  bcast_S_S384x448 : S_.BroadcastsInDim S384x448 (![] : Fin 0 → Fin S384x448.rank)

variable [Facts]

def fn {F : FTy → Type} [FloatOps F] (main_arg0 : FVec F S384x448 .f32) (main_arg1 : IVec S192x24576 32) (main_arg2 : IVec S112x24576 32) (main_arg3 : IVec S24576x448 32) (main_arg4 : FVec F S24576 .f32) (main_arg5 : FVec F S24576 .f32) (main_arg6 : FVec F S24576 .f32) : IVec S384x448 1 :=
  let main_cst : FVec F S_ .f32 := constant S_ .f32 0xFF800000#32
  let main_v0 : FVec F S384x448 .f32 := broadcastInDim S384x448 ![] bcast_S_S384x448 main_cst
  let main_v1 : IVec S384x448 1 := cmpf .ogt main_arg0 main_v0
  let main_cst_0 : FVec F S_ .f32 := constant S_ .f32 0x7F800000#32
  let main_v2 : FVec F S384x448 .f32 := broadcastInDim S384x448 ![] bcast_S_S384x448 main_cst_0
  let main_v3 : IVec S384x448 1 := cmpf .olt main_arg0 main_v2
  let main_v4 : IVec S384x448 1 := andi main_v1 main_v3
  main_v4
-- ==== Kernel.lean ====
abbrev S384x448 : Shape := ⟨2, ![384, 448]⟩
abbrev S192x24576 : Shape := ⟨2, ![192, 24576]⟩
abbrev S112x24576 : Shape := ⟨2, ![112, 24576]⟩
abbrev S24576x448 : Shape := ⟨2, ![24576, 448]⟩
abbrev S24576 : Shape := ⟨1, ![24576]⟩
abbrev S448x384 : Shape := ⟨2, ![448, 384]⟩
abbrev S448x24576 : Shape := ⟨2, ![448, 24576]⟩
abbrev S1x24576 : Shape := ⟨2, ![1, 24576]⟩
abbrev S192x512 : Shape := ⟨2, ![192, 512]⟩
abbrev S112x512 : Shape := ⟨2, ![112, 512]⟩
abbrev S448x512 : Shape := ⟨2, ![448, 512]⟩
abbrev S1x512 : Shape := ⟨2, ![1, 512]⟩
abbrev S448x1152 : Shape := ⟨2, ![448, 1152]⟩
abbrev S1152x512 : Shape := ⟨2, ![1152, 512]⟩
abbrev S448x128 : Shape := ⟨2, ![448, 128]⟩
abbrev S112x128 : Shape := ⟨2, ![112, 128]⟩
abbrev S1x128 : Shape := ⟨2, ![1, 128]⟩
abbrev S128 : Shape := ⟨1, ![128]⟩

abbrev nBuf : Space → Nat
  | .hbm => 16
  | .vmem => 23
  | .smem => 0
  | _ => 0

abbrev bufTy : (tb : Table) → Fin (tcTables nBuf tb) → BufTy
  | .hbm, ⟨0, _⟩ => ⟨S384x448, .f32⟩
  | .hbm, ⟨1, _⟩ => ⟨S192x24576, .i32⟩
  | .hbm, ⟨2, _⟩ => ⟨S112x24576, .i32⟩
  | .hbm, ⟨3, _⟩ => ⟨S24576x448, .i32⟩
  | .hbm, ⟨4, _⟩ => ⟨S24576, .f32⟩
  | .hbm, ⟨5, _⟩ => ⟨S24576, .f32⟩
  | .hbm, ⟨6, _⟩ => ⟨S24576, .f32⟩
  | .hbm, ⟨7, _⟩ => ⟨S448x384, .f32⟩
  | .hbm, ⟨8, _⟩ => ⟨S448x24576, .i32⟩
  | .hbm, ⟨9, _⟩ => ⟨S1x24576, .f32⟩
  | .hbm, ⟨10, _⟩ => ⟨S1x24576, .f32⟩
  | .hbm, ⟨11, _⟩ => ⟨S1x24576, .f32⟩
  | .hbm, ⟨12, _⟩ => ⟨S448x24576, .i8⟩
  | .hbm, ⟨13, _⟩ => ⟨S1x24576, .f32⟩
  | .hbm, ⟨14, _⟩ => ⟨S1x24576, .f32⟩
  | .hbm, ⟨15, _⟩ => ⟨S1x24576, .f32⟩
  | .local _ .vmem, ⟨0, _⟩ => ⟨S448x384, .f32⟩
  | .local _ .vmem, ⟨1, _⟩ => ⟨S192x512, .i32⟩
  | .local _ .vmem, ⟨2, _⟩ => ⟨S192x512, .i32⟩
  | .local _ .vmem, ⟨3, _⟩ => ⟨S112x512, .i32⟩
  | .local _ .vmem, ⟨4, _⟩ => ⟨S112x512, .i32⟩
  | .local _ .vmem, ⟨5, _⟩ => ⟨S448x512, .i32⟩
  | .local _ .vmem, ⟨6, _⟩ => ⟨S448x512, .i32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S448x512, .i8⟩
  | .local _ .vmem, ⟨14, _⟩ => ⟨S448x512, .i8⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S448x1152, .bf16⟩
  | .local _ .vmem, ⟨22, _⟩ => ⟨S448x512, .f32⟩
  | _, _ => ⟨S384x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S448x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S192x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S448x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S384x448 : Shape := ⟨2, ![384, 448]⟩
abbrev S192x24576 : Shape := ⟨2, ![192, 24576]⟩
abbrev S112x24576 : Shape := ⟨2, ![112, 24576]⟩
abbrev S24576x448 : Shape := ⟨2, ![24576, 448]⟩
abbrev S24576 : Shape := ⟨1, ![24576]⟩
abbrev S_ : Shape := ⟨0, ![]⟩
abbrev S384x24576 : Shape := ⟨2, ![384, 24576]⟩
abbrev S24576x384 : Shape := ⟨2, ![24576, 384]⟩
abbrev S4 : Shape := ⟨1, ![4]⟩
abbrev S1x4x1 : Shape := ⟨3, ![1, 4, 1]⟩
abbrev S112x1x24576 : Shape := ⟨3, ![112, 1, 24576]⟩
abbrev S112x4x24576 : Shape := ⟨3, ![112, 4, 24576]⟩
abbrev S448x24576 : Shape := ⟨2, ![448, 24576]⟩
abbrev S24576x1 : Shape := ⟨2, ![24576, 1]⟩
abbrev S1x24576 : Shape := ⟨2, ![1, 24576]⟩

abbrev nBuf : Space → Nat
  | .hbm => 99
  | .vmem => 0
  | .smem => 0
  | _ => 0

abbrev bufTy : (tb : Table) → Fin (tcTables nBuf tb) → BufTy
  | .hbm, ⟨0, _⟩ => ⟨S384x448, .f32⟩
  | .hbm, ⟨1, _⟩ => ⟨S192x24576, .i32⟩
  | .hbm, ⟨2, _⟩ => ⟨S112x24576, .i32⟩
  | .hbm, ⟨3, _⟩ => ⟨S24576x448, .i32⟩
  | .hbm, ⟨4, _⟩ => ⟨S24576, .f32⟩
  | .hbm, ⟨5, _⟩ => ⟨S24576, .f32⟩
  | .hbm, ⟨6, _⟩ => ⟨S24576, .f32⟩
  | .hbm, ⟨7, _⟩ => ⟨S_, .i32⟩
  | .hbm, ⟨8, _⟩ => ⟨S192x24576, .i32⟩
  | .hbm, ⟨9, _⟩ => ⟨S192x24576, .i32⟩
  | .hbm, ⟨10, _⟩ => ⟨S_, .i32⟩
  | .hbm, ⟨11, _⟩ => ⟨S192x24576, .i32⟩
  | .hbm, ⟨12, _⟩ => ⟨S192x24576, .i32⟩
  | .hbm, ⟨13, _⟩ => ⟨S384x24576, .i32⟩
  | .hbm, ⟨14, _⟩ => ⟨S384x24576, .f32⟩
  | .hbm, ⟨15, _⟩ => ⟨S24576x384, .f32⟩
  | .hbm, ⟨16, _⟩ => ⟨S24576x448, .f32⟩
  | .hbm, ⟨17, _⟩ => ⟨S4, .i32⟩
  | .hbm, ⟨18, _⟩ => ⟨S1x4x1, .i32⟩
  | .hbm, ⟨19, _⟩ => ⟨S112x1x24576, .i32⟩
  | .hbm, ⟨20, _⟩ => ⟨S_, .i32⟩
  | .hbm, ⟨21, _⟩ => ⟨S1x4x1, .i32⟩
  | .hbm, ⟨22, _⟩ => ⟨S1x4x1, .i32⟩
  | .hbm, ⟨23, _⟩ => ⟨S112x4x24576, .i32⟩
  | .hbm, ⟨24, _⟩ => ⟨S112x4x24576, .i32⟩
  | .hbm, ⟨25, _⟩ => ⟨S112x4x24576, .i32⟩
  | .hbm, ⟨26, _⟩ => ⟨S_, .i32⟩
  | .hbm, ⟨27, _⟩ => ⟨S112x4x24576, .i32⟩
  | .hbm, ⟨28, _⟩ => ⟨S112x4x24576, .i32⟩
  | .hbm, ⟨29, _⟩ => ⟨S448x24576, .i32⟩
  | .hbm, ⟨30, _⟩ => ⟨S24576x448, .i32⟩
  | .hbm, ⟨31, _⟩ => ⟨S24576x448, .f32⟩
  | .hbm, ⟨32, _⟩ => ⟨S24576x1, .f32⟩
  | .hbm, ⟨33, _⟩ => ⟨S24576x448, .f32⟩
  | .hbm, ⟨34, _⟩ => ⟨S24576x448, .f32⟩
  | .hbm, ⟨35, _⟩ => ⟨S24576x1, .f32⟩
  | .hbm, ⟨36, _⟩ => ⟨S24576x448, .f32⟩
  | .hbm, ⟨37, _⟩ => ⟨S24576x448, .f32⟩
  | .hbm, ⟨38, _⟩ => ⟨S24576x448, .f32⟩
  | .hbm, ⟨39, _⟩ => ⟨S_, .f32⟩
  | .hbm, ⟨40, _⟩ => ⟨S24576, .f32⟩
  | .hbm, ⟨41, _⟩ => ⟨S_, .f32⟩
  | .hbm, ⟨42, _⟩ => ⟨S24576, .f32⟩
  | .hbm, ⟨43, _⟩ => ⟨S24576, .f32⟩
  | .hbm, ⟨44, _⟩ => ⟨S24576, .f32⟩
  | .hbm, ⟨45, _⟩ => ⟨S24576, .f32⟩
  | .hbm, ⟨46, _⟩ => ⟨S_, .f32⟩
  | .hbm, ⟨47, _⟩ => ⟨S24576, .f32⟩
  | .hbm, ⟨48, _⟩ => ⟨S24576, .f32⟩
  | .hbm, ⟨49, _⟩ => ⟨S_, .f32⟩
  | .hbm, ⟨50, _⟩ => ⟨S24576, .f32⟩
  | .hbm, ⟨51, _⟩ => ⟨S24576, .f32⟩
  | .hbm, ⟨52, _⟩ => ⟨S24576x1, .f32⟩
  | .hbm, ⟨53, _⟩ => ⟨S24576x448, .f32⟩
  | .hbm, ⟨54, _⟩ => ⟨S24576x448, .f32⟩
  | .hbm, ⟨55, _⟩ => ⟨S24576x448, .f32⟩
  | .hbm, ⟨56, _⟩ => ⟨S_, .f32⟩
  | .hbm, ⟨57, _⟩ => ⟨S24576, .f32⟩
  | .hbm, ⟨58, _⟩ => ⟨S_, .f32⟩
  | .hbm, ⟨59, _⟩ => ⟨S24576, .f32⟩
  | .hbm, ⟨60, _⟩ => ⟨S24576, .f32⟩
  | .hbm, ⟨61, _⟩ => ⟨S_, .f32⟩
  | .hbm, ⟨62, _⟩ => ⟨S24576, .f32⟩
  | .hbm, ⟨63, _⟩ => ⟨S24576, .f32⟩
  | .hbm, ⟨64, _⟩ => ⟨S_, .f32⟩
  | .hbm, ⟨65, _⟩ => ⟨S24576, .f32⟩
  | .hbm, ⟨66, _⟩ => ⟨S24576, .f32⟩
  | .hbm, ⟨67, _⟩ => ⟨S24576x1, .f32⟩
  | .hbm, ⟨68, _⟩ => ⟨S24576x448, .f32⟩
  | .hbm, ⟨69, _⟩ => ⟨S24576x448, .f32⟩
  | .hbm, ⟨70, _⟩ => ⟨S24576x1, .f32⟩
  | .hbm, ⟨71, _⟩ => ⟨S24576x448, .f32⟩
  | .hbm, ⟨72, _⟩ => ⟨S24576x448, .f32⟩
  | .hbm, ⟨73, _⟩ => ⟨S_, .i32⟩
  | .hbm, ⟨74, _⟩ => ⟨S24576x448, .i32⟩
  | .hbm, ⟨75, _⟩ => ⟨S24576x448, .i32⟩
  | .hbm, ⟨76, _⟩ => ⟨S24576x448, .f32⟩
  | .hbm, ⟨77, _⟩ => ⟨S_, .f32⟩
  | .hbm, ⟨78, _⟩ => ⟨S24576x448, .f32⟩
  | .hbm, ⟨79, _⟩ => ⟨S24576x448, .f32⟩
  | .hbm, ⟨80, _⟩ => ⟨S24576x448, .f32⟩
  | .hbm, ⟨81, _⟩ => ⟨S24576x448, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S24576x448, .f32⟩
  | .hbm, ⟨86, _⟩ => ⟨S24576x448, .f32⟩
  | .hbm, ⟨87, _⟩ => ⟨S_, .f32⟩
  | .hbm, ⟨88, _⟩ => ⟨S24576x448, .f32⟩
  | .hbm, ⟨89, _⟩ => ⟨S24576x448, .f32⟩
  | .hbm, ⟨90, _⟩ => ⟨S24576x448, .i32⟩
  | .hbm, ⟨91, _⟩ => ⟨S24576x448, .i8⟩
  | .hbm, ⟨92, _⟩ => ⟨S448x24576, .i8⟩
  | .hbm, ⟨93, _⟩ => ⟨S_, .f32⟩
  | .hbm, ⟨94, _⟩ => ⟨S24576, .f32⟩
  | .hbm, ⟨95, _⟩ => ⟨S24576, .f32⟩
  | .hbm, ⟨96, _⟩ => ⟨S1x24576, .f32⟩
  | .hbm, ⟨97, _⟩ => ⟨S1x24576, .f32⟩
  | .hbm, ⟨98, _⟩ => ⟨S1x24576, .f32⟩
  | _, _ => ⟨S384x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_cst_13 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Extract.lean ====
abbrev S24576 : Shape := ⟨1, ![24576]⟩
abbrev S850000x448 : Shape := ⟨2, ![850000, 448]⟩
abbrev S192x128 : Shape := ⟨2, ![192, 128]⟩
abbrev S448x850000 : Shape := ⟨2, ![448, 850000]⟩
abbrev S_ : Shape := ⟨0, ![]⟩
abbrev S192x1 : Shape := ⟨2, ![192, 1]⟩
abbrev S192 : Shape := ⟨1, ![192]⟩
abbrev S112x24576 : Shape := ⟨2, ![112, 24576]⟩
abbrev S448x8192 : Shape := ⟨2, ![448, 8192]⟩
abbrev S1 : Shape := ⟨1, ![1]⟩
abbrev S1x128 : Shape := ⟨2, ![1, 128]⟩
abbrev S8x128 : Shape := ⟨2, ![8, 128]⟩
abbrev S32x128 : Shape := ⟨2, ![32, 128]⟩
abbrev S8x128x1 : Shape := ⟨3, ![8, 128, 1]⟩

abbrev nBuf : Space → Nat
  | .hbm => 10
  | .vmem => 4
  | .smem => 3
  | _ => 0

abbrev bufTy : (tb : Table) → Fin (tcTables nBuf tb) → BufTy
  | .hbm, ⟨0, _⟩ => ⟨S24576, .i32⟩
  | .hbm, ⟨1, _⟩ => ⟨S850000x448, .i8⟩
  | .hbm, ⟨2, _⟩ => ⟨S192x128, .i32⟩
  | .hbm, ⟨3, _⟩ => ⟨S448x850000, .i8⟩
  | .hbm, ⟨4, _⟩ => ⟨S_, .i32⟩
  | .hbm, ⟨5, _⟩ => ⟨S192x128, .i32⟩
  | .hbm, ⟨6, _⟩ => ⟨S192x128, .i32⟩
  | .hbm, ⟨7, _⟩ => ⟨S192x1, .i32⟩
  | .hbm, ⟨8, _⟩ => ⟨S192x1, .i32⟩
  | .hbm, ⟨9, _⟩ => ⟨S112x24576, .i32⟩
  | .local _ .vmem, ⟨0, _⟩ => ⟨S192x128, .i32⟩
  | .local _ .vmem, ⟨1, _⟩ => ⟨S448x8192, .i8⟩
  | .local _ .vmem, ⟨2, _⟩ => ⟨S448x8192, .i8⟩
  | .local _ .vmem, ⟨3, _⟩ => ⟨S112x24576, .i32⟩
  | .local _ .smem, ⟨0, _⟩ => ⟨S192, .i32⟩
  | .local _ .smem, ⟨1, _⟩ => ⟨S192, .i32⟩
  | .local _ .smem, ⟨2, _⟩ => ⟨S1, .i32⟩
  | _, _ => ⟨S24576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_v8 : Ref sig .tc := ⟨.hbm, 9, rfl⟩
abbrev main_v5 : Ref sig .tc := ⟨.smem, 0, rfl⟩
abbrev main_v7 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![104], ![false]⟩

abbrev pre0 : Pipeline.Prefetch sig := ⟨2, ![main_v5.idx, main_v7.idx], fun | 0 => main_v5.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (arg7 : BitVec 32) : Fin 1 → Nat :=
  let c191_i32 : BitVec 32 := 191#32
  let v8 : BitVec 32 := Scalar.minsi arg7 c191_i32
  let v9 : Index := Scalar.indexCast v8
  ![v9.toNat]

def k0_chk1 (arg7 : BitVec 32) : Prop :=
  (∀ a, (k0_off1 arg7) a + S1.size a ≤ S192.size a)
theorem k0_off1_inb : ∀ (arg7 : BitVec 32) (k0_hw1 : k0_chk1 arg7), ∀ a, (k0_off1 arg7) a + S1.size a ≤ S192.size a := fun arg7 k0_hw1 => k0_hw1

def k0_off2 (arg7 : BitVec 32) : Fin 2 → Nat :=
  let v8 : Index := Scalar.indexCast arg7
  let c0_3 : Index := 0#32
  ![v8.toNat, 0]

def k0_off3 (arg7 : BitVec 32) : Fin 1 → Nat :=
  let v17 : Index := Scalar.indexCast arg7
  ![v17.toNat]
def k0_mult1 (arg7 : BitVec 32) : BitVec 32 :=
  let c128_i32 : BitVec 32 := 128#32
  let v24 : BitVec 32 := Scalar.muli arg7 c128_i32
  v24
def k0_off4 (arg7 : BitVec 32) : Fin 2 → Nat :=
  let c0_4 : Index := 0#32
  let c128_i32 : BitVec 32 := 128#32
  let v24 : BitVec 32 := Scalar.muli arg7 c128_i32
  let v25 : BitVec 32 := v24
  let v26 : Index := Scalar.indexCast v25
  ![0, v26.toNat]
def k0_off5 (arg7 : BitVec 32) : Fin 2 → Nat :=
  let c8 : Index := 8#32
  let c128_i32 : BitVec 32 := 128#32
  let v24 : BitVec 32 := Scalar.muli arg7 c128_i32
  let v25 : BitVec 32 := v24
  let v29 : Index := Scalar.indexCast v25
  ![8, v29.toNat]
def k0_off6 (arg7 : BitVec 32) : Fin 2 → Nat :=
  let c16 : Index := 16#32
  let c128_i32 : BitVec 32 := 128#32
  let v24 : BitVec 32 := Scalar.muli arg7 c128_i32
  let v25 : BitVec 32 := v24
  let v32 : Index := Scalar.indexCast v25
  ![16, v32.toNat]
def k0_off7 (arg7 : BitVec 32) : Fin 2 → Nat :=
  let c24 : Index := 24#32
  let c128_i32 : BitVec 32 := 128#32
  let v24 : BitVec 32 := Scalar.muli arg7 c128_i32
  let v25 : BitVec 32 := v24
  let v35 : Index := Scalar.indexCast v25
  ![24, v35.toNat]
def k0_off8 (arg7 : BitVec 32) : Fin 2 → Nat :=
  let c32 : Index := 32#32
  let c128_i32 : BitVec 32 := 128#32
  let v24 : BitVec 32 := Scalar.muli arg7 c128_i32
  let v25 : BitVec 32 := v24
  let v38 : Index := Scalar.indexCast v25
  ![32, v38.toNat]
def k0_off9 (arg7 : BitVec 32) : Fin 2 → Nat :=
  let c40 : Index := 40#32
  let c128_i32 : BitVec 32 := 128#32
  let v24 : BitVec 32 := Scalar.muli arg7 c128_i32
  let v25 : BitVec 32 := v24
  let v41 : Index := Scalar.indexCast v25
  ![40, v41.toNat]
def k0_off10 (arg7 : BitVec 32) : Fin 2 → Nat :=
  let c48 : Index := 48#32
  let c128_i32 : BitVec 32 := 128#32
  let v24 : BitVec 32 := Scalar.muli arg7 c128_i32
  let v25 : BitVec 32 := v24
  let v44 : Index := Scalar.indexCast v25
  ![48, v44.toNat]
def k0_off11 (arg7 : BitVec 32) : Fin 2 → Nat :=
  let c56 : Index := 56#32
  let c128_i32 : BitVec 32 := 128#32
  let v24 : BitVec 32 := Scalar.muli arg7 c128_i32
  let v25 : BitVec 32 := v24
  let v47 : Index := Scalar.indexCast v25
  ![56, v47.toNat]
def k0_off12 (arg7 : BitVec 32) : Fin 2 → Nat :=
  let c64 : Index := 64#32
  let c128_i32 : BitVec 32 := 128#32
  let v24 : BitVec 32 := Scalar.muli arg7 c128_i32
  let v25 : BitVec 32 := v24
  let v50 : Index := Scalar.indexCast v25
  ![64, v50.toNat]
def k0_off13 (arg7 : BitVec 32) : Fin 2 → Nat :=
  let c72 : Index := 72#32
  let c128_i32 : BitVec 32 := 128#32
  let v24 : BitVec 32 := Scalar.muli arg7 c128_i32
  let v25 : BitVec 32 := v24
  let v53 : Index := Scalar.indexCast v25
  ![72, v53.toNat]
def k0_off14 (arg7 : BitVec 32) : Fin 2 → Nat :=
  let c80 : Index := 80#32
  let c128_i32 : BitVec 32 := 128#32
  let v24 : BitVec 32 := Scalar.muli arg7 c128_i32
  let v25 : BitVec 32 := v24
  let v56 : Index := Scalar.indexCast v25
  ![80, v56.toNat]
def k0_off15 (arg7 : BitVec 32) : Fin 2 → Nat :=
  let c88 : Index := 88#32
  let c128_i32 : BitVec 32 := 128#32
  let v24 : BitVec 32 := Scalar.muli arg7 c128_i32
  let v25 : BitVec 32 := v24
  let v59 : Index := Scalar.indexCast v25
  ![88, v59.toNat]
def k0_off16 (arg7 : BitVec 32) : Fin 2 → Nat :=
  let c96 : Index := 96#32
  let c128_i32 : BitVec 32 := 128#32
  let v24 : BitVec 32 := Scalar.muli arg7 c128_i32
  let v25 : BitVec 32 := v24
  let v62 : Index := Scalar.indexCast v25
  ![96, v62.toNat]
def k0_off17 (arg7 : BitVec 32) : Fin 2 → Nat :=
  let c104 : Index := 104#32
  let c128_i32 : BitVec 32 := 128#32
  let v24 : BitVec 32 := Scalar.muli arg7 c128_i32
  let v25 : BitVec 32 := v24
  let v65 : Index := Scalar.indexCast v25
  ![104, v65.toNat]
@[reducible] def k0_t1_loop (i : grid0.Coords) (v18 : BitVec 32) (v21 : BitVec 32) : Scf.Loop 32 :=
  let c0_i32_13 : BitVec 32 := 0#32
  let c1_i32 : BitVec 32 := 1#32
  let v22 : BitVec 32 := Scalar.addi v21 c1_i32
  let arg0 : BitVec 32 := BitVec.ofNat 32 (i 0).val
  let c64_i32 : BitVec 32 := 64#32
  let v3 : BitVec 32 := Scalar.muli arg0 c64_i32
  let c64_i32_1 : BitVec 32 := 64#32
  let v4 : BitVec 32 := Scalar.addi v3 c64_i32_1
  let v23 : BitVec 32 := Scalar.minsi v22 v4
  let v19 : BitVec 32 := Scalar.maxsi v18 v3
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_15 : BitVec 32 := 1#32
  ⟨c0_i32_13, v92, c1_i32_15⟩

def k0_mult2 (i : grid0.Coords) (v18 : BitVec 32) (v21 : BitVec 32) (k0_t1 : Fin (k0_t1_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let c0_i32_33 : BitVec 32 := 0#32
  let v132 : BitVec 32 := Scalar.addi v131 c0_i32_33
  let v133 : BitVec 32 := Scalar.subi v132 v3
  let c128_i32_34 : BitVec 32 := 128#32
  let v134 : BitVec 32 := Scalar.muli v133 c128_i32_34
  v134
def k0_off18 (i : grid0.Coords) (v18 : BitVec 32) (v21 : BitVec 32) (k0_t1 : Fin (k0_t1_loop i v18 v21).trips) (c0_i32_33 : BitVec 32) : Fin 2 → Nat :=
  let c0_35 : Index := 0#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v138 : Index := Scalar.indexCast v135
  ![0, v138.toNat]
def k0_off19 (i : grid0.Coords) (v18 : BitVec 32) (v21 : BitVec 32) (k0_t1 : Fin (k0_t1_loop i v18 v21).trips) (c0_i32_33 : BitVec 32) : Fin 2 → Nat :=
  let c32_38 : Index := 32#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v151 : Index := Scalar.indexCast v135
  ![32, v151.toNat]
def k0_off20 (i : grid0.Coords) (v18 : BitVec 32) (v21 : BitVec 32) (k0_t1 : Fin (k0_t1_loop i v18 v21).trips) (c0_i32_33 : BitVec 32) : Fin 2 → Nat :=
  let c64_41 : Index := 64#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v164 : Index := Scalar.indexCast v135
  ![64, v164.toNat]
def k0_off21 (i : grid0.Coords) (v18 : BitVec 32) (v21 : BitVec 32) (k0_t1 : Fin (k0_t1_loop i v18 v21).trips) (c0_i32_33 : BitVec 32) : Fin 2 → Nat :=
  let c96_44 : Index := 96#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v177 : Index := Scalar.indexCast v135
  ![96, v177.toNat]
def k0_off22 (i : grid0.Coords) (v18 : BitVec 32) (v21 : BitVec 32) (k0_t1 : Fin (k0_t1_loop i v18 v21).trips) (c0_i32_33 : BitVec 32) : Fin 2 → Nat :=
  let c128 : Index := 128#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v190 : Index := Scalar.indexCast v135
  ![128, v190.toNat]
def k0_off23 (i : grid0.Coords) (v18 : BitVec 32) (v21 : BitVec 32) (k0_t1 : Fin (k0_t1_loop i v18 v21).trips) (c0_i32_33 : BitVec 32) : Fin 2 → Nat :=
  let c160 : Index := 160#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v203 : Index := Scalar.indexCast v135
  ![160, v203.toNat]
def k0_off24 (i : grid0.Coords) (v18 : BitVec 32) (v21 : BitVec 32) (k0_t1 : Fin (k0_t1_loop i v18 v21).trips) (c0_i32_33 : BitVec 32) : Fin 2 → Nat :=
  let c192 : Index := 192#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v216 : Index := Scalar.indexCast v135
  ![192, v216.toNat]
def k0_off25 (i : grid0.Coords) (v18 : BitVec 32) (v21 : BitVec 32) (k0_t1 : Fin (k0_t1_loop i v18 v21).trips) (c0_i32_33 : BitVec 32) : Fin 2 → Nat :=
  let c224 : Index := 224#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v229 : Index := Scalar.indexCast v135
  ![224, v229.toNat]
def k0_off26 (i : grid0.Coords) (v18 : BitVec 32) (v21 : BitVec 32) (k0_t1 : Fin (k0_t1_loop i v18 v21).trips) (c0_i32_33 : BitVec 32) : Fin 2 → Nat :=
  let c256 : Index := 256#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v242 : Index := Scalar.indexCast v135
  ![256, v242.toNat]
def k0_off27 (i : grid0.Coords) (v18 : BitVec 32) (v21 : BitVec 32) (k0_t1 : Fin (k0_t1_loop i v18 v21).trips) (c0_i32_33 : BitVec 32) : Fin 2 → Nat :=
  let c288 : Index := 288#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v255 : Index := Scalar.indexCast v135
  ![288, v255.toNat]
def k0_off28 (i : grid0.Coords) (v18 : BitVec 32) (v21 : BitVec 32) (k0_t1 : Fin (k0_t1_loop i v18 v21).trips) (c0_i32_33 : BitVec 32) : Fin 2 → Nat :=
  let c320 : Index := 320#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v268 : Index := Scalar.indexCast v135
  ![320, v268.toNat]
def k0_off29 (i : grid0.Coords) (v18 : BitVec 32) (v21 : BitVec 32) (k0_t1 : Fin (k0_t1_loop i v18 v21).trips) (c0_i32_33 : BitVec 32) : Fin 2 → Nat :=
  let c352 : Index := 352#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v281 : Index := Scalar.indexCast v135
  ![352, v281.toNat]
def k0_off30 (i : grid0.Coords) (v18 : BitVec 32) (v21 : BitVec 32) (k0_t1 : Fin (k0_t1_loop i v18 v21).trips) (c0_i32_33 : BitVec 32) : Fin 2 → Nat :=
  let c384 : Index := 384#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v294 : Index := Scalar.indexCast v135
  ![384, v294.toNat]
def k0_off31 (i : grid0.Coords) (v18 : BitVec 32) (v21 : BitVec 32) (k0_t1 : Fin (k0_t1_loop i v18 v21).trips) (c0_i32_33 : BitVec 32) : Fin 2 → Nat :=
  let c416 : Index := 416#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v307 : Index := Scalar.indexCast v135
  ![416, v307.toNat]
def k0_mult3 (i : grid0.Coords) (v18 : BitVec 32) (v21 : BitVec 32) (k0_t1 : Fin (k0_t1_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let c1_i32_67 : BitVec 32 := 1#32
  let v320 : BitVec 32 := Scalar.addi v131 c1_i32_67
  let v321 : BitVec 32 := Scalar.subi v320 v3
  let c128_i32_68 : BitVec 32 := 128#32
  let v322 : BitVec 32 := Scalar.muli v321 c128_i32_68
  v322
def k0_mult4 (i : grid0.Coords) (v18 : BitVec 32) (v21 : BitVec 32) (k0_t1 : Fin (k0_t1_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let c2_i32 : BitVec 32 := 2#32
  let v508 : BitVec 32 := Scalar.addi v131 c2_i32
  let v509 : BitVec 32 := Scalar.subi v508 v3
  let c128_i32_111 : BitVec 32 := 128#32
  let v510 : BitVec 32 := Scalar.muli v509 c128_i32_111
  v510
def k0_mult5 (i : grid0.Coords) (v18 : BitVec 32) (v21 : BitVec 32) (k0_t1 : Fin (k0_t1_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let c3_i32 : BitVec 32 := 3#32
  let v696 : BitVec 32 := Scalar.addi v131 c3_i32
  let v697 : BitVec 32 := Scalar.subi v696 v3
  let c128_i32_154 : BitVec 32 := 128#32
  let v698 : BitVec 32 := Scalar.muli v697 c128_i32_154
  v698
def k0_mult6 (i : grid0.Coords) (v18 : BitVec 32) (v21 : BitVec 32) (k0_t1 : Fin (k0_t1_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let c4_i32 : BitVec 32 := 4#32
  let v884 : BitVec 32 := Scalar.addi v131 c4_i32
  let v885 : BitVec 32 := Scalar.subi v884 v3
  let c128_i32_197 : BitVec 32 := 128#32
  let v886 : BitVec 32 := Scalar.muli v885 c128_i32_197
  v886
def k0_mult7 (i : grid0.Coords) (v18 : BitVec 32) (v21 : BitVec 32) (k0_t1 : Fin (k0_t1_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let c5_i32 : BitVec 32 := 5#32
  let v1072 : BitVec 32 := Scalar.addi v131 c5_i32
  let v1073 : BitVec 32 := Scalar.subi v1072 v3
  let c128_i32_240 : BitVec 32 := 128#32
  let v1074 : BitVec 32 := Scalar.muli v1073 c128_i32_240
  v1074
def k0_mult8 (i : grid0.Coords) (v18 : BitVec 32) (v21 : BitVec 32) (k0_t1 : Fin (k0_t1_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let c6_i32 : BitVec 32 := 6#32
  let v1260 : BitVec 32 := Scalar.addi v131 c6_i32
  let v1261 : BitVec 32 := Scalar.subi v1260 v3
  let c128_i32_283 : BitVec 32 := 128#32
  let v1262 : BitVec 32 := Scalar.muli v1261 c128_i32_283
  v1262
def k0_mult9 (i : grid0.Coords) (v18 : BitVec 32) (v21 : BitVec 32) (k0_t1 : Fin (k0_t1_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32_15 : BitVec 32 := 1#32
  let arg9 : BitVec 32 := Scf.iv c0_i32_13 c1_i32_15 k0_t1
  let c8_i32_31 : BitVec 32 := 8#32
  let v128 : BitVec 32 := Scalar.muli arg9 c8_i32_31
  let v129 : BitVec 32 := Scalar.addi v19 v128
  let c64_i32_1 : BitVec 32 := 64#32
  let v4 : BitVec 32 := Scalar.addi v3 c64_i32_1
  let c8_i32_32 : BitVec 32 := 8#32
  let v130 : BitVec 32 := Scalar.subi v4 c8_i32_32
  let v131 : BitVec 32 := Scalar.minsi v129 v130
  let c7_i32_326 : BitVec 32 := 7#32
  let v1448 : BitVec 32 := Scalar.addi v131 c7_i32_326
  let v1449 : BitVec 32 := Scalar.subi v1448 v3
  let c128_i32_327 : BitVec 32 := 128#32
  let v1450 : BitVec 32 := Scalar.muli v1449 c128_i32_327
  v1450
@[reducible] def k0_t2_loop (i : grid0.Coords) (v18 : BitVec 32) (v21 : BitVec 32) : Scf.Loop 32 :=
  let c0_i32_13 : BitVec 32 := 0#32
  let c1_i32 : BitVec 32 := 1#32
  let v22 : BitVec 32 := Scalar.addi v21 c1_i32
  let arg0 : BitVec 32 := BitVec.ofNat 32 (i 0).val
  let c64_i32 : BitVec 32 := 64#32
  let v3 : BitVec 32 := Scalar.muli arg0 c64_i32
  let c64_i32_1 : BitVec 32 := 64#32
  let v4 : BitVec 32 := Scalar.addi v3 c64_i32_1
  let v23 : BitVec 32 := Scalar.minsi v22 v4
  let v19 : BitVec 32 := Scalar.maxsi v18 v3
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let v89 : BitVec 32 := Scalar.addi c0_i32_13 v88
  let c1_i32_16 : BitVec 32 := 1#32
  ⟨v92, v89, c1_i32_16⟩
def k0_mult10 (i : grid0.Coords) (v18 : BitVec 32) (v21 : BitVec 32) (k0_t2 : Fin (k0_t2_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let c0_i32_33 : BitVec 32 := 0#32
  let v132 : BitVec 32 := Scalar.addi v131 c0_i32_33
  let v133 : BitVec 32 := Scalar.subi v132 v3
  let c128_i32_34 : BitVec 32 := 128#32
  let v134 : BitVec 32 := Scalar.muli v133 c128_i32_34
  v134
def k0_off32 (i : grid0.Coords) (v18 : BitVec 32) (v21 : BitVec 32) (k0_t2 : Fin (k0_t2_loop i v18 v21).trips) (c0_i32_33 : BitVec 32) : Fin 2 → Nat :=
  let c0_35 : Index := 0#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v138 : Index := Scalar.indexCast v135
  ![0, v138.toNat]
def k0_off33 (i : grid0.Coords) (v18 : BitVec 32) (v21 : BitVec 32) (k0_t2 : Fin (k0_t2_loop i v18 v21).trips) (c0_i32_33 : BitVec 32) : Fin 2 → Nat :=
  let c32_38 : Index := 32#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v151 : Index := Scalar.indexCast v135
  ![32, v151.toNat]
def k0_off34 (i : grid0.Coords) (v18 : BitVec 32) (v21 : BitVec 32) (k0_t2 : Fin (k0_t2_loop i v18 v21).trips) (c0_i32_33 : BitVec 32) : Fin 2 → Nat :=
  let c64_41 : Index := 64#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v164 : Index := Scalar.indexCast v135
  ![64, v164.toNat]
def k0_off35 (i : grid0.Coords) (v18 : BitVec 32) (v21 : BitVec 32) (k0_t2 : Fin (k0_t2_loop i v18 v21).trips) (c0_i32_33 : BitVec 32) : Fin 2 → Nat :=
  let c96_44 : Index := 96#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v177 : Index := Scalar.indexCast v135
  ![96, v177.toNat]
def k0_off36 (i : grid0.Coords) (v18 : BitVec 32) (v21 : BitVec 32) (k0_t2 : Fin (k0_t2_loop i v18 v21).trips) (c0_i32_33 : BitVec 32) : Fin 2 → Nat :=
  let c128 : Index := 128#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v190 : Index := Scalar.indexCast v135
  ![128, v190.toNat]
def k0_off37 (i : grid0.Coords) (v18 : BitVec 32) (v21 : BitVec 32) (k0_t2 : Fin (k0_t2_loop i v18 v21).trips) (c0_i32_33 : BitVec 32) : Fin 2 → Nat :=
  let c160 : Index := 160#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v203 : Index := Scalar.indexCast v135
  ![160, v203.toNat]
def k0_off38 (i : grid0.Coords) (v18 : BitVec 32) (v21 : BitVec 32) (k0_t2 : Fin (k0_t2_loop i v18 v21).trips) (c0_i32_33 : BitVec 32) : Fin 2 → Nat :=
  let c192 : Index := 192#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v216 : Index := Scalar.indexCast v135
  ![192, v216.toNat]
def k0_off39 (i : grid0.Coords) (v18 : BitVec 32) (v21 : BitVec 32) (k0_t2 : Fin (k0_t2_loop i v18 v21).trips) (c0_i32_33 : BitVec 32) : Fin 2 → Nat :=
  let c224 : Index := 224#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v229 : Index := Scalar.indexCast v135
  ![224, v229.toNat]
def k0_off40 (i : grid0.Coords) (v18 : BitVec 32) (v21 : BitVec 32) (k0_t2 : Fin (k0_t2_loop i v18 v21).trips) (c0_i32_33 : BitVec 32) : Fin 2 → Nat :=
  let c256 : Index := 256#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v242 : Index := Scalar.indexCast v135
  ![256, v242.toNat]
def k0_off41 (i : grid0.Coords) (v18 : BitVec 32) (v21 : BitVec 32) (k0_t2 : Fin (k0_t2_loop i v18 v21).trips) (c0_i32_33 : BitVec 32) : Fin 2 → Nat :=
  let c288 : Index := 288#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v255 : Index := Scalar.indexCast v135
  ![288, v255.toNat]
def k0_off42 (i : grid0.Coords) (v18 : BitVec 32) (v21 : BitVec 32) (k0_t2 : Fin (k0_t2_loop i v18 v21).trips) (c0_i32_33 : BitVec 32) : Fin 2 → Nat :=
  let c320 : Index := 320#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v268 : Index := Scalar.indexCast v135
  ![320, v268.toNat]
def k0_off43 (i : grid0.Coords) (v18 : BitVec 32) (v21 : BitVec 32) (k0_t2 : Fin (k0_t2_loop i v18 v21).trips) (c0_i32_33 : BitVec 32) : Fin 2 → Nat :=
  let c352 : Index := 352#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v281 : Index := Scalar.indexCast v135
  ![352, v281.toNat]
def k0_off44 (i : grid0.Coords) (v18 : BitVec 32) (v21 : BitVec 32) (k0_t2 : Fin (k0_t2_loop i v18 v21).trips) (c0_i32_33 : BitVec 32) : Fin 2 → Nat :=
  let c384 : Index := 384#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v294 : Index := Scalar.indexCast v135
  ![384, v294.toNat]
def k0_off45 (i : grid0.Coords) (v18 : BitVec 32) (v21 : BitVec 32) (k0_t2 : Fin (k0_t2_loop i v18 v21).trips) (c0_i32_33 : BitVec 32) : Fin 2 → Nat :=
  let c416 : Index := 416#32
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let v132 : BitVec 32 := Scalar.addi v131 c0_i32_33
  let v133 : BitVec 32 := Scalar.subi v132 v3
  let c128_i32_34 : BitVec 32 := 128#32
  let v134 : BitVec 32 := Scalar.muli v133 c128_i32_34
  let v135 : BitVec 32 := v134
  let v307 : Index := Scalar.indexCast v135
  ![416, v307.toNat]
def k0_mult11 (i : grid0.Coords) (v18 : BitVec 32) (v21 : BitVec 32) (k0_t2 : Fin (k0_t2_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let c1_i32_67 : BitVec 32 := 1#32
  let v320 : BitVec 32 := Scalar.addi v131 c1_i32_67
  let v321 : BitVec 32 := Scalar.subi v320 v3
  let c128_i32_68 : BitVec 32 := 128#32
  let v322 : BitVec 32 := Scalar.muli v321 c128_i32_68
  v322
def k0_mult12 (i : grid0.Coords) (v18 : BitVec 32) (v21 : BitVec 32) (k0_t2 : Fin (k0_t2_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let c2_i32 : BitVec 32 := 2#32
  let v508 : BitVec 32 := Scalar.addi v131 c2_i32
  let v509 : BitVec 32 := Scalar.subi v508 v3
  let c128_i32_111 : BitVec 32 := 128#32
  let v510 : BitVec 32 := Scalar.muli v509 c128_i32_111
  v510
def k0_mult13 (i : grid0.Coords) (v18 : BitVec 32) (v21 : BitVec 32) (k0_t2 : Fin (k0_t2_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let c3_i32 : BitVec 32 := 3#32
  let v696 : BitVec 32 := Scalar.addi v131 c3_i32
  let v697 : BitVec 32 := Scalar.subi v696 v3
  let c128_i32_154 : BitVec 32 := 128#32
  let v698 : BitVec 32 := Scalar.muli v697 c128_i32_154
  v698
def k0_mult14 (i : grid0.Coords) (v18 : BitVec 32) (v21 : BitVec 32) (k0_t2 : Fin (k0_t2_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let c4_i32 : BitVec 32 := 4#32
  let v884 : BitVec 32 := Scalar.addi v131 c4_i32
  let v885 : BitVec 32 := Scalar.subi v884 v3
  let c128_i32_197 : BitVec 32 := 128#32
  let v886 : BitVec 32 := Scalar.muli v885 c128_i32_197
  v886
def k0_mult15 (i : grid0.Coords) (v18 : BitVec 32) (v21 : BitVec 32) (k0_t2 : Fin (k0_t2_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let c5_i32 : BitVec 32 := 5#32
  let v1072 : BitVec 32 := Scalar.addi v131 c5_i32
  let v1073 : BitVec 32 := Scalar.subi v1072 v3
  let c128_i32_240 : BitVec 32 := 128#32
  let v1074 : BitVec 32 := Scalar.muli v1073 c128_i32_240
  v1074
def k0_mult16 (i : grid0.Coords) (v18 : BitVec 32) (v21 : BitVec 32) (k0_t2 : Fin (k0_t2_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let c6_i32 : BitVec 32 := 6#32
  let v1260 : BitVec 32 := Scalar.addi v131 c6_i32
  let v1261 : BitVec 32 := Scalar.subi v1260 v3
  let c128_i32_283 : BitVec 32 := 128#32
  let v1262 : BitVec 32 := Scalar.muli v1261 c128_i32_283
  v1262
def k0_mult17 (i : grid0.Coords) (v18 : BitVec 32) (v21 : BitVec 32) (k0_t2 : Fin (k0_t2_loop i v18 v21).trips) : BitVec 32 :=
  let arg0 : BitVec 32 := BitVec.ofNat 32 (i 0).val
  let c64_i32 : BitVec 32 := 64#32
  let v3 : BitVec 32 := Scalar.muli arg0 c64_i32
  let v19 : BitVec 32 := Scalar.maxsi v18 v3
  let c0_i32_13 : BitVec 32 := 0#32
  let c1_i32 : BitVec 32 := 1#32
  let v22 : BitVec 32 := Scalar.addi v21 c1_i32
  let c64_i32_1 : BitVec 32 := 64#32
  let v4 : BitVec 32 := Scalar.addi v3 c64_i32_1
  let v23 : BitVec 32 := Scalar.minsi v22 v4
  let v68 : BitVec 32 := Scalar.subi v23 v19
  let c8_i32 : BitVec 32 := 8#32
  let v69 : BitVec 32 := Scalar.addi v68 c8_i32
  let c1_i32_5 : BitVec 32 := 1#32
  let v70 : BitVec 32 := Scalar.subi v69 c1_i32_5
  let c0_i32_7 : BitVec 32 := 0#32
  let v72 : BitVec 1 := Scalar.cmpi .sgt v70 c0_i32_7
  let v73 : BitVec 32 := Scalar.extui v72
  let c0_i32_8 : BitVec 32 := 0#32
  let v74 : BitVec 1 := Scalar.cmpi .slt v70 c0_i32_8
  let v75 : BitVec 32 := Scalar.extui v74
  let v76 : BitVec 32 := Scalar.subi v73 v75
  let c8_i32_6 : BitVec 32 := 8#32
  let c0_i32_9 : BitVec 32 := 0#32
  let v77 : BitVec 1 := Scalar.cmpi .sgt c8_i32_6 c0_i32_9
  let v78 : BitVec 32 := Scalar.extui v77
  let c0_i32_10 : BitVec 32 := 0#32
  let v79 : BitVec 1 := Scalar.cmpi .slt c8_i32_6 c0_i32_10
  let v80 : BitVec 32 := Scalar.extui v79
  let v81 : BitVec 32 := Scalar.subi v78 v80
  let v82 : BitVec 1 := Scalar.cmpi .ne v76 v81
  let v83 : BitVec 32 := Scalar.remsi v70 c8_i32_6
  let c0_i32_11 : BitVec 32 := 0#32
  let v84 : BitVec 1 := Scalar.cmpi .ne v83 c0_i32_11
  let v85 : BitVec 1 := Scalar.andi v82 v84
  let v71 : BitVec 32 := Scalar.divsi v70 c8_i32_6
  let c1_i32_12 : BitVec 32 := 1#32
  let v86 : BitVec 32 := Scalar.subi v71 c1_i32_12
  let v87 : BitVec 32 := Scalar.select v85 v86 v71
  let v88 : BitVec 32 := Scalar.subi v87 c0_i32_13
  let c1_i32_14 : BitVec 32 := 1#32
  let v90 : BitVec 32 := Scalar.divsi v88 c1_i32_14
  let v91 : BitVec 32 := Scalar.muli v90 c1_i32_14
  let v92 : BitVec 32 := Scalar.addi c0_i32_13 v91
  let c1_i32_16 : BitVec 32 := 1#32
  let arg9 : BitVec 32 := Scf.iv v92 c1_i32_16 k0_t2
  let c8_i32_31 : BitVec 32 := 8#32
  let v128 : BitVec 32 := Scalar.muli arg9 c8_i32_31
  let v129 : BitVec 32 := Scalar.addi v19 v128
  let c8_i32_32 : BitVec 32 := 8#32
  let v130 : BitVec 32 := Scalar.subi v4 c8_i32_32
  let v131 : BitVec 32 := Scalar.minsi v129 v130
  let c7_i32_326 : BitVec 32 := 7#32
  let v1448 : BitVec 32 := Scalar.addi v131 c7_i32_326
  let v1449 : BitVec 32 := Scalar.subi v1448 v3
  let c128_i32_327 : BitVec 32 := 128#32
  let v1450 : BitVec 32 := Scalar.muli v1449 c128_i32_327
  v1450

def k0_chk3_0 (i : grid0.Coords) (v18 : BitVec 32) (v21 : BitVec 32) : Prop :=
  ((k0_t1_loop i v18 v21).OK) ∧
  (∀ k0_t1 : Fin (k0_t1_loop i v18 v21).trips, 128 ∣ (k0_mult2 i v18 v21 k0_t1).toNat) ∧
  (∀ k0_t1 : Fin (k0_t1_loop i v18 v21).trips, ∀ (r : Fin 8), ∀ a, (k0_off18 i v18 v21 k0_t1 (BitVec.ofNat 32 r.val)) a + S32x128.size a ≤ S448x8192.size a) ∧
  (∀ k0_t1 : Fin (k0_t1_loop i v18 v21).trips, ∀ (r : Fin 8), ∀ a, (k0_off19 i v18 v21 k0_t1 (BitVec.ofNat 32 r.val)) a + S32x128.size a ≤ S448x8192.size a) ∧
  (∀ k0_t1 : Fin (k0_t1_loop i v18 v21).trips, ∀ (r : Fin 8), ∀ a, (k0_off20 i v18 v21 k0_t1 (BitVec.ofNat 32 r.val)) a + S32x128.size a ≤ S448x8192.size a) ∧
  (∀ k0_t1 : Fin (k0_t1_loop i v18 v21).trips, ∀ (r : Fin 8), ∀ a, (k0_off21 i v18 v21 k0_t1 (BitVec.ofNat 32 r.val)) a + S32x128.size a ≤ S448x8192.size a) ∧
  (∀ k0_t1 : Fin (k0_t1_loop i v18 v21).trips, ∀ (r : Fin 8), ∀ a, (k0_off22 i v18 v21 k0_t1 (BitVec.ofNat 32 r.val)) a + S32x128.size a ≤ S448x8192.size a) ∧
  (∀ k0_t1 : Fin (k0_t1_loop i v18 v21).trips, ∀ (r : Fin 8), ∀ a, (k0_off23 i v18 v21 k0_t1 (BitVec.ofNat 32 r.val)) a + S32x128.size a ≤ S448x8192.size a) ∧
  (∀ k0_t1 : Fin (k0_t1_loop i v18 v21).trips, ∀ (r : Fin 8), ∀ a, (k0_off24 i v18 v21 k0_t1 (BitVec.ofNat 32 r.val)) a + S32x128.size a ≤ S448x8192.size a) ∧
  (∀ k0_t1 : Fin (k0_t1_loop i v18 v21).trips, ∀ (r : Fin 8), ∀ a, (k0_off25 i v18 v21 k0_t1 (BitVec.ofNat 32 r.val)) a + S32x128.size a ≤ S448x8192.size a) ∧
  (∀ k0_t1 : Fin (k0_t1_loop i v18 v21).trips, ∀ (r : Fin 8), ∀ a, (k0_off26 i v18 v21 k0_t1 (BitVec.ofNat 32 r.val)) a + S32x128.size a ≤ S448x8192.size a) ∧
  (∀ k0_t1 : Fin (k0_t1_loop i v18 v21).trips, ∀ (r : Fin 8), ∀ a, (k0_off27 i v18 v21 k0_t1 (BitVec.ofNat 32 r.val)) a + S32x128.size a ≤ S448x8192.size a) ∧
  (∀ k0_t1 : Fin (k0_t1_loop i v18 v21).trips, ∀ (r : Fin 8), ∀ a, (k0_off28 i v18 v21 k0_t1 (BitVec.ofNat 32 r.val)) a + S32x128.size a ≤ S448x8192.size a) ∧
  (∀ k0_t1 : Fin (k0_t1_loop i v18 v21).trips, ∀ (r : Fin 8), ∀ a, (k0_off29 i v18 v21 k0_t1 (BitVec.ofNat 32 r.val)) a + S32x128.size a ≤ S448x8192.size a) ∧
  (∀ k0_t1 : Fin (k0_t1_loop i v18 v21).trips, ∀ (r : Fin 8), ∀ a, (k0_off30 i v18 v21 k0_t1 (BitVec.ofNat 32 r.val)) a + S32x128.size a ≤ S448x8192.size a) ∧
  (∀ k0_t1 : Fin (k0_t1_loop i v18 v21).trips, ∀ (r : Fin 8), ∀ a, (k0_off31 i v18 v21 k0_t1 (BitVec.ofNat 32 r.val)) a + S32x128.size a ≤ S448x8192.size a) ∧
  (∀ k0_t1 : Fin (k0_t1_loop i v18 v21).trips, 128 ∣ (k0_mult3 i v18 v21 k0_t1).toNat) ∧
  (∀ k0_t1 : Fin (k0_t1_loop i v18 v21).trips, 128 ∣ (k0_mult4 i v18 v21 k0_t1).toNat) ∧
  (∀ k0_t1 : Fin (k0_t1_loop i v18 v21).trips, 128 ∣ (k0_mult5 i v18 v21 k0_t1).toNat) ∧
  (∀ k0_t1 : Fin (k0_t1_loop i v18 v21).trips, 128 ∣ (k0_mult6 i v18 v21 k0_t1).toNat) ∧
  (∀ k0_t1 : Fin (k0_t1_loop i v18 v21).trips, 128 ∣ (k0_mult7 i v18 v21 k0_t1).toNat) ∧
  (∀ k0_t1 : Fin (k0_t1_loop i v18 v21).trips, 128 ∣ (k0_mult8 i v18 v21 k0_t1).toNat) ∧
  (∀ k0_t1 : Fin (k0_t1_loop i v18 v21).trips, 128 ∣ (k0_mult9 i v18 v21 k0_t1).toNat) ∧
  ((k0_t2_loop i v18 v21).OK) ∧
  (∀ k0_t2 : Fin (k0_t2_loop i v18 v21).trips, 128 ∣ (k0_mult10 i v18 v21 k0_t2).toNat) ∧
  (∀ k0_t2 : Fin (k0_t2_loop i v18 v21).trips, ∀ (r : Fin 8), ∀ a, (k0_off32 i v18 v21 k0_t2 (BitVec.ofNat 32 r.val)) a + S32x128.size a ≤ S448x8192.size a) ∧
  (∀ k0_t2 : Fin (k0_t2_loop i v18 v21).trips, ∀ (r : Fin 8), ∀ a, (k0_off33 i v18 v21 k0_t2 (BitVec.ofNat 32 r.val)) a + S32x128.size a ≤ S448x8192.size a) ∧
  (∀ k0_t2 : Fin (k0_t2_loop i v18 v21).trips, ∀ (r : Fin 8), ∀ a, (k0_off34 i v18 v21 k0_t2 (BitVec.ofNat 32 r.val)) a + S32x128.size a ≤ S448x8192.size a) ∧
  (∀ k0_t2 : Fin (k0_t2_loop i v18 v21).trips, ∀ (r : Fin 8), ∀ a, (k0_off35 i v18 v21 k0_t2 (BitVec.ofNat 32 r.val)) a + S32x128.size a ≤ S448x8192.size a) ∧
  (∀ k0_t2 : Fin (k0_t2_loop i v18 v21).trips, ∀ (r : Fin 8), ∀ a, (k0_off36 i v18 v21 k0_t2 (BitVec.ofNat 32 r.val)) a + S32x128.size a ≤ S448x8192.size a) ∧
  (∀ k0_t2 : Fin (k0_t2_loop i v18 v21).trips, ∀ (r : Fin 8), ∀ a, (k0_off37 i v18 v21 k0_t2 (BitVec.ofNat 32 r.val)) a + S32x128.size a ≤ S448x8192.size a) ∧
  (∀ k0_t2 : Fin (k0_t2_loop i v18 v21).trips, ∀ (r : Fin 8), ∀ a, (k0_off38 i v18 v21 k0_t2 (BitVec.ofNat 32 r.val)) a + S32x128.size a ≤ S448x8192.size a)
def k0_chk3_1 (i : grid0.Coords) (v18 : BitVec 32) (v21 : BitVec 32) : Prop :=
  (∀ k0_t2 : Fin (k0_t2_loop i v18 v21).trips, ∀ (r : Fin 8), ∀ a, (k0_off39 i v18 v21 k0_t2 (BitVec.ofNat 32 r.val)) a + S32x128.size a ≤ S448x8192.size a) ∧
  (∀ k0_t2 : Fin (k0_t2_loop i v18 v21).trips, ∀ (r : Fin 8), ∀ a, (k0_off40 i v18 v21 k0_t2 (BitVec.ofNat 32 r.val)) a + S32x128.size a ≤ S448x8192.size a) ∧
  (∀ k0_t2 : Fin (k0_t2_loop i v18 v21).trips, ∀ (r : Fin 8), ∀ a, (k0_off41 i v18 v21 k0_t2 (BitVec.ofNat 32 r.val)) a + S32x128.size a ≤ S448x8192.size a) ∧
  (∀ k0_t2 : Fin (k0_t2_loop i v18 v21).trips, ∀ (r : Fin 8), ∀ a, (k0_off42 i v18 v21 k0_t2 (BitVec.ofNat 32 r.val)) a + S32x128.size a ≤ S448x8192.size a) ∧
  (∀ k0_t2 : Fin (k0_t2_loop i v18 v21).trips, ∀ (r : Fin 8), ∀ a, (k0_off43 i v18 v21 k0_t2 (BitVec.ofNat 32 r.val)) a + S32x128.size a ≤ S448x8192.size a) ∧
  (∀ k0_t2 : Fin (k0_t2_loop i v18 v21).trips, ∀ (r : Fin 8), ∀ a, (k0_off44 i v18 v21 k0_t2 (BitVec.ofNat 32 r.val)) a + S32x128.size a ≤ S448x8192.size a) ∧
  (∀ k0_t2 : Fin (k0_t2_loop i v18 v21).trips, ∀ (r : Fin 8), ∀ a, (k0_off45 i v18 v21 k0_t2 (BitVec.ofNat 32 r.val)) a + S32x128.size a ≤ S448x8192.size a) ∧
  (∀ k0_t2 : Fin (k0_t2_loop i v18 v21).trips, 128 ∣ (k0_mult11 i v18 v21 k0_t2).toNat) ∧
  (∀ k0_t2 : Fin (k0_t2_loop i v18 v21).trips, 128 ∣ (k0_mult12 i v18 v21 k0_t2).toNat) ∧
  (∀ k0_t2 : Fin (k0_t2_loop i v18 v21).trips, 128 ∣ (k0_mult13 i v18 v21 k0_t2).toNat) ∧
  (∀ k0_t2 : Fin (k0_t2_loop i v18 v21).trips, 128 ∣ (k0_mult14 i v18 v21 k0_t2).toNat) ∧
  (∀ k0_t2 : Fin (k0_t2_loop i v18 v21).trips, 128 ∣ (k0_mult15 i v18 v21 k0_t2).toNat) ∧
  (∀ k0_t2 : Fin (k0_t2_loop i v18 v21).trips, 128 ∣ (k0_mult16 i v18 v21 k0_t2).toNat) ∧
  (∀ k0_t2 : Fin (k0_t2_loop i v18 v21).trips, 128 ∣ (k0_mult17 i v18 v21 k0_t2).toNat)
def k0_chk3 (i : grid0.Coords) (v18 : BitVec 32) (v21 : BitVec 32) : Prop :=
  k0_chk3_0 i v18 v21 ∧
  k0_chk3_1 i v18 v21
theorem k0_t1_ok : ∀ (i : grid0.Coords) (v18 : BitVec 32) (v21 : BitVec 32) (k0_hw3 : k0_chk3 i v18 v21), (k0_t1_loop i v18 v21).OK := fun i v18 v21 k0_hw3 => k0_hw3.1.1
theorem k0_mult2_dvd : ∀ (i : grid0.Coords) (v18 : BitVec 32) (v21 : BitVec 32) (k0_hw3 : k0_chk3 i v18 v21) (k0_t1 : Fin (k0_t1_loop i v18 v21).trips), 128 ∣ (k0_mult2 i v18 v21 k0_t1).toNat := fun i v18 v21 k0_hw3 k0_t1 => k0_hw3.1.2.1 k0_t1
theorem k0_off18_inb : ∀ (i : grid0.Coords) (v18 : BitVec 32) (v21 : BitVec 32) (k0_hw3 : k0_chk3 i v18 v21) (k0_t1 : Fin (k0_t1_loop i v18 v21).trips), ∀ (r : Fin 8), ∀ a, (k0_off18 i v18 v21 k0_t1 (BitVec.ofNat 32 r.val)) a + S32x128.size a ≤ S448x8192.size a := fun i v18 v21 k0_hw3 k0_t1 r => k0_hw3.1.2.2.1 k0_t1 r
theorem k0_off19_inb : ∀ (i : grid0.Coords) (v18 : BitVec 32) (v21 : BitVec 32) (k0_hw3 : k0_chk3 i v18 v21) (k0_t1 : Fin (k0_t1_loop i v18 v21).trips), ∀ (r : Fin 8), ∀ a, (k0_off19 i v18 v21 k0_t1 (BitVec.ofNat 32 r.val)) a + S32x128.size a ≤ S448x8192.size a := fun i v18 v21 k0_hw3 k0_t1 r => k0_hw3.1.2.2.2.1 k0_t1 r
theorem k0_off20_inb : ∀ (i : grid0.Coords) (v18 : BitVec 32) (v21 : BitVec 32) (k0_hw3 : k0_chk3 i v18 v21) (k0_t1 : Fin (k0_t1_loop i v18 v21).trips), ∀ (r : Fin 8), ∀ a, (k0_off20 i v18 v21 k0_t1 (BitVec.ofNat 32 r.val)) a + S32x128.size a ≤ S448x8192.size a := fun i v18 v21 k0_hw3 k0_t1 r => k0_hw3.1.2.2.2.2.1 k0_t1 r
theorem k0_off21_inb : ∀ (i : grid0.Coords) (v18 : BitVec 32) (v21 : BitVec 32) (k0_hw3 : k0_chk3 i v18 v21) (k0_t1 : Fin (k0_t1_loop i v18 v21).trips), ∀ (r : Fin 8), ∀ a, (k0_off21 i v18 v21 k0_t1 (BitVec.ofNat 32 r.val)) a + S32x128.size a ≤ S448x8192.size a := fun i v18 v21 k0_hw3 k0_t1 r => k0_hw3.1.2.2.2.2.2.1 k0_t1 r
theorem k0_off22_inb : ∀ (i : grid0.Coords) (v18 : BitVec 32) (v21 : BitVec 32) (k0_hw3 : k0_chk3 i v18 v21) (k0_t1 : Fin (k0_t1_loop i v18 v21).trips), ∀ (r : Fin 8), ∀ a, (k0_off22 i v18 v21 k0_t1 (BitVec.ofNat 32 r.val)) a + S32x128.size a ≤ S448x8192.size a := fun i v18 v21 k0_hw3 k0_t1 r => k0_hw3.1.2.2.2.2.2.2.1 k0_t1 r
theorem k0_off23_inb : ∀ (i : grid0.Coords) (v18 : BitVec 32) (v21 : BitVec 32) (k0_hw3 : k0_chk3 i v18 v21) (k0_t1 : Fin (k0_t1_loop i v18 v21).trips), ∀ (r : Fin 8), ∀ a, (k0_off23 i v18 v21 k0_t1 (BitVec.ofNat 32 r.val)) a + S32x128.size a ≤ S448x8192.size a := fun i v18 v21 k0_hw3 k0_t1 r => k0_hw3.1.2.2.2.2.2.2.2.1 k0_t1 r
theorem k0_off24_inb : ∀ (i : grid0.Coords) (v18 : BitVec 32) (v21 : BitVec 32) (k0_hw3 : k0_chk3 i v18 v21) (k0_t1 : Fin (k0_t1_loop i v18 v21).trips), ∀ (r : Fin 8), ∀ a, (k0_off24 i v18 v21 k0_t1 (BitVec.ofNat 32 r.val)) a + S32x128.size a ≤ S448x8192.size a := fun i v18 v21 k0_hw3 k0_t1 r => k0_hw3.1.2.2.2.2.2.2.2.2.1 k0_t1 r
theorem k0_off25_inb : ∀ (i : grid0.Coords) (v18 : BitVec 32) (v21 : BitVec 32) (k0_hw3 : k0_chk3 i v18 v21) (k0_t1 : Fin (k0_t1_loop i v18 v21).trips), ∀ (r : Fin 8), ∀ a, (k0_off25 i v18 v21 k0_t1 (BitVec.ofNat 32 r.val)) a + S32x128.size a ≤ S448x8192.size a := fun i v18 v21 k0_hw3 k0_t1 r => k0_hw3.1.2.2.2.2.2.2.2.2.2.1 k0_t1 r
theorem k0_off26_inb : ∀ (i : grid0.Coords) (v18 : BitVec 32) (v21 : BitVec 32) (k0_hw3 : k0_chk3 i v18 v21) (k0_t1 : Fin (k0_t1_loop i v18 v21).trips), ∀ (r : Fin 8), ∀ a, (k0_off26 i v18 v21 k0_t1 (BitVec.ofNat 32 r.val)) a + S32x128.size a ≤ S448x8192.size a := fun i v18 v21 k0_hw3 k0_t1 r => k0_hw3.1.2.2.2.2.2.2.2.2.2.2.1 k0_t1 r
theorem k0_off27_inb : ∀ (i : grid0.Coords) (v18 : BitVec 32) (v21 : BitVec 32) (k0_hw3 : k0_chk3 i v18 v21) (k0_t1 : Fin (k0_t1_loop i v18 v21).trips), ∀ (r : Fin 8), ∀ a, (k0_off27 i v18 v21 k0_t1 (BitVec.ofNat 32 r.val)) a + S32x128.size a ≤ S448x8192.size a := fun i v18 v21 k0_hw3 k0_t1 r => k0_hw3.1.2.2.2.2.2.2.2.2.2.2.2.1 k0_t1 r
theorem k0_off28_inb : ∀ (i : grid0.Coords) (v18 : BitVec 32) (v21 : BitVec 32) (k0_hw3 : k0_chk3 i v18 v21) (k0_t1 : Fin (k0_t1_loop i v18 v21).trips), ∀ (r : Fin 8), ∀ a, (k0_off28 i v18 v21 k0_t1 (BitVec.ofNat 32 r.val)) a + S32x128.size a ≤ S448x8192.size a := fun i v18 v21 k0_hw3 k0_t1 r => k0_hw3.1.2.2.2.2.2.2.2.2.2.2.2.2.1 k0_t1 r
theorem k0_off29_inb : ∀ (i : grid0.Coords) (v18 : BitVec 32) (v21 : BitVec 32) (k0_hw3 : k0_chk3 i v18 v21) (k0_t1 : Fin (k0_t1_loop i v18 v21).trips), ∀ (r : Fin 8), ∀ a, (k0_off29 i v18 v21 k0_t1 (BitVec.ofNat 32 r.val)) a + S32x128.size a ≤ S448x8192.size a := fun i v18 v21 k0_hw3 k0_t1 r => k0_hw3.1.2.2.2.2.2.2.2.2.2.2.2.2.2.1 k0_t1 r
theorem k0_off30_inb : ∀ (i : grid0.Coords) (v18 : BitVec 32) (v21 : BitVec 32) (k0_hw3 : k0_chk3 i v18 v21) (k0_t1 : Fin (k0_t1_loop i v18 v21).trips), ∀ (r : Fin 8), ∀ a, (k0_off30 i v18 v21 k0_t1 (BitVec.ofNat 32 r.val)) a + S32x128.size a ≤ S448x8192.size a := fun i v18 v21 k0_hw3 k0_t1 r => k0_hw3.1.2.2.2.2.2.2.2.2.2.2.2.2.2.2.1 k0_t1 r
theorem k0_off31_inb : ∀ (i : grid0.Coords) (v18 : BitVec 32) (v21 : BitVec 32) (k0_hw3 : k0_chk3 i v18 v21) (k0_t1 : Fin (k0_t1_loop i v18 v21).trips), ∀ (r : Fin 8), ∀ a, (k0_off31 i v18 v21 k0_t1 (BitVec.ofNat 32 r.val)) a + S32x128.size a ≤ S448x8192.size a := fun i v18 v21 k0_hw3 k0_t1 r => k0_hw3.1.2.2.2.2.2.2.2.2.2.2.2.2.2.2.2.1 k0_t1 r
theorem k0_mult3_dvd : ∀ (i : grid0.Coords) (v18 : BitVec 32) (v21 : BitVec 32) (k0_hw3 : k0_chk3 i v18 v21) (k0_t1 : Fin (k0_t1_loop i v18 v21).trips), 128 ∣ (k0_mult3 i v18 v21 k0_t1).toNat := fun i v18 v21 k0_hw3 k0_t1 => k0_hw3.1.2.2.2.2.2.2.2.2.2.2.2.2.2.2.2.2.1 k0_t1
theorem k0_mult4_dvd : ∀ (i : grid0.Coords) (v18 : BitVec 32) (v21 : BitVec 32) (k0_hw3 : k0_chk3 i v18 v21) (k0_t1 : Fin (k0_t1_loop i v18 v21).trips), 128 ∣ (k0_mult4 i v18 v21 k0_t1).toNat := fun i v18 v21 k0_hw3 k0_t1 => k0_hw3.1.2.2.2.2.2.2.2.2.2.2.2.2.2.2.2.2.2.1 k0_t1
theorem k0_mult5_dvd : ∀ (i : grid0.Coords) (v18 : BitVec 32) (v21 : BitVec 32) (k0_hw3 : k0_chk3 i v18 v21) (k0_t1 : Fin (k0_t1_loop i v18 v21).trips), 128 ∣ (k0_mult5 i v18 v21 k0_t1).toNat := fun i v18 v21 k0_hw3 k0_t1 => k0_hw3.1.2.2.2.2.2.2.2.2.2.2.2.2.2.2.2.2.2.2.1 k0_t1
theorem k0_mult6_dvd : ∀ (i : grid0.Coords) (v18 : BitVec 32) (v21 : BitVec 32) (k0_hw3 : k0_chk3 i v18 v21) (k0_t1 : Fin (k0_t1_loop i v18 v21).trips), 128 ∣ (k0_mult6 i v18 v21 k0_t1).toNat := fun i v18 v21 k0_hw3 k0_t1 => k0_hw3.1.2.2.2.2.2.2.2.2.2.2.2.2.2.2.2.2.2.2.2.1 k0_t1
theorem k0_mult7_dvd : ∀ (i : grid0.Coords) (v18 : BitVec 32) (v21 : BitVec 32) (k0_hw3 : k0_chk3 i v18 v21) (k0_t1 : Fin (k0_t1_loop i v18 v21).trips), 128 ∣ (k0_mult7 i v18 v21 k0_t1).toNat := fun i v18 v21 k0_hw3 k0_t1 => k0_hw3.1.2.2.2.2.2.2.2.2.2.2.2.2.2.2.2.2.2.2.2.2.1 k0_t1
theorem k0_mult8_dvd : ∀ (i : grid0.Coords) (v18 : BitVec 32) (v21 : BitVec 32) (k0_hw3 : k0_chk3 i v18 v21) (k0_t1 : Fin (k0_t1_loop i v18 v21).trips), 128 ∣ (k0_mult8 i v18 v21 k0_t1).toNat := fun i v18 v21 k0_hw3 k0_t1 => k0_hw3.1.2.2.2.2.2.2.2.2.2.2.2.2.2.2.2.2.2.2.2.2.2.1 k0_t1
theorem k0_mult9_dvd : ∀ (i : grid0.Coords) (v18 : BitVec 32) (v21 : BitVec 32) (k0_hw3 : k0_chk3 i v18 v21) (k0_t1 : Fin (k0_t1_loop i v18 v21).trips), 128 ∣ (k0_mult9 i v18 v21 k0_t1).toNat := fun i v18 v21 k0_hw3 k0_t1 => k0_hw3.1.2.2.2.2.2.2.2.2.2.2.2.2.2.2.2.2.2.2.2.2.2.2.1 k0_t1
theorem k0_t2_ok : ∀ (i : grid0.Coords) (v18 : BitVec 32) (v21 : BitVec 32) (k0_hw3 : k0_chk3 i v18 v21), (k0_t2_loop i v18 v21).OK := fun i v18 v21 k0_hw3 => k0_hw3.1.2.2.2.2.2.2.2.2.2.2.2.2.2.2.2.2.2.2.2.2.2.2.2.1
theorem k0_mult10_dvd : ∀ (i : grid0.Coords) (v18 : BitVec 32) (v21 : BitVec 32) (k0_hw3 : k0_chk3 i v18 v21) (k0_t2 : Fin (k0_t2_loop i v18 v21).trips), 128 ∣ (k0_mult10 i v18 v21 k0_t2).toNat := fun i v18 v21 k0_hw3 k0_t2 => k0_hw3.1.2.2.2.2.2.2.2.2.2.2.2.2.2.2.2.2.2.2.2.2.2.2.2.2.1 k0_t2
theorem k0_off32_inb : ∀ (i : grid0.Coords) (v18 : BitVec 32) (v21 : BitVec 32) (k0_hw3 : k0_chk3 i v18 v21) (k0_t2 : Fin (k0_t2_loop i v18 v21).trips), ∀ (r : Fin 8), ∀ a, (k0_off32 i v18 v21 k0_t2 (BitVec.ofNat 32 r.val)) a + S32x128.size a ≤ S448x8192.size a := fun i v18 v21 k0_hw3 k0_t2 r => k0_hw3.1.2.2.2.2.2.2.2.2.2.2.2.2.2.2.2.2.2.2.2.2.2.2.2.2.2.1 k0_t2 r
theorem k0_off33_inb : ∀ (i : grid0.Coords) (v18 : BitVec 32) (v21 : BitVec 32) (k0_hw3 : k0_chk3 i v18 v21) (k0_t2 : Fin (k0_t2_loop i v18 v21).trips), ∀ (r : Fin 8), ∀ a, (k0_off33 i v18 v21 k0_t2 (BitVec.ofNat 32 r.val)) a + S32x128.size a ≤ S448x8192.size a := fun i v18 v21 k0_hw3 k0_t2 r => k0_hw3.1.2.2.2.2.2.2.2.2.2.2.2.2.2.2.2.2.2.2.2.2.2.2.2.2.2.2.1 k0_t2 r
theorem k0_off34_inb : ∀ (i : grid0.Coords) (v18 : BitVec 32) (v21 : BitVec 32) (k0_hw3 : k0_chk3 i v18 v21) (k0_t2 : Fin (k0_t2_loop i v18 v21).trips), ∀ (r : Fin 8), ∀ a, (k0_off34 i v18 v21 k0_t2 (BitVec.ofNat 32 r.val)) a + S32x128.size a ≤ S448x8192.size a := fun i v18 v21 k0_hw3 k0_t2 r => k0_hw3.1.2.2.2.2.2.2.2.2.2.2.2.2.2.2.2.2.2.2.2.2.2.2.2.2.2.2.2.1 k0_t2 r
theorem k0_off35_inb : ∀ (i : grid0.Coords) (v18 : BitVec 32) (v21 : BitVec 32) (k0_hw3 : k0_chk3 i v18 v21) (k0_t2 : Fin (k0_t2_loop i v18 v21).trips), ∀ (r : Fin 8), ∀ a, (k0_off35 i v18 v21 k0_t2 (BitVec.ofNat 32 r.val)) a + S32x128.size a ≤ S448x8192.size a := fun i v18 v21 k0_hw3 k0_t2 r => k0_hw3.1.2.2.2.2.2.2.2.2.2.2.2.2.2.2.2.2.2.2.2.2.2.2.2.2.2.2.2.2.1 k0_t2 r
theorem k0_off36_inb : ∀ (i : grid0.Coords) (v18 : BitVec 32) (v21 : BitVec 32) (k0_hw3 : k0_chk3 i v18 v21) (k0_t2 : Fin (k0_t2_loop i v18 v21).trips), ∀ (r : Fin 8), ∀ a, (k0_off36 i v18 v21 k0_t2 (BitVec.ofNat 32 r.val)) a + S32x128.size a ≤ S448x8192.size a := fun i v18 v21 k0_hw3 k0_t2 r => k0_hw3.1.2.2.2.2.2.2.2.2.2.2.2.2.2.2.2.2.2.2.2.2.2.2.2.2.2.2.2.2.2.1 k0_t2 r
theorem k0_off37_inb : ∀ (i : grid0.Coords) (v18 : BitVec 32) (v21 : BitVec 32) (k0_hw3 : k0_chk3 i v18 v21) (k0_t2 : Fin (k0_t2_loop i v18 v21).trips), ∀ (r : Fin 8), ∀ a, (k0_off37 i v18 v21 k0_t2 (BitVec.ofNat 32 r.val)) a + S32x128.size a ≤ S448x8192.size a := fun i v18 v21 k0_hw3 k0_t2 r => k0_hw3.1.2.2.2.2.2.2.2.2.2.2.2.2.2.2.2.2.2.2.2.2.2.2.2.2.2.2.2.2.2.2.1 k0_t2 r
theorem k0_off38_inb : ∀ (i : grid0.Coords) (v18 : BitVec 32) (v21 : BitVec 32) (k0_hw3 : k0_chk3 i v18 v21) (k0_t2 : Fin (k0_t2_loop i v18 v21).trips), ∀ (r : Fin 8), ∀ a, (k0_off38 i v18 v21 k0_t2 (BitVec.ofNat 32 r.val)) a + S32x128.size a ≤ S448x8192.size a := fun i v18 v21 k0_hw3 k0_t2 r => k0_hw3.1.2.2.2.2.2.2.2.2.2.2.2.2.2.2.2.2.2.2.2.2.2.2.2.2.2.2.2.2.2.2.2 k0_t2 r
theorem k0_off39_inb : ∀ (i : grid0.Coords) (v18 : BitVec 32) (v21 : BitVec 32) (k0_hw3 : k0_chk3 i v18 v21) (k0_t2 : Fin (k0_t2_loop i v18 v21).trips), ∀ (r : Fin 8), ∀ a, (k0_off39 i v18 v21 k0_t2 (BitVec.ofNat 32 r.val)) a + S32x128.size a ≤ S448x8192.size a := fun i v18 v21 k0_hw3 k0_t2 r => k0_hw3.2.1 k0_t2 r
theorem k0_off40_inb : ∀ (i : grid0.Coords) (v18 : BitVec 32) (v21 : BitVec 32) (k0_hw3 : k0_chk3 i v18 v21) (k0_t2 : Fin (k0_t2_loop i v18 v21).trips), ∀ (r : Fin 8), ∀ a, (k0_off40 i v18 v21 k0_t2 (BitVec.ofNat 32 r.val)) a + S32x128.size a ≤ S448x8192.size a := fun i v18 v21 k0_hw3 k0_t2 r => k0_hw3.2.2.1 k0_t2 r
theorem k0_off41_inb : ∀ (i : grid0.Coords) (v18 : BitVec 32) (v21 : BitVec 32) (k0_hw3 : k0_chk3 i v18 v21) (k0_t2 : Fin (k0_t2_loop i v18 v21).trips), ∀ (r : Fin 8), ∀ a, (k0_off41 i v18 v21 k0_t2 (BitVec.ofNat 32 r.val)) a + S32x128.size a ≤ S448x8192.size a := fun i v18 v21 k0_hw3 k0_t2 r => k0_hw3.2.2.2.1 k0_t2 r
theorem k0_off42_inb : ∀ (i : grid0.Coords) (v18 : BitVec 32) (v21 : BitVec 32) (k0_hw3 : k0_chk3 i v18 v21) (k0_t2 : Fin (k0_t2_loop i v18 v21).trips), ∀ (r : Fin 8), ∀ a, (k0_off42 i v18 v21 k0_t2 (BitVec.ofNat 32 r.val)) a + S32x128.size a ≤ S448x8192.size a := fun i v18 v21 k0_hw3 k0_t2 r => k0_hw3.2.2.2.2.1 k0_t2 r
theorem k0_off43_inb : ∀ (i : grid0.Coords) (v18 : BitVec 32) (v21 : BitVec 32) (k0_hw3 : k0_chk3 i v18 v21) (k0_t2 : Fin (k0_t2_loop i v18 v21).trips), ∀ (r : Fin 8), ∀ a, (k0_off43 i v18 v21 k0_t2 (BitVec.ofNat 32 r.val)) a + S32x128.size a ≤ S448x8192.size a := fun i v18 v21 k0_hw3 k0_t2 r => k0_hw3.2.2.2.2.2.1 k0_t2 r
theorem k0_off44_inb : ∀ (i : grid0.Coords) (v18 : BitVec 32) (v21 : BitVec 32) (k0_hw3 : k0_chk3 i v18 v21) (k0_t2 : Fin (k0_t2_loop i v18 v21).trips), ∀ (r : Fin 8), ∀ a, (k0_off44 i v18 v21 k0_t2 (BitVec.ofNat 32 r.val)) a + S32x128.size a ≤ S448x8192.size a := fun i v18 v21 k0_hw3 k0_t2 r => k0_hw3.2.2.2.2.2.2.1 k0_t2 r
theorem k0_off45_inb : ∀ (i : grid0.Coords) (v18 : BitVec 32) (v21 : BitVec 32) (k0_hw3 : k0_chk3 i v18 v21) (k0_t2 : Fin (k0_t2_loop i v18 v21).trips), ∀ (r : Fin 8), ∀ a, (k0_off45 i v18 v21 k0_t2 (BitVec.ofNat 32 r.val)) a + S32x128.size a ≤ S448x8192.size a := fun i v18 v21 k0_hw3 k0_t2 r => k0_hw3.2.2.2.2.2.2.2.1 k0_t2 r
theorem k0_mult11_dvd : ∀ (i : grid0.Coords) (v18 : BitVec 32) (v21 : BitVec 32) (k0_hw3 : k0_chk3 i v18 v21) (k0_t2 : Fin (k0_t2_loop i v18 v21).trips), 128 ∣ (k0_mult11 i v18 v21 k0_t2).toNat := fun i v18 v21 k0_hw3 k0_t2 => k0_hw3.2.2.2.2.2.2.2.2.1 k0_t2
theorem k0_mult12_dvd : ∀ (i : grid0.Coords) (v18 : BitVec 32) (v21 : BitVec 32) (k0_hw3 : k0_chk3 i v18 v21) (k0_t2 : Fin (k0_t2_loop i v18 v21).trips), 128 ∣ (k0_mult12 i v18 v21 k0_t2).toNat := fun i v18 v21 k0_hw3 k0_t2 => k0_hw3.2.2.2.2.2.2.2.2.2.1 k0_t2
theorem k0_mult13_dvd : ∀ (i : grid0.Coords) (v18 : BitVec 32) (v21 : BitVec 32) (k0_hw3 : k0_chk3 i v18 v21) (k0_t2 : Fin (k0_t2_loop i v18 v21).trips), 128 ∣ (k0_mult13 i v18 v21 k0_t2).toNat := fun i v18 v21 k0_hw3 k0_t2 => k0_hw3.2.2.2.2.2.2.2.2.2.2.1 k0_t2
theorem k0_mult14_dvd : ∀ (i : grid0.Coords) (v18 : BitVec 32) (v21 : BitVec 32) (k0_hw3 : k0_chk3 i v18 v21) (k0_t2 : Fin (k0_t2_loop i v18 v21).trips), 128 ∣ (k0_mult14 i v18 v21 k0_t2).toNat := fun i v18 v21 k0_hw3 k0_t2 => k0_hw3.2.2.2.2.2.2.2.2.2.2.2.1 k0_t2
theorem k0_mult15_dvd : ∀ (i : grid0.Coords) (v18 : BitVec 32) (v21 : BitVec 32) (k0_hw3 : k0_chk3 i v18 v21) (k0_t2 : Fin (k0_t2_loop i v18 v21).trips), 128 ∣ (k0_mult15 i v18 v21 k0_t2).toNat := fun i v18 v21 k0_hw3 k0_t2 => k0_hw3.2.2.2.2.2.2.2.2.2.2.2.2.1 k0_t2
theorem k0_mult16_dvd : ∀ (i : grid0.Coords) (v18 : BitVec 32) (v21 : BitVec 32) (k0_hw3 : k0_chk3 i v18 v21) (k0_t2 : Fin (k0_t2_loop i v18 v21).trips), 128 ∣ (k0_mult16 i v18 v21 k0_t2).toNat := fun i v18 v21 k0_hw3 k0_t2 => k0_hw3.2.2.2.2.2.2.2.2.2.2.2.2.2.1 k0_t2
theorem k0_mult17_dvd : ∀ (i : grid0.Coords) (v18 : BitVec 32) (v21 : BitVec 32) (k0_hw3 : k0_chk3 i v18 v21) (k0_t2 : Fin (k0_t2_loop i v18 v21).trips), 128 ∣ (k0_mult17 i v18 v21 k0_t2).toNat := fun i v18 v21 k0_hw3 k0_t2 => k0_hw3.2.2.2.2.2.2.2.2.2.2.2.2.2.2 k0_t2

def k0_off46 (arg7 : BitVec 32) : Fin 2 → Nat :=
  let c0_17 : Index := 0#32
  let c128_i32 : BitVec 32 := 128#32
  let v24 : BitVec 32 := Scalar.muli arg7 c128_i32
  let v25 : BitVec 32 := v24
  let v95 : Index := Scalar.indexCast v25
  ![0, v95.toNat]
def k0_off47 (arg7 : BitVec 32) : Fin 2 → Nat :=
  let c8_18 : Index := 8#32
  let c128_i32 : BitVec 32 := 128#32
  let v24 : BitVec 32 := Scalar.muli arg7 c128_i32
  let v25 : BitVec 32 := v24
  let v97 : Index := Scalar.indexCast v25
  ![8, v97.toNat]
def k0_off48 (arg7 : BitVec 32) : Fin 2 → Nat :=
  let c16_19 : Index := 16#32
  let c128_i32 : BitVec 32 := 128#32
  let v24 : BitVec 32 := Scalar.muli arg7 c128_i32
  let v25 : BitVec 32 := v24
  let v99 : Index := Scalar.indexCast v25
  ![16, v99.toNat]
def k0_off49 (arg7 : BitVec 32) : Fin 2 → Nat :=
  let c24_20 : Index := 24#32
  let c128_i32 : BitVec 32 := 128#32
  let v24 : BitVec 32 := Scalar.muli arg7 c128_i32
  let v25 : BitVec 32 := v24
  let v101 : Index := Scalar.indexCast v25
  ![24, v101.toNat]
def k0_off50 (arg7 : BitVec 32) : Fin 2 → Nat :=
  let c32_21 : Index := 32#32
  let c128_i32 : BitVec 32 := 128#32
  let v24 : BitVec 32 := Scalar.muli arg7 c128_i32
  let v25 : BitVec 32 := v24
  let v103 : Index := Scalar.indexCast v25
  ![32, v103.toNat]
def k0_off51 (arg7 : BitVec 32) : Fin 2 → Nat :=
  let c40_22 : Index := 40#32
  let c128_i32 : BitVec 32 := 128#32
  let v24 : BitVec 32 := Scalar.muli arg7 c128_i32
  let v25 : BitVec 32 := v24
  let v105 : Index := Scalar.indexCast v25
  ![40, v105.toNat]
def k0_off52 (arg7 : BitVec 32) : Fin 2 → Nat :=
  let c48_23 : Index := 48#32
  let c128_i32 : BitVec 32 := 128#32
  let v24 : BitVec 32 := Scalar.muli arg7 c128_i32
  let v25 : BitVec 32 := v24
  let v107 : Index := Scalar.indexCast v25
  ![48, v107.toNat]
def k0_off53 (arg7 : BitVec 32) : Fin 2 → Nat :=
  let c56_24 : Index := 56#32
  let c128_i32 : BitVec 32 := 128#32
  let v24 : BitVec 32 := Scalar.muli arg7 c128_i32
  let v25 : BitVec 32 := v24
  let v109 : Index := Scalar.indexCast v25
  ![56, v109.toNat]
def k0_off54 (arg7 : BitVec 32) : Fin 2 → Nat :=
  let c64_25 : Index := 64#32
  let c128_i32 : BitVec 32 := 128#32
  let v24 : BitVec 32 := Scalar.muli arg7 c128_i32
  let v25 : BitVec 32 := v24
  let v111 : Index := Scalar.indexCast v25
  ![64, v111.toNat]
def k0_off55 (arg7 : BitVec 32) : Fin 2 → Nat :=
  let c72_26 : Index := 72#32
  let c128_i32 : BitVec 32 := 128#32
  let v24 : BitVec 32 := Scalar.muli arg7 c128_i32
  let v25 : BitVec 32 := v24
  let v113 : Index := Scalar.indexCast v25
  ![72, v113.toNat]
def k0_off56 (arg7 : BitVec 32) : Fin 2 → Nat :=
  let c80_27 : Index := 80#32
  let c128_i32 : BitVec 32 := 128#32
  let v24 : BitVec 32 := Scalar.muli arg7 c128_i32
  let v25 : BitVec 32 := v24
  let v115 : Index := Scalar.indexCast v25
  ![80, v115.toNat]
def k0_off57 (arg7 : BitVec 32) : Fin 2 → Nat :=
  let c88_28 : Index := 88#32
  let c128_i32 : BitVec 32 := 128#32
  let v24 : BitVec 32 := Scalar.muli arg7 c128_i32
  let v25 : BitVec 32 := v24
  let v117 : Index := Scalar.indexCast v25
  ![88, v117.toNat]
def k0_off58 (arg7 : BitVec 32) : Fin 2 → Nat :=
  let c96_29 : Index := 96#32
  let c128_i32 : BitVec 32 := 128#32
  let v24 : BitVec 32 := Scalar.muli arg7 c128_i32
  let v25 : BitVec 32 := v24
  let v119 : Index := Scalar.indexCast v25
  ![96, v119.toNat]
def k0_off59 (arg7 : BitVec 32) : Fin 2 → Nat :=
  let c104_30 : Index := 104#32
  let c128_i32 : BitVec 32 := 128#32
  let v24 : BitVec 32 := Scalar.muli arg7 c128_i32
  let v25 : BitVec 32 := v24
  let v121 : Index := Scalar.indexCast v25
  ![104, v121.toNat]
def k0_off60 (arg7 : BitVec 32) : Fin 1 → Nat :=
  let v123 : Index := Scalar.indexCast arg7
  ![v123.toNat]

def k0_chk2 (arg7 : BitVec 32) : Prop :=
  (∀ a, (k0_off2 arg7) a + S1x128.size a ≤ S192x128.size a) ∧
  (∀ a, (k0_off3 arg7) a + S1.size a ≤ S192.size a) ∧
  (128 ∣ (k0_mult1 arg7).toNat) ∧
  (∀ a, (k0_off4 arg7) a + S8x128.size a ≤ S112x24576.size a) ∧
  (∀ a, (k0_off5 arg7) a + S8x128.size a ≤ S112x24576.size a) ∧
  (∀ a, (k0_off6 arg7) a + S8x128.size a ≤ S112x24576.size a) ∧
  (∀ a, (k0_off7 arg7) a + S8x128.size a ≤ S112x24576.size a) ∧
  (∀ a, (k0_off8 arg7) a + S8x128.size a ≤ S112x24576.size a) ∧
  (∀ a, (k0_off9 arg7) a + S8x128.size a ≤ S112x24576.size a) ∧
  (∀ a, (k0_off10 arg7) a + S8x128.size a ≤ S112x24576.size a) ∧
  (∀ a, (k0_off11 arg7) a + S8x128.size a ≤ S112x24576.size a) ∧
  (∀ a, (k0_off12 arg7) a + S8x128.size a ≤ S112x24576.size a) ∧
  (∀ a, (k0_off13 arg7) a + S8x128.size a ≤ S112x24576.size a) ∧
  (∀ a, (k0_off14 arg7) a + S8x128.size a ≤ S112x24576.size a) ∧
  (∀ a, (k0_off15 arg7) a + S8x128.size a ≤ S112x24576.size a) ∧
  (∀ a, (k0_off16 arg7) a + S8x128.size a ≤ S112x24576.size a) ∧
  (∀ a, (k0_off17 arg7) a + S8x128.size a ≤ S112x24576.size a) ∧
  (∀ a, (k0_off46 arg7) a + S8x128.size a ≤ S112x24576.size a) ∧
  (∀ a, (k0_off47 arg7) a + S8x128.size a ≤ S112x24576.size a) ∧
  (∀ a, (k0_off48 arg7) a + S8x128.size a ≤ S112x24576.size a) ∧
  (∀ a, (k0_off49 arg7) a + S8x128.size a ≤ S112x24576.size a) ∧
  (∀ a, (k0_off50 arg7) a + S8x128.size a ≤ S112x24576.size a) ∧
  (∀ a, (k0_off51 arg7) a + S8x128.size a ≤ S112x24576.size a) ∧
  (∀ a, (k0_off52 arg7) a + S8x128.size a ≤ S112x24576.size a) ∧
  (∀ a, (k0_off53 arg7) a + S8x128.size a ≤ S112x24576.size a) ∧
  (∀ a, (k0_off54 arg7) a + S8x128.size a ≤ S112x24576.size a) ∧
  (∀ a, (k0_off55 arg7) a + S8x128.size a ≤ S112x24576.size a) ∧
  (∀ a, (k0_off56 arg7) a + S8x128.size a ≤ S112x24576.size a) ∧
  (∀ a, (k0_off57 arg7) a + S8x128.size a ≤ S112x24576.size a) ∧
  (∀ a, (k0_off58 arg7) a + S8x128.size a ≤ S112x24576.size a) ∧
  (∀ a, (k0_off59 arg7) a + S8x128.size a ≤ S112x24576.size a) ∧
  (∀ a, (k0_off60 arg7) a + S1.size a ≤ S192.size a)
theorem k0_off2_inb : ∀ (arg7 : BitVec 32) (k0_hw2 : k0_chk2 arg7), ∀ a, (k0_off2 arg7) a + S1x128.size a ≤ S192x128.size a := fun arg7 k0_hw2 => k0_hw2.1
theorem k0_off3_inb : ∀ (arg7 : BitVec 32) (k0_hw2 : k0_chk2 arg7), ∀ a, (k0_off3 arg7) a + S1.size a ≤ S192.size a := fun arg7 k0_hw2 => k0_hw2.2.1
theorem k0_mult1_dvd : ∀ (arg7 : BitVec 32) (k0_hw2 : k0_chk2 arg7), 128 ∣ (k0_mult1 arg7).toNat := fun arg7 k0_hw2 => k0_hw2.2.2.1
theorem k0_off4_inb : ∀ (arg7 : BitVec 32) (k0_hw2 : k0_chk2 arg7), ∀ a, (k0_off4 arg7) a + S8x128.size a ≤ S112x24576.size a := fun arg7 k0_hw2 => k0_hw2.2.2.2.1
theorem k0_off5_inb : ∀ (arg7 : BitVec 32) (k0_hw2 : k0_chk2 arg7), ∀ a, (k0_off5 arg7) a + S8x128.size a ≤ S112x24576.size a := fun arg7 k0_hw2 => k0_hw2.2.2.2.2.1
theorem k0_off6_inb : ∀ (arg7 : BitVec 32) (k0_hw2 : k0_chk2 arg7), ∀ a, (k0_off6 arg7) a + S8x128.size a ≤ S112x24576.size a := fun arg7 k0_hw2 => k0_hw2.2.2.2.2.2.1
theorem k0_off7_inb : ∀ (arg7 : BitVec 32) (k0_hw2 : k0_chk2 arg7), ∀ a, (k0_off7 arg7) a + S8x128.size a ≤ S112x24576.size a := fun arg7 k0_hw2 => k0_hw2.2.2.2.2.2.2.1
theorem k0_off8_inb : ∀ (arg7 : BitVec 32) (k0_hw2 : k0_chk2 arg7), ∀ a, (k0_off8 arg7) a + S8x128.size a ≤ S112x24576.size a := fun arg7 k0_hw2 => k0_hw2.2.2.2.2.2.2.2.1
theorem k0_off9_inb : ∀ (arg7 : BitVec 32) (k0_hw2 : k0_chk2 arg7), ∀ a, (k0_off9 arg7) a + S8x128.size a ≤ S112x24576.size a := fun arg7 k0_hw2 => k0_hw2.2.2.2.2.2.2.2.2.1
theorem k0_off10_inb : ∀ (arg7 : BitVec 32) (k0_hw2 : k0_chk2 arg7), ∀ a, (k0_off10 arg7) a + S8x128.size a ≤ S112x24576.size a := fun arg7 k0_hw2 => k0_hw2.2.2.2.2.2.2.2.2.2.1
theorem k0_off11_inb : ∀ (arg7 : BitVec 32) (k0_hw2 : k0_chk2 arg7), ∀ a, (k0_off11 arg7) a + S8x128.size a ≤ S112x24576.size a := fun arg7 k0_hw2 => k0_hw2.2.2.2.2.2.2.2.2.2.2.1
theorem k0_off12_inb : ∀ (arg7 : BitVec 32) (k0_hw2 : k0_chk2 arg7), ∀ a, (k0_off12 arg7) a + S8x128.size a ≤ S112x24576.size a := fun arg7 k0_hw2 => k0_hw2.2.2.2.2.2.2.2.2.2.2.2.1
theorem k0_off13_inb : ∀ (arg7 : BitVec 32) (k0_hw2 : k0_chk2 arg7), ∀ a, (k0_off13 arg7) a + S8x128.size a ≤ S112x24576.size a := fun arg7 k0_hw2 => k0_hw2.2.2.2.2.2.2.2.2.2.2.2.2.1
theorem k0_off14_inb : ∀ (arg7 : BitVec 32) (k0_hw2 : k0_chk2 arg7), ∀ a, (k0_off14 arg7) a + S8x128.size a ≤ S112x24576.size a := fun arg7 k0_hw2 => k0_hw2.2.2.2.2.2.2.2.2.2.2.2.2.2.1
theorem k0_off15_inb : ∀ (arg7 : BitVec 32) (k0_hw2 : k0_chk2 arg7), ∀ a, (k0_off15 arg7) a + S8x128.size a ≤ S112x24576.size a := fun arg7 k0_hw2 => k0_hw2.2.2.2.2.2.2.2.2.2.2.2.2.2.2.1
theorem k0_off16_inb : ∀ (arg7 : BitVec 32) (k0_hw2 : k0_chk2 arg7), ∀ a, (k0_off16 arg7) a + S8x128.size a ≤ S112x24576.size a := fun arg7 k0_hw2 => k0_hw2.2.2.2.2.2.2.2.2.2.2.2.2.2.2.2.1
theorem k0_off17_inb : ∀ (arg7 : BitVec 32) (k0_hw2 : k0_chk2 arg7), ∀ a, (k0_off17 arg7) a + S8x128.size a ≤ S112x24576.size a := fun arg7 k0_hw2 => k0_hw2.2.2.2.2.2.2.2.2.2.2.2.2.2.2.2.2.1
theorem k0_off46_inb : ∀ (arg7 : BitVec 32) (k0_hw2 : k0_chk2 arg7), ∀ a, (k0_off46 arg7) a + S8x128.size a ≤ S112x24576.size a := fun arg7 k0_hw2 => k0_hw2.2.2.2.2.2.2.2.2.2.2.2.2.2.2.2.2.2.1
theorem k0_off47_inb : ∀ (arg7 : BitVec 32) (k0_hw2 : k0_chk2 arg7), ∀ a, (k0_off47 arg7) a + S8x128.size a ≤ S112x24576.size a := fun arg7 k0_hw2 => k0_hw2.2.2.2.2.2.2.2.2.2.2.2.2.2.2.2.2.2.2.1
theorem k0_off48_inb : ∀ (arg7 : BitVec 32) (k0_hw2 : k0_chk2 arg7), ∀ a, (k0_off48 arg7) a + S8x128.size a ≤ S112x24576.size a := fun arg7 k0_hw2 => k0_hw2.2.2.2.2.2.2.2.2.2.2.2.2.2.2.2.2.2.2.2.1
theorem k0_off49_inb : ∀ (arg7 : BitVec 32) (k0_hw2 : k0_chk2 arg7), ∀ a, (k0_off49 arg7) a + S8x128.size a ≤ S112x24576.size a := fun arg7 k0_hw2 => k0_hw2.2.2.2.2.2.2.2.2.2.2.2.2.2.2.2.2.2.2.2.2.1
theorem k0_off50_inb : ∀ (arg7 : BitVec 32) (k0_hw2 : k0_chk2 arg7), ∀ a, (k0_off50 arg7) a + S8x128.size a ≤ S112x24576.size a := fun arg7 k0_hw2 => k0_hw2.2.2.2.2.2.2.2.2.2.2.2.2.2.2.2.2.2.2.2.2.2.1
theorem k0_off51_inb : ∀ (arg7 : BitVec 32) (k0_hw2 : k0_chk2 arg7), ∀ a, (k0_off51 arg7) a + S8x128.size a ≤ S112x24576.size a := fun arg7 k0_hw2 => k0_hw2.2.2.2.2.2.2.2.2.2.2.2.2.2.2.2.2.2.2.2.2.2.2.1
theorem k0_off52_inb : ∀ (arg7 : BitVec 32) (k0_hw2 : k0_chk2 arg7), ∀ a, (k0_off52 arg7) a + S8x128.size a ≤ S112x24576.size a := fun arg7 k0_hw2 => k0_hw2.2.2.2.2.2.2.2.2.2.2.2.2.2.2.2.2.2.2.2.2.2.2.2.1
theorem k0_off53_inb : ∀ (arg7 : BitVec 32) (k0_hw2 : k0_chk2 arg7), ∀ a, (k0_off53 arg7) a + S8x128.size a ≤ S112x24576.size a := fun arg7 k0_hw2 => k0_hw2.2.2.2.2.2.2.2.2.2.2.2.2.2.2.2.2.2.2.2.2.2.2.2.2.1
theorem k0_off54_inb : ∀ (arg7 : BitVec 32) (k0_hw2 : k0_chk2 arg7), ∀ a, (k0_off54 arg7) a + S8x128.size a ≤ S112x24576.size a := fun arg7 k0_hw2 => k0_hw2.2.2.2.2.2.2.2.2.2.2.2.2.2.2.2.2.2.2.2.2.2.2.2.2.2.1
theorem k0_off55_inb : ∀ (arg7 : BitVec 32) (k0_hw2 : k0_chk2 arg7), ∀ a, (k0_off55 arg7) a + S8x128.size a ≤ S112x24576.size a := fun arg7 k0_hw2 => k0_hw2.2.2.2.2.2.2.2.2.2.2.2.2.2.2.2.2.2.2.2.2.2.2.2.2.2.2.1
theorem k0_off56_inb : ∀ (arg7 : BitVec 32) (k0_hw2 : k0_chk2 arg7), ∀ a, (k0_off56 arg7) a + S8x128.size a ≤ S112x24576.size a := fun arg7 k0_hw2 => k0_hw2.2.2.2.2.2.2.2.2.2.2.2.2.2.2.2.2.2.2.2.2.2.2.2.2.2.2.2.1
theorem k0_off57_inb : ∀ (arg7 : BitVec 32) (k0_hw2 : k0_chk2 arg7), ∀ a, (k0_off57 arg7) a + S8x128.size a ≤ S112x24576.size a := fun arg7 k0_hw2 => k0_hw2.2.2.2.2.2.2.2.2.2.2.2.2.2.2.2.2.2.2.2.2.2.2.2.2.2.2.2.2.1
theorem k0_off58_inb : ∀ (arg7 : BitVec 32) (k0_hw2 : k0_chk2 arg7), ∀ a, (k0_off58 arg7) a + S8x128.size a ≤ S112x24576.size a := fun arg7 k0_hw2 => k0_hw2.2.2.2.2.2.2.2.2.2.2.2.2.2.2.2.2.2.2.2.2.2.2.2.2.2.2.2.2.2.1
theorem k0_off59_inb : ∀ (arg7 : BitVec 32) (k0_hw2 : k0_chk2 arg7), ∀ a, (k0_off59 arg7) a + S8x128.size a ≤ S112x24576.size a := fun arg7 k0_hw2 => k0_hw2.2.2.2.2.2.2.2.2.2.2.2.2.2.2.2.2.2.2.2.2.2.2.2.2.2.2.2.2.2.2.1
theorem k0_off60_inb : ∀ (arg7 : BitVec 32) (k0_hw2 : k0_chk2 arg7), ∀ a, (k0_off60 arg7) a + S1.size a ≤ S192.size a := fun arg7 k0_hw2 => k0_hw2.2.2.2.2.2.2.2.2.2.2.2.2.2.2.2.2.2.2.2.2.2.2.2.2.2.2.2.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S448x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S112x24576 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Gathered.lean ====
abbrev S24576 : Shape := ⟨1, ![24576]⟩
abbrev S850000x448 : Shape := ⟨2, ![850000, 448]⟩
abbrev S_ : Shape := ⟨0, ![]⟩
abbrev S24576x1 : Shape := ⟨2, ![24576, 1]⟩
abbrev S24576x448 : Shape := ⟨2, ![24576, 448]⟩
abbrev S4 : Shape := ⟨1, ![4]⟩
abbrev S24576x112x4 : Shape := ⟨3, ![24576, 112, 4]⟩
abbrev S1x1x4 : Shape := ⟨3, ![1, 1, 4]⟩
abbrev S24576x112 : Shape := ⟨2, ![24576, 112]⟩
abbrev S112x24576 : Shape := ⟨2, ![112, 24576]⟩

abbrev nBuf : Space → Nat
  | .hbm => 23
  | .vmem => 0
  | .smem => 0
  | _ => 0

abbrev bufTy : (tb : Table) → Fin (tcTables nBuf tb) → BufTy
  | .hbm, ⟨0, _⟩ => ⟨S24576, .i32⟩
  | .hbm, ⟨1, _⟩ => ⟨S850000x448, .i8⟩
  | .hbm, ⟨2, _⟩ => ⟨S_, .i32⟩
  | .hbm, ⟨3, _⟩ => ⟨S24576, .i32⟩
  | .hbm, ⟨4, _⟩ => ⟨S24576, .i1⟩
  | .hbm, ⟨5, _⟩ => ⟨S_, .i32⟩
  | .hbm, ⟨6, _⟩ => ⟨S24576, .i32⟩
  | .hbm, ⟨7, _⟩ => ⟨S24576, .i32⟩
  | .hbm, ⟨8, _⟩ => ⟨S24576, .i32⟩
  | .hbm, ⟨9, _⟩ => ⟨S24576x1, .i32⟩
  | .hbm, ⟨10, _⟩ => ⟨S24576x448, .i8⟩
  | .hbm, ⟨11, _⟩ => ⟨S24576x448, .i32⟩
  | .hbm, ⟨12, _⟩ => ⟨S4, .i32⟩
  | .hbm, ⟨13, _⟩ => ⟨S24576x112x4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S1x1x4, .i32⟩
  | .hbm, ⟨18, _⟩ => ⟨S24576x112x4, .i32⟩
  | .hbm, ⟨19, _⟩ => ⟨S24576x112x4, .i32⟩
  | .hbm, ⟨20, _⟩ => ⟨S_, .i32⟩
  | .hbm, ⟨21, _⟩ => ⟨S24576x112, .i32⟩
  | .hbm, ⟨22, _⟩ => ⟨S112x24576, .i32⟩
  | _, _ => ⟨S24576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Spec.lean ====
/-
  ONE ROW of the optimizer step, as plain mathematics on extended reals: from a row's summed gradient, its old
  weights, its momentum and its random words, the new momentum, the new weights, their smallest and largest value, and
  the row quantised again. Both programs are brought to these functions.
-/
module
public import Idealize.ShloMosaic.PureOps.Ideal
public import Idealize.ShloMosaic.Lib.Pointwise
@[expose] public section
noncomputable section
open Idealize.ShloMosaic
namespace Cert.Row

/-- A 32-bit float's pattern, read as an extended real. -/
abbrev lit (b : BitVec 32) : Ideal .f32 := Ideal.ofBits .f32 b

/-- The row's new momentum: the old one plus the mean of the squared gradient. -/
def state (g : Fin 448 → Ideal .f32) (mo : Ideal .f32) : Ideal .f32 :=
  mo + Ideal.div (∑ d, g d * g d) (lit 1138753536#32)

/-- Weight `d` of the row: the old code times the row's scale plus its bias. -/
def old (k : BitVec 32) (sc bi : Ideal .f32) : Ideal .f32 :=
  (FloatOps.sitofp FTy.f32 k : Ideal .f32) * sc + bi

/-- The row's new weights: the old weights less the step size times the gradient. -/
def newW (g w : Fin 448 → Ideal .f32) (mo : Ideal .f32) (d : Fin 448) : Ideal .f32 :=
  w d - Ideal.div (lit 1017370378#32) (Ideal.sqrt (state g mo) + lit 841731191#32) * g d

/-- The smallest entry of a row. -/
def lo (x : Fin 448 → Ideal .f32) : Ideal .f32 := Finset.fold min (lit 2139095040#32) x Finset.univ
/-- The largest entry of a row. -/
def hi (x : Fin 448 → Ideal .f32) : Ideal .f32 := Finset.fold max (lit 4286578688#32) x Finset.univ
/-- The row's new scale: its range over 255. -/
def scale (x : Fin 448 → Ideal .f32) : Ideal .f32 := Ideal.div (hi x - lo x) (lit 1132396544#32)

/-- Entry `d` of the row quantised to eight bits, `r` the top 24 bits of its random word. -/
def code (x : Fin 448 → Ideal .f32) (r : BitVec 32) (d : Fin 448) : BitVec 8 :=
  BitVec.setWidth 8 (FloatOps.fptosi (F := Ideal) (φ := .f32) 32 (min (lit 1132396544#32) (max 0 (Ideal.liftRound Int.floor
    ((x d - lo x) * Ideal.div (lit 1132396544#32) (hi x - lo x + lit 841731191#32)
      + (FloatOps.sitofp FTy.f32 r : Ideal .f32) * lit 864026624#32)))))

/-- Byte `b` of a 32-bit word, counted from the low end, as a 32-bit number. -/
def byte (w : BitVec 32) (b : Nat) : BitVec 32 := (w >>> (8 * b)) &&& 255#32

end Cert.Row
-- ==== Proof.Chunk.lean ====
/-
  ONE CHUNK OF THE KERNEL'S BODY: 128 of a block's 512 rows. The body writes the same computation four times over; its
  payloads are given names here once (`cState` …), and each is read at a row as Spec.lean's functions of that row.
-/
module
public import proofs.«01_k».proof.Proof.Spec
public import proofs.«01_k».proof.Proof.Gen.KernelIdeal.Skeleton
public import Idealize.ShloMosaic.Lib.Tactic
public import Idealize.ShloMosaic.Lib.BitcastFour
@[expose] public section
set_option maxRecDepth 16384
noncomputable section
open Idealize.ShloMosaic Idealize.ShloMosaic.TcCoe Idealize.SL.Sem
namespace Cert.KernelIdeal.V
open Cert.KernelIdeal Cert.KernelIdeal.Gen

section any
variable {F : FTy → Type} [FloatOps F]
/-- A chunk's new momenta. -/
def cState (g : Vec F S448x128 .f32) (mo : Vec F S1x128 .f32) : Vec F S1x128 .f32 := k0_pay38 (k0_pay36 mo) (k0_pay37 g)
/-- A chunk's new weights. -/
def cNew (g : Vec F S448x128 .f32) (w : Vec F S112x128 .i32) (sc bi mo : Vec F S1x128 .f32) : Vec F S448x128 .f32 :=
  k0_pay39 g (k0_pay35 w sc bi) (k0_pay36 mo) (k0_pay37 g)
/-- A chunk's new biases. -/
def cBias (g : Vec F S448x128 .f32) (w : Vec F S112x128 .i32) (sc bi mo : Vec F S1x128 .f32) : Vec F S1x128 .f32 :=
  k0_pay40 g (k0_pay35 w sc bi) (k0_pay36 mo) (k0_pay37 g)
/-- A chunk's new scales. -/
def cScale (g : Vec F S448x128 .f32) (w : Vec F S112x128 .i32) (sc bi mo : Vec F S1x128 .f32) : Vec F S1x128 .f32 :=
  k0_pay43 g (k0_pay35 w sc bi) (k0_pay36 mo) (k0_pay37 g)
/-- A chunk's new codes. -/
def cCodes (g : Vec F S448x128 .f32) (w : Vec F S112x128 .i32) (rb : Vec F S448x128 .i32) (sc bi mo : Vec F S1x128 .f32) : Vec F S448x128 .i8 :=
  k0_pay42 g (k0_pay35 w sc bi) (k0_pay36 mo) (k0_pay37 g) rb
end any

/-- A column of a chunk. -/
abbrev col {n m : Nat} {α : Type} (g : (⟨2, ![n, m]⟩ : Shape).Idx → α) (l : Fin m) : Fin n → α := fun d => g (ix2 d l)

/-- Four rows of bytes lie in one row of words: row `d` of the bytes is byte `d % 4` of row `d / 4` of the words. -/
theorem bytes_apply (w : Vec Ideal S112x128 .i32) (d : Fin 448) (l : Fin 128) :
    BitVec.setWidth 32 (bitcast S448x128 8 w bitcasts_S112x128_w32_S448x128_w8 (ix2 d l))
      = Row.byte (w (ix2 ⟨d.val / 4, by omega⟩ l)) (d.val % 4) := by
  apply BitVec.eq_of_getLsbD_eq
  intro q hq
  unfold Row.byte
  rw [BitVec.getLsbD_setWidth, BitVec.getLsbD_and, BitVec.getLsbD_ushiftRight]
  have h255 : (255#32 : BitVec 32).getLsbD q = decide (q < 8) := by
    interval_cases q <;> rfl
  rw [h255]
  by_cases h8 : q < 8
  · rw [bitcast_getLsbD _ _ _ q h8 (by decide)]
    simp only [hq, h8, decide_true, Bool.true_and, Bool.and_true]
    have hr : Shape.row (s := S448x128) (ix2 d l) = d.val := rfl
    have e2 : (Shape.row (s := S448x128) (ix2 d l) * 8 + q) % 32 = 8 * (d.val % 4) + q := by rw [hr]; omega
    rw [e2]
    congr 2
    funext c
    match c with
    | ⟨0, _⟩ => exact Fin.ext ((Shape.Bitcasts.srcIdx_row _ _ _ _ ⟨0, Nat.zero_lt_two⟩ rfl).trans (by rw [hr]; show _ = d.val / 4; omega))
    | ⟨1, _⟩ => exact Fin.ext (Shape.Bitcasts.srcIdx_other _ _ _ _ ⟨1, Nat.one_lt_two⟩ (by show ¬ 1 + 2 = 2; omega))
  · simp only [h8, decide_false, Bool.and_false]
    rw [BitVec.getLsbD_of_ge _ _ (by omega), Bool.and_false]

/-- The sum of squares of a lane's gradient. -/
theorem sum_apply (g : Vec Ideal S448x128 .f32) (l : Fin 128) : k0_pay37 g (ix1 l) = ∑ d, col g l d * col g l d := by
  unfold k0_pay37
  pointwise

/-- A lane's new momentum. -/
theorem cState_apply (g : Vec Ideal S448x128 .f32) (mo : Vec Ideal S1x128 .f32) (l : Fin 128) :
    cState g mo (ix2 0 l) = Row.state (col g l) (mo (ix2 0 l)) := by
  unfold cState k0_pay38 k0_pay36 Row.state
  pointwise [sum_apply]

/-- A lane's old weights. -/
theorem old_apply (w : Vec Ideal S112x128 .i32) (sc bi : Vec Ideal S1x128 .f32) (d : Fin 448) (l : Fin 128) :
    k0_pay35 w sc bi (ix2 d l) = Row.old (Row.byte (w (ix2 ⟨d.val / 4, by omega⟩ l)) (d.val % 4)) (sc (ix2 0 l)) (bi (ix2 0 l)) := by
  unfold k0_pay35 Row.old
  rw [← bytes_apply]
  pointwise

/-- The old weights of the row in lane `l`. -/
def oldRow {n : Nat} (w : (⟨2, ![112, n]⟩ : Shape).Idx → BitVec 32) (sc bi : (⟨2, ![1, n]⟩ : Shape).Idx → Ideal .f32) (l : Fin n) (d : Fin 448) : Ideal .f32 :=
  Row.old (Row.byte (w (ix2 ⟨d.val / 4, by omega⟩ l)) (d.val % 4)) (sc (ix2 0 l)) (bi (ix2 0 l))

/-- The new weights of the row in lane `l`. -/
def newRow {n : Nat} (g : (⟨2, ![448, n]⟩ : Shape).Idx → Ideal .f32) (w : (⟨2, ![112, n]⟩ : Shape).Idx → BitVec 32) (sc bi mo : (⟨2, ![1, n]⟩ : Shape).Idx → Ideal .f32) (l : Fin n) : Fin 448 → Ideal .f32 :=
  Row.newW (col g l) (oldRow w sc bi l) (mo (ix2 0 l))

/-- A lane's new weights. -/
theorem cNew_apply (g : Vec Ideal S448x128 .f32) (w : Vec Ideal S112x128 .i32) (sc bi mo : Vec Ideal S1x128 .f32) (d : Fin 448) (l : Fin 128) :
    cNew g w sc bi mo (ix2 d l) = newRow g w sc bi mo l d := by
  have e := cState_apply g mo l
  unfold cState at e
  unfold cNew k0_pay39 newRow Row.newW oldRow
  pointwise [e, old_apply]

/-- A lane's new bias. -/
theorem cBias_apply (g : Vec Ideal S448x128 .f32) (w : Vec Ideal S112x128 .i32) (sc bi mo : Vec Ideal S1x128 .f32) (l : Fin 128) :
    cBias g w sc bi mo (ix2 0 l) = Row.lo (newRow g w sc bi mo l) := by
  have e := fun d => cNew_apply g w sc bi mo d l
  unfold cNew at e
  unfold cBias k0_pay40 Row.lo
  pointwise [e]

/-- A lane's range of new weights. -/
theorem cRng_apply (g : Vec Ideal S448x128 .f32) (w : Vec Ideal S112x128 .i32) (sc bi mo : Vec Ideal S1x128 .f32) (l : Fin 128) :
    k0_pay41 g (k0_pay35 w sc bi) (k0_pay36 mo) (k0_pay37 g) (ix2 0 l) = Row.hi (newRow g w sc bi mo l) - Row.lo (newRow g w sc bi mo l) := by
  have e := fun d => cNew_apply g w sc bi mo d l
  have e' := cBias_apply g w sc bi mo l
  unfold cNew at e
  unfold cBias at e'
  unfold k0_pay41 Row.hi
  pointwise [e, e']

/-- A lane's new scale. -/
theorem cScale_apply (g : Vec Ideal S448x128 .f32) (w : Vec Ideal S112x128 .i32) (sc bi mo : Vec Ideal S1x128 .f32) (l : Fin 128) :
    cScale g w sc bi mo (ix2 0 l) = Row.scale (newRow g w sc bi mo l) := by
  unfold cScale k0_pay43 Row.scale
  pointwise [cRng_apply g w sc bi mo l]

/-- A lane's new codes. -/
theorem cCodes_apply (g : Vec Ideal S448x128 .f32) (w : Vec Ideal S112x128 .i32) (rb : Vec Ideal S448x128 .i32) (sc bi mo : Vec Ideal S1x128 .f32) (d : Fin 448) (l : Fin 128) :
    cCodes g w rb sc bi mo (ix2 d l) = Row.code (newRow g w sc bi mo l) (IntOp.shrui .vector (rb (ix2 d l)) 8#32) d := by
  have e := fun d => cNew_apply g w sc bi mo d l
  have e' := cBias_apply g w sc bi mo l
  unfold cNew at e
  unfold cBias at e'
  unfold cCodes k0_pay42 Row.code
  pointwise [e, e', cRng_apply g w sc bi mo l]

/-- A lookup count: the low half of a packed word for the first 192 bags, the high half for the others. -/
def cntOf {n : Nat} (w : (⟨2, ![192, n]⟩ : Shape).Idx → BitVec 32) (l : Fin n) (k : Fin 384) : BitVec 32 :=
  if h : k.val < 192 then IntOp.andi (w (ix2 ⟨k.val, h⟩ l)) 65535#32
  else IntOp.shrsi .vector (w (ix2 ⟨k.val - 192, by omega⟩ l)) 16#32

/-- The matrix product, at an entry. -/
theorem matmul_apply (w : Vec Ideal S192x512 .i32) (x : Vec Ideal S448x1152 .bf16) (d : Fin 448) (l : Fin 512) :
    k0_pay8 w x (ix2 d l) = ∑ k : Fin 1152, (x (ix2 d k) : EReal) * (FloatOps.sitofp (F := Ideal) FTy.f32 (cntOf w l ⟨k.val % 384, by omega⟩) : EReal) := by
  unfold k0_pay8 cntOf
  pointwise
  refine Finset.sum_congr rfl fun k _ => congrArg (_ * ·) ?_
  have hk := k.isLt
  by_cases h1 : k.val < 192
  · have : k.val % 384 = k.val := by omega
    simp only [h1, this, dite_true]
  by_cases h2 : k.val < 384
  · have : k.val % 384 = k.val := by omega
    have h2' : k.val - 192 < 192 := by omega
    simp only [h1, h2', this, dite_true, dite_false]
  by_cases h3 : k.val < 576
  · have : k.val % 384 = k.val - 192 - 192 := by omega
    have h2' : ¬ k.val - 192 < 192 := by omega
    have h3' : k.val - 192 - 192 < 192 := by omega
    simp only [h1, h2', h3', this, dite_true, dite_false]
  by_cases h4 : k.val < 768
  · have : k.val % 384 = k.val - 192 - 192 := by omega
    have h2' : ¬ k.val - 192 < 192 := by omega
    have h3' : ¬ k.val - 192 - 192 < 192 := by omega
    have h4' : k.val - 192 - 192 - 192 < 192 := by omega
    simp only [h1, h2', h3', h4', this, dite_true, dite_false]
  by_cases h5 : k.val < 960
  · have : k.val % 384 = k.val - 192 - 192 - 192 - 192 := by omega
    have h2' : ¬ k.val - 192 < 192 := by omega
    have h3' : ¬ k.val - 192 - 192 < 192 := by omega
    have h4' : ¬ k.val - 192 - 192 - 192 < 192 := by omega
    have h5' : k.val - 192 - 192 - 192 - 192 < 192 := by omega
    simp only [h1, h2', h3', h4', h5', this, dite_true, dite_false]
  · have : k.val % 384 = k.val - 192 - 192 - 192 - 192 := by omega
    have h2' : ¬ k.val - 192 < 192 := by omega
    have h3' : ¬ k.val - 192 - 192 < 192 := by omega
    have h4' : ¬ k.val - 192 - 192 - 192 < 192 := by omega
    have h5' : ¬ k.val - 192 - 192 - 192 - 192 < 192 := by omega
    simp only [h1, h2', h3', h4', h5', this, dite_false]

/-- The first part of the gradient. -/
theorem hi_apply (x : Vec Ideal S448x384 .f32) : k0_pay5 x = x := by
  unfold k0_pay5 k0_pay2 k0_pay1
  funext j
  pointwise

/-- The second part of the gradient. -/
theorem mid_apply (x : Vec Ideal S448x384 .f32) : k0_pay6 x = fun j => x j - x j := by
  unfold k0_pay6 k0_pay4 k0_pay3 k0_pay2 k0_pay1
  funext j
  pointwise

/-- The third part of the gradient. -/
theorem low_apply (x : Vec Ideal S448x384 .f32) : k0_pay7 x = fun j => x j - x j - (x j - x j) := by
  unfold k0_pay7 k0_pay4 k0_pay3 k0_pay2 k0_pay1
  funext j
  pointwise

end Cert.KernelIdeal.V
-- ==== Proof.Block.lean ====
/-
  ONE BLOCK of the kernel, 512 rows: what the body leaves in each output window, as Spec.lean's functions of the block's
  rows. The gradient block is the counts' product with the split gradient in the scratch; the first point fills the
  scratch, every later point finds it there.
-/
module
public import proofs.«01_k».proof.Proof.Chunk
public import proofs.«01_k».proof.Proof.Gen.KernelIdeal.Value
public import Idealize.ShloMosaic.Lib.Tactic
@[expose] public section
set_option maxRecDepth 65536
set_option backward.isDefEq.respectTransparency false
noncomputable section
open Idealize.ShloMosaic Idealize.ShloMosaic.TcCoe Idealize.SL.Sem
namespace Cert.KernelIdeal.V
open Cert.KernelIdeal Cert.KernelIdeal.Gen

/-- The gradient block: split gradient times counts. -/
def gBlk (x1 : Vec Ideal S192x512 .i32) (G : Vec Ideal S448x1152 .bf16) : Vec Ideal S448x512 .f32 := k0_pay8 x1 G

/-- The parts of a gradient entry: itself, the rest after the first part, the rest after the second. -/
def part3 (k : Nat) (y : Ideal .f32) : Ideal .bf16 :=
  if k < 384 then y else if k < 768 then y - y else y - y - (y - y)

/-- The gradient split in three parts side by side. -/
def grad3 (x0 : Vec Ideal S448x384 .f32) : Vec Ideal S448x1152 .bf16 := fun j =>
  part3 (j 1).val (x0 (ix2 (j 0) ⟨(j 1).val % 384, Nat.mod_lt _ (by decide)⟩))

/-- A block's new momenta. -/
def oState (g : Vec Ideal S448x512 .f32) (mo : Vec Ideal S1x512 .f32) : Vec Ideal S1x512 .f32 :=
  fun j => Row.state (col g (j 1)) (mo (ix2 0 (j 1)))
/-- A block's new biases. -/
def oBias (g : Vec Ideal S448x512 .f32) (w : Vec Ideal S112x512 .i32) (sc bi mo : Vec Ideal S1x512 .f32) : Vec Ideal S1x512 .f32 :=
  fun j => Row.lo (newRow g w sc bi mo (j 1))
/-- A block's new scales. -/
def oScale (g : Vec Ideal S448x512 .f32) (w : Vec Ideal S112x512 .i32) (sc bi mo : Vec Ideal S1x512 .f32) : Vec Ideal S1x512 .f32 :=
  fun j => Row.scale (newRow g w sc bi mo (j 1))
/-- A block's new codes. -/
def oCodes (g : Vec Ideal S448x512 .f32) (w : Vec Ideal S112x512 .i32) (rb : Vec Ideal S448x512 .i32) (sc bi mo : Vec Ideal S1x512 .f32) : Vec Ideal S448x512 .i8 :=
  fun j => Row.code (newRow g w sc bi mo (j 1)) (IntOp.shrui .vector (rb j) 8#32) (j 0)

/-! ## Loads of part of a block -/

/-- A load of the whole block is the block. -/
theorem ld_full0 (x : Vec Ideal S448x384 .f32) (h) : View.ld x (Rect.unit (s := S448x384) ![0, 0] ![448, 384] h) = x :=
  View.ld_unit_zero (by funext a; fin_cases a <;> rfl) _ _
/-- A load of the whole block is the block. -/
theorem ld_full1 (x : Vec Ideal S192x512 .i32) (h) : View.ld x (Rect.unit (s := S192x512) ![0, 0] ![192, 512] h) = x :=
  View.ld_unit_zero (by funext a; fin_cases a <;> rfl) _ _
/-- A load of the whole block is the block. -/
theorem ld_full3 (x : Vec Ideal S448x1152 .bf16) (h) : View.ld x (Rect.unit (s := S448x1152) ![0, 0] ![448, 1152] h) = x :=
  View.ld_unit_zero (by funext a; fin_cases a <;> rfl) _ _

/-- A unit rectangle's place at rank 2. -/
theorem emb_ix2 {n m p q o : Nat} (h : ∀ a, ![0, o] a + ![p, q] a ≤ (⟨2, ![n, m]⟩ : Shape).size a) (a : Fin p) (l : Fin q) :
    (Rect.unit (s := ⟨2, ![n, m]⟩) ![0, o] ![p, q] h).emb (ix2 a l)
      = ix2 ⟨a.val, Nat.lt_of_lt_of_le a.isLt ((Nat.zero_add p) ▸ h 0)⟩ ⟨o + l.val, Nat.lt_of_lt_of_le (Nat.add_lt_add_left l.isLt o) (h 1)⟩ := by
  funext b
  match b with
  | ⟨0, _⟩ => exact Fin.ext (show 0 + 1 * a.val = a.val by omega)
  | ⟨1, _⟩ => exact Fin.ext (show o + 1 * l.val = o + l.val by omega)

/-- A load of some columns, at an entry. -/
theorem ld_ix2 {e : EltTy} {n m p q o : Nat} (X : (⟨2, ![n, m]⟩ : Shape).Idx → Elt Ideal e) (h : ∀ a, ![0, o] a + ![p, q] a ≤ (⟨2, ![n, m]⟩ : Shape).size a) (a : Fin p) (l : Fin q) :
    View.ld X (Rect.unit (s := ⟨2, ![n, m]⟩) ![0, o] ![p, q] h) (ix2 a l)
      = X (ix2 ⟨a.val, Nat.lt_of_lt_of_le a.isLt ((Nat.zero_add p) ▸ h 0)⟩ ⟨o + l.val, Nat.lt_of_lt_of_le (Nat.add_lt_add_left l.isLt o) (h 1)⟩) :=
  congrArg X (emb_ix2 h a l)

/-- A load of part of a buffer one store filled reads that part of the store. -/
theorem readCov_whole {sig : RefSig} {κ : Kind} {sp : Space} (v : View sig κ sp S448x512 .f32) (P : Vec Ideal S448x512 .f32) (h) (off size : Fin S448x512.rank → Nat) (h') :
    v.readCov [(⟨Rect.unit (s := S448x512) ![0, 0] ![448, 512] h, P⟩ : View.Piece (Elt Ideal) S448x512 .f32)] (Rect.unit off size h').toLoadRect
      = View.ld P (Rect.unit off size h') := by
  rw [View.readCov_eq_canon', View.canon_unit_zero (by funext a; fin_cases a <;> rfl)]

/-- Four stores of 128 lanes each, all of one function, leave that function. -/
theorem canon4 {e : EltTy} {n : Nat} (h3 h2 h1 h0) (p3 p2 p1 p0 : (⟨2, ![n, 128]⟩ : Shape).Idx → Elt Ideal e) (G : (⟨2, ![n, 512]⟩ : Shape).Idx → Elt Ideal e)
    (e3 : ∀ x, p3 x = G ((Rect.unit (s := ⟨2, ![n, 512]⟩) ![0, 384] ![n, 128] h3).emb x))
    (e2 : ∀ x, p2 x = G ((Rect.unit (s := ⟨2, ![n, 512]⟩) ![0, 256] ![n, 128] h2).emb x))
    (e1 : ∀ x, p1 x = G ((Rect.unit (s := ⟨2, ![n, 512]⟩) ![0, 128] ![n, 128] h1).emb x))
    (e0 : ∀ x, p0 x = G ((Rect.unit (s := ⟨2, ![n, 512]⟩) ![0, 0] ![n, 128] h0).emb x)) :
    View.canon (Val := Elt Ideal) [⟨Rect.unit (s := ⟨2, ![n, 512]⟩) ![0, 384] ![n, 128] h3, p3⟩, ⟨Rect.unit (s := ⟨2, ![n, 512]⟩) ![0, 256] ![n, 128] h2, p2⟩,
      ⟨Rect.unit (s := ⟨2, ![n, 512]⟩) ![0, 128] ![n, 128] h1, p1⟩, ⟨Rect.unit (s := ⟨2, ![n, 512]⟩) ![0, 0] ![n, 128] h0, p0⟩] = G := by
  funext y
  refine View.canon_apply_of_pieces G _ ?_ y ?_
  · intro p hp
    simp only [List.mem_cons, List.not_mem_nil, or_false] at hp
    rcases hp with rfl | rfl | rfl | rfl
    exacts [e3, e2, e1, e0]
  · have hy1 : (y 1).val < 512 := (y 1).isLt
    have key : ∀ (o : Nat) (h), o ≤ (y 1).val → (y 1).val < o + 128 → y ∈ (Rect.unit (s := ⟨2, ![n, 512]⟩) ![0, o] ![n, 128] h).set := by
      intro o h ha hb
      have : (Rect.unit (s := ⟨2, ![n, 512]⟩) ![0, o] ![n, 128] h).emb (ix2 (y 0) ⟨(y 1).val - o, by omega⟩) = y := by
        rw [emb_ix2]
        funext b
        match b with
        | ⟨0, _⟩ => rfl
        | ⟨1, _⟩ => exact Fin.ext (show o + ((y 1).val - o) = (y 1).val by omega)
      rw [← this]
      rw [← Rect.map_emb_univ]
      exact Finset.mem_map_of_mem _ (Finset.mem_univ _)
    by_cases c0 : (y 1).val < 128
    · exact ⟨_, List.mem_cons_of_mem _ (List.mem_cons_of_mem _ (List.mem_cons_of_mem _ (List.mem_cons_self ..))), key 0 h0 (by omega) (by omega)⟩
    by_cases c1 : (y 1).val < 256
    · exact ⟨_, List.mem_cons_of_mem _ (List.mem_cons_of_mem _ (List.mem_cons_self ..)), key 128 h1 (by omega) (by omega)⟩
    by_cases c2 : (y 1).val < 384
    · exact ⟨_, List.mem_cons_of_mem _ (List.mem_cons_self ..), key 256 h2 (by omega) (by omega)⟩
    · exact ⟨_, List.mem_cons_self .., key 384 h3 (by omega) (by omega)⟩

/-- The three stored parts, side by side. -/
theorem canon3 (x0 : Vec Ideal S448x384 .f32) (h2 h1 h0) :
    View.canon (Val := Elt Ideal) [(⟨Rect.unit (s := S448x1152) ![0, 768] ![448, 384] h2, k0_pay7 x0⟩ : View.Piece (Elt Ideal) S448x1152 .bf16),
      ⟨Rect.unit (s := S448x1152) ![0, 384] ![448, 384] h1, k0_pay6 x0⟩, ⟨Rect.unit (s := S448x1152) ![0, 0] ![448, 384] h0, k0_pay5 x0⟩] = grad3 x0 := by
  rw [hi_apply, mid_apply, low_apply]
  have part : ∀ (o : Nat) (h) (x : S448x384.Idx), o % 384 = 0 → o < 1152 →
      grad3 x0 ((Rect.unit (s := S448x1152) ![0, o] ![448, 384] h).emb x) = part3 o (x0 x) := by
    intro o h x ho ho'
    obtain ⟨a, l, rfl⟩ : ∃ (a : Fin 448) (l : Fin 384), x = ix2 a l := ⟨x 0, x 1, (ix2_eta x).symm⟩
    rw [emb_ix2]
    have hl := l.isLt
    have e : (⟨(o + l.val) % 384, Nat.mod_lt _ (by decide)⟩ : Fin 384) = l := Fin.ext (show (o + l.val) % 384 = l.val by omega)
    show part3 (o + l.val) (x0 (ix2 a ⟨(o + l.val) % 384, _⟩)) = _
    rw [e]
    have i1 : (o + l.val < 384) = (o < 384) := by apply propext; omega
    have i2 : (o + l.val < 768) = (o < 768) := by apply propext; omega
    unfold part3
    simp only [i1, i2]
  funext y
  refine View.canon_apply_of_pieces (grad3 x0) _ ?_ y ?_
  · intro p hp
    simp only [List.mem_cons, List.not_mem_nil, or_false] at hp
    rcases hp with rfl | rfl | rfl
    · intro x; exact (part 768 h2 x (by decide) (by decide)).symm
    · intro x; exact (part 384 h1 x (by decide) (by decide)).symm
    · intro x; exact (part 0 h0 x (by decide) (by decide)).symm
  · have hy1 : (y 1).val < 1152 := (y 1).isLt
    have key : ∀ (o : Nat) (h), o ≤ (y 1).val → (y 1).val < o + 384 → y ∈ (Rect.unit (s := S448x1152) ![0, o] ![448, 384] h).set := by
      intro o h ha hb
      have : (Rect.unit (s := S448x1152) ![0, o] ![448, 384] h).emb (ix2 (y 0) ⟨(y 1).val - o, by omega⟩) = y := by
        rw [emb_ix2]
        funext b
        match b with
        | ⟨0, _⟩ => rfl
        | ⟨1, _⟩ => exact Fin.ext (show o + ((y 1).val - o) = (y 1).val by omega)
      rw [← this]
      rw [← Rect.map_emb_univ]
      exact Finset.mem_map_of_mem _ (Finset.mem_univ _)
    by_cases c0 : (y 1).val < 384
    · exact ⟨_, List.mem_cons_of_mem _ (List.mem_cons_of_mem _ (List.mem_cons_self ..)), key 0 h0 (by omega) (by omega)⟩
    by_cases c1 : (y 1).val < 768
    · exact ⟨_, List.mem_cons_of_mem _ (List.mem_cons_self ..), key 384 h1 (by omega) (by omega)⟩
    · exact ⟨_, List.mem_cons_self .., key 768 h2 (by omega) (by omega)⟩

/-- The scratch read after its three column groups are written is the split gradient. -/
theorem readCov_split {sig : RefSig} {κ : Kind} {sp : Space} (v : View sig κ sp S448x1152 .bf16) (x0 : Vec Ideal S448x384 .f32) (h2 h1 h0 h) :
    v.readCov (Val := Elt Ideal) [(⟨Rect.unit (s := S448x1152) ![0, 768] ![448, 384] h2, k0_pay7 x0⟩ : View.Piece (Elt Ideal) S448x1152 .bf16),
      ⟨Rect.unit (s := S448x1152) ![0, 384] ![448, 384] h1, k0_pay6 x0⟩, ⟨Rect.unit (s := S448x1152) ![0, 0] ![448, 384] h0, k0_pay5 x0⟩]
      (Rect.unit (s := S448x1152) ![0, 0] ![448, 1152] h).toLoadRect = grad3 x0 := by
  rw [View.readCov_eq_canon', canon3]
  exact ld_full3 _ h

/-! ## Each store of 128 lanes is the block's function there -/

/-- The columns of a part are the block's columns. -/
theorem col_ld {n o : Nat} (g : (⟨2, ![n, 512]⟩ : Shape).Idx → Ideal .f32) (h) (l : Fin 128) (h' : o + l.val < 512) :
    col (View.ld (Val := Elt Ideal) (e' := .f32) g (Rect.unit (s := ⟨2, ![n, 512]⟩) ![0, o] ![n, 128] h)) l = col g ⟨o + l.val, h'⟩ :=
  funext fun d => ld_ix2 (e := .f32) g h d l

/-- The new weights of a lane of a 128-column piece are those of the block's lane. -/
theorem newRow_ld {o : Nat} (g : Vec Ideal S448x512 .f32) (w : Vec Ideal S112x512 .i32) (sc bi mo : Vec Ideal S1x512 .f32) (h h1 h2) (l : Fin 128) (h' : o + l.val < 512) :
    newRow (View.ld g (Rect.unit (s := S448x512) ![0, o] ![448, 128] h)) (View.ld w (Rect.unit (s := S112x512) ![0, o] ![112, 128] h1))
      (View.ld sc (Rect.unit (s := S1x512) ![0, o] ![1, 128] h2)) (View.ld bi (Rect.unit (s := S1x512) ![0, o] ![1, 128] h2)) (View.ld mo (Rect.unit (s := S1x512) ![0, o] ![1, 128] h2)) l
      = newRow g w sc bi mo ⟨o + l.val, h'⟩ := by
  unfold newRow
  rw [show col (View.ld g (Rect.unit (s := S448x512) ![0, o] ![448, 128] h)) l = col g ⟨o + l.val, h'⟩ from col_ld g h l h',
    ld_ix2 (e := .f32) mo h2 0 l]
  have : oldRow (View.ld w (Rect.unit (s := S112x512) ![0, o] ![112, 128] h1)) (View.ld sc (Rect.unit (s := S1x512) ![0, o] ![1, 128] h2)) (View.ld bi (Rect.unit (s := S1x512) ![0, o] ![1, 128] h2)) l
      = oldRow w sc bi ⟨o + l.val, h'⟩ := by
    funext d
    unfold oldRow
    rw [ld_ix2 (e := .f32) sc h2 0 l, ld_ix2 (e := .f32) bi h2 0 l, ld_ix2 (e := .i32) w h1 _ l]
  rw [this]

/-- A lane of a 128-column piece lies in the block. -/
theorem lane_lt {n o : Nat} (h : ∀ a, ![0, o] a + ![n, 128] a ≤ (⟨2, ![n, 512]⟩ : Shape).size a) (l : Fin 128) : o + l.val < 512 :=
  Nat.lt_of_lt_of_le (Nat.add_lt_add_left l.isLt o) (h 1)

/-- A piece of the momenta is the block's momenta there. -/
theorem state_piece {o : Nat} (g : Vec Ideal S448x512 .f32) (mo : Vec Ideal S1x512 .f32) (h h2 h3) (x : S1x128.Idx) :
    cState (View.ld g (Rect.unit (s := S448x512) ![0, o] ![448, 128] h)) (View.ld mo (Rect.unit (s := S1x512) ![0, o] ![1, 128] h2)) x
      = oState g mo ((Rect.unit (s := S1x512) ![0, o] ![1, 128] h3).emb x) := by
  obtain ⟨a, l, rfl⟩ : ∃ (a : Fin 1) (l : Fin 128), x = ix2 a l := ⟨x 0, x 1, (ix2_eta x).symm⟩
  obtain rfl : a = 0 := Subsingleton.elim _ _
  rw [cState_apply, emb_ix2, col_ld g h l (lane_lt h l), ld_ix2 (e := .f32) mo h2 0 l]
  rfl

/-- A piece of the biases is the block's biases there. -/
theorem bias_piece {o : Nat} (g : Vec Ideal S448x512 .f32) (w : Vec Ideal S112x512 .i32) (sc bi mo : Vec Ideal S1x512 .f32) (h h1 h2 h3) (x : S1x128.Idx) :
    cBias (View.ld g (Rect.unit (s := S448x512) ![0, o] ![448, 128] h)) (View.ld w (Rect.unit (s := S112x512) ![0, o] ![112, 128] h1))
      (View.ld sc (Rect.unit (s := S1x512) ![0, o] ![1, 128] h2)) (View.ld bi (Rect.unit (s := S1x512) ![0, o] ![1, 128] h2)) (View.ld mo (Rect.unit (s := S1x512) ![0, o] ![1, 128] h2)) x
      = oBias g w sc bi mo ((Rect.unit (s := S1x512) ![0, o] ![1, 128] h3).emb x) := by
  obtain ⟨a, l, rfl⟩ : ∃ (a : Fin 1) (l : Fin 128), x = ix2 a l := ⟨x 0, x 1, (ix2_eta x).symm⟩
  obtain rfl : a = 0 := Subsingleton.elim _ _
  rw [cBias_apply, emb_ix2, newRow_ld g w sc bi mo h h1 h2 l (lane_lt h l)]
  rfl

/-- A piece of the scales is the block's scales there. -/
theorem scale_piece {o : Nat} (g : Vec Ideal S448x512 .f32) (w : Vec Ideal S112x512 .i32) (sc bi mo : Vec Ideal S1x512 .f32) (h h1 h2 h3) (x : S1x128.Idx) :
    cScale (View.ld g (Rect.unit (s := S448x512) ![0, o] ![448, 128] h)) (View.ld w (Rect.unit (s := S112x512) ![0, o] ![112, 128] h1))
      (View.ld sc (Rect.unit (s := S1x512) ![0, o] ![1, 128] h2)) (View.ld bi (Rect.unit (s := S1x512) ![0, o] ![1, 128] h2)) (View.ld mo (Rect.unit (s := S1x512) ![0, o] ![1, 128] h2)) x
      = oScale g w sc bi mo ((Rect.unit (s := S1x512) ![0, o] ![1, 128] h3).emb x) := by
  obtain ⟨a, l, rfl⟩ : ∃ (a : Fin 1) (l : Fin 128), x = ix2 a l := ⟨x 0, x 1, (ix2_eta x).symm⟩
  obtain rfl : a = 0 := Subsingleton.elim _ _
  rw [cScale_apply, emb_ix2, newRow_ld g w sc bi mo h h1 h2 l (lane_lt h l)]
  rfl

/-- A piece of the codes is the block's codes there. -/
theorem codes_piece {o : Nat} (g : Vec Ideal S448x512 .f32) (w : Vec Ideal S112x512 .i32) (rb : Vec Ideal S448x512 .i32) (sc bi mo : Vec Ideal S1x512 .f32) (h h1 h2 h3 h4) (x : S448x128.Idx) :
    cCodes (View.ld g (Rect.unit (s := S448x512) ![0, o] ![448, 128] h)) (View.ld w (Rect.unit (s := S112x512) ![0, o] ![112, 128] h1))
      (View.ld rb (Rect.unit (s := S448x512) ![0, o] ![448, 128] h4))
      (View.ld sc (Rect.unit (s := S1x512) ![0, o] ![1, 128] h2)) (View.ld bi (Rect.unit (s := S1x512) ![0, o] ![1, 128] h2)) (View.ld mo (Rect.unit (s := S1x512) ![0, o] ![1, 128] h2)) x
      = oCodes g w rb sc bi mo ((Rect.unit (s := S448x512) ![0, o] ![448, 128] h3).emb x) := by
  obtain ⟨a, l, rfl⟩ : ∃ (a : Fin 448) (l : Fin 128), x = ix2 a l := ⟨x 0, x 1, (ix2_eta x).symm⟩
  rw [cCodes_apply, emb_ix2, newRow_ld g w sc bi mo h h1 h2 l (lane_lt h l), ld_ix2 (e := .i32) rb h4 a l]
  rfl

/-! ## The body's named outputs -/

/-- What the body leaves in the window of the new codes at the first point, which fills the split gradient first. -/
theorem outA_7 (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = oCodes (gBlk x1 (grad3 x0)) x2 x3 x4 x5 x6 := by
  unfold out0_A_7
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, ld_full0, ld_full1, ld_full3, readCov_split, readCov_whole]
  exact canon4 _ _ _ _ _ _ _ _ _ (codes_piece _ _ _ _ _ _ _ _ _ _ _) (codes_piece _ _ _ _ _ _ _ _ _ _ _) (codes_piece _ _ _ _ _ _ _ _ _ _ _) (codes_piece _ _ _ _ _ _ _ _ _ _ _)

/-- What the body leaves in the window of the new scales at the first point, which fills the split gradient first. -/
theorem outA_8 (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = oScale (gBlk x1 (grad3 x0)) x2 x4 x5 x6 := by
  unfold out0_A_8
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, ld_full0, ld_full1, ld_full3, readCov_split, readCov_whole]
  exact canon4 _ _ _ _ _ _ _ _ _ (scale_piece _ _ _ _ _ _ _ _ _) (scale_piece _ _ _ _ _ _ _ _ _) (scale_piece _ _ _ _ _ _ _ _ _) (scale_piece _ _ _ _ _ _ _ _ _)

/-- What the body leaves in the window of the new biases at the first point, which fills the split gradient first. -/
theorem outA_9 (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = oBias (gBlk x1 (grad3 x0)) x2 x4 x5 x6 := by
  unfold out0_A_9
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, ld_full0, ld_full1, ld_full3, readCov_split, readCov_whole]
  exact canon4 _ _ _ _ _ _ _ _ _ (bias_piece _ _ _ _ _ _ _ _ _) (bias_piece _ _ _ _ _ _ _ _ _) (bias_piece _ _ _ _ _ _ _ _ _) (bias_piece _ _ _ _ _ _ _ _ _)

/-- What the body leaves in the window of the new momenta at the first point, which fills the split gradient first. -/
theorem outA_10 (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = oState (gBlk x1 (grad3 x0)) x6 := by
  unfold out0_A_10
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, ld_full0, ld_full1, ld_full3, readCov_split, readCov_whole]
  exact canon4 _ _ _ _ _ _ _ _ _ (state_piece _ _ _ _ _) (state_piece _ _ _ _ _) (state_piece _ _ _ _ _) (state_piece _ _ _ _ _)

/-- What the body leaves in the window of the new codes at a later point, over the split gradient the point before left. -/
theorem outB_7 (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : ¬ cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) (xs : Vec Ideal S448x1152 .bf16) :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs = oCodes (gBlk x1 xs) x2 x3 x4 x5 x6 := by
  unfold out0_B_7
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg12.read_unread, ld_full0, ld_full1, ld_full3, readCov_split, readCov_whole]
  exact canon4 _ _ _ _ _ _ _ _ _ (codes_piece _ _ _ _ _ _ _ _ _ _ _) (codes_piece _ _ _ _ _ _ _ _ _ _ _) (codes_piece _ _ _ _ _ _ _ _ _ _ _) (codes_piece _ _ _ _ _ _ _ _ _ _ _)

/-- What the body leaves in the window of the new scales at a later point, over the split gradient the point before left. -/
theorem outB_8 (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : ¬ cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) (xs : Vec Ideal S448x1152 .bf16) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs = oScale (gBlk x1 xs) x2 x4 x5 x6 := by
  unfold out0_B_8
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg12.read_unread, ld_full0, ld_full1, ld_full3, readCov_split, readCov_whole]
  exact canon4 _ _ _ _ _ _ _ _ _ (scale_piece _ _ _ _ _ _ _ _ _) (scale_piece _ _ _ _ _ _ _ _ _) (scale_piece _ _ _ _ _ _ _ _ _) (scale_piece _ _ _ _ _ _ _ _ _)

/-- What the body leaves in the window of the new biases at a later point, over the split gradient the point before left. -/
theorem outB_9 (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : ¬ cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) (xs : Vec Ideal S448x1152 .bf16) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs = oBias (gBlk x1 xs) x2 x4 x5 x6 := by
  unfold out0_B_9
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg12.read_unread, ld_full0, ld_full1, ld_full3, readCov_split, readCov_whole]
  exact canon4 _ _ _ _ _ _ _ _ _ (bias_piece _ _ _ _ _ _ _ _ _) (bias_piece _ _ _ _ _ _ _ _ _) (bias_piece _ _ _ _ _ _ _ _ _) (bias_piece _ _ _ _ _ _ _ _ _)

/-- What the body leaves in the window of the new momenta at a later point, over the split gradient the point before left. -/
theorem outB_10 (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : ¬ cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) (xs : Vec Ideal S448x1152 .bf16) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs = oState (gBlk x1 xs) x6 := by
  unfold out0_B_10
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg12.read_unread, ld_full0, ld_full1, ld_full3, readCov_split, readCov_whole]
  exact canon4 _ _ _ _ _ _ _ _ _ (state_piece _ _ _ _ _) (state_piece _ _ _ _ _) (state_piece _ _ _ _ _) (state_piece _ _ _ _ _)

/-- The first point leaves the split gradient in the scratch. -/
theorem soutA (c : Dev nD) (i : grid0.Coords) (arg1 : Memref sig .tc .vmem S448x384 .f32) (harg1 : arg1.IsWhole) (arg2 : Memref sig .tc .vmem S192x512 .i32) (harg2 : arg2.IsWhole) (arg3 : Memref sig .tc .vmem S112x512 .i32) (harg3 : arg3.IsWhole) (arg4 : Memref sig .tc .vmem S448x512 .i32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S448x512 .i8) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S448x1152 .bf16) (harg12 : arg12.IsWhole) (arg13 : Memref sig .tc .vmem S448x512 .f32) (harg13 : arg13.IsWhole) (hc0 : cond0_0 i)
    (x0 : Vec Ideal S448x384 .f32) (x1 : Vec Ideal S192x512 .i32) (x2 : Vec Ideal S112x512 .i32) (x3 : Vec Ideal S448x512 .i32) (x4 : Vec Ideal S1x512 .f32) (x5 : Vec Ideal S1x512 .f32) (x6 : Vec Ideal S1x512 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = grad3 x0 := by
  unfold sout0_A_0
  rw [View.read_writes_junk_eq_canon]
  unfold kernelRun0_A
  dsimp only
  sl_unfold_words
  simp only [View.readAt_eq_ld, harg1.read_unread, ld_full0]
  exact canon3 _ _ _ _

end Cert.KernelIdeal.V
-- ==== Proof.Array.lean ====
/-
  THE ARRAYS the kernel leaves, entry by entry: column p of every result is Spec.lean's function of row p's data. First
  the blocks the pipeline hands to the body, as entries of the arguments; then the scratch, which every point finds as
  the first one left it; then each result read at the point that wrote it.
-/
module
public import proofs.«01_k».proof.Proof.Block
public import Idealize.ShloMosaic.Lib.Claim
@[expose] public section
set_option maxRecDepth 65536
noncomputable section
open Idealize.ShloMosaic Idealize.ShloMosaic.TcCoe Idealize.SL.Sem
namespace Cert.KernelIdeal.V
open Cert.KernelIdeal Cert.KernelIdeal.Gen
variable (m : (ℓ : Loc nD τ sig) → Buf (Elt Ideal) ℓ)

/-- There are 48 points. -/
theorem fin_N (t : Fin cfg0.N) : t.val < 48 := lt_of_lt_of_eq t.isLt N_0
/-- Window `0`'s block index at a point. -/
theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- Window `1`'s block index at a point. -/
theorem index1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
/-- Window `2`'s block index at a point. -/
theorem index2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
/-- Window `3`'s block index at a point. -/
theorem index3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
/-- Window `4`'s block index at a point. -/
theorem index4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)
/-- Window `5`'s block index at a point. -/
theorem index5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)
/-- Window `6`'s block index at a point. -/
theorem index6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

/-- Column `l` of block `t`, as a row of the whole arrays. -/
def at512 (t : Fin cfg0.N) (l : Fin 512) : Fin 24576 := ⟨512 * t.val + l.val, by have := fin_N t; omega⟩

/-- The transposed gradient as the pipeline finds it. -/
theorem V_v0 (c : Dev nD) (k : Fin 448) (b : Fin 384) :
    (V m c main_v0 : Vec Ideal S448x384 .f32) (ix2 k b) = (m ((c : Thread nD τ).loc main_arg0) : Vec Ideal S384x448 .f32) (ix2 b k) := by
  entry_read
  exact transpose_apply _ _ _ _ _ fun a => match a with | ⟨0, _⟩ => rfl | ⟨1, _⟩ => rfl
/-- The transposed random words as the pipeline finds them. -/
theorem V_v1 (c : Dev nD) (k : Fin 448) (p : Fin 24576) :
    (V m c main_v1 : Vec Ideal S448x24576 .i32) (ix2 k p) = (m ((c : Thread nD τ).loc main_arg3) : Vec Ideal S24576x448 .i32) (ix2 p k) := by
  entry_read
  exact transpose_apply _ _ _ _ _ fun a => match a with | ⟨0, _⟩ => rfl | ⟨1, _⟩ => rfl
/-- The scales as one row, as the pipeline finds them. -/
theorem V_v2 (c : Dev nD) (p : Fin 24576) :
    (V m c main_v2 : Vec Ideal S1x24576 .f32) (ix2 0 p) = (m ((c : Thread nD τ).loc main_arg4) : Vec Ideal S24576 .f32) (ix1 p) := by
  entry_read
  refine shapeCast_apply _ _ _ _ ?_
  show ((⟨1, ![24576]⟩ : Shape).rowMajor (ix1 p)).val = ((⟨2, ![1, 24576]⟩ : Shape).rowMajor (ix2 0 p)).val
  rw [Shape.rowMajor_val_two, Shape.rowMajor_val_one]
  show p.val = 0 * 24576 + p.val
  omega
/-- The biases as one row, as the pipeline finds them. -/
theorem V_v3 (c : Dev nD) (p : Fin 24576) :
    (V m c main_v3 : Vec Ideal S1x24576 .f32) (ix2 0 p) = (m ((c : Thread nD τ).loc main_arg5) : Vec Ideal S24576 .f32) (ix1 p) := by
  entry_read
  refine shapeCast_apply _ _ _ _ ?_
  show ((⟨1, ![24576]⟩ : Shape).rowMajor (ix1 p)).val = ((⟨2, ![1, 24576]⟩ : Shape).rowMajor (ix2 0 p)).val
  rw [Shape.rowMajor_val_two, Shape.rowMajor_val_one]
  show p.val = 0 * 24576 + p.val
  omega
/-- The momenta as one row, as the pipeline finds them. -/
theorem V_v4 (c : Dev nD) (p : Fin 24576) :
    (V m c main_v4 : Vec Ideal S1x24576 .f32) (ix2 0 p) = (m ((c : Thread nD τ).loc main_arg6) : Vec Ideal S24576 .f32) (ix1 p) := by
  entry_read
  refine shapeCast_apply _ _ _ _ ?_
  show ((⟨1, ![24576]⟩ : Shape).rowMajor (ix1 p)).val = ((⟨2, ![1, 24576]⟩ : Shape).rowMajor (ix2 0 p)).val
  rw [Shape.rowMajor_val_two, Shape.rowMajor_val_one]
  show p.val = 0 * 24576 + p.val
  omega
/-- Window `0`'s block at a point, entry by entry. -/
theorem iblk0_apply (c : Dev nD) (t : Fin cfg0.N) (k : Fin 448) (l : Fin 384) :
    (iblk m c 0 t : Vec Ideal S448x384 .f32) (ix2 k l) = (V m c main_v0 : Vec Ideal S448x384 .f32) (ix2 k (l)) := by
  have hi := index0 t
  unfold iblk
  rw [View.read_apply]
  show (V m c main_v0 : Vec Ideal S448x384 .f32) _ = (V m c main_v0 : Vec Ideal S448x384 .f32) _
  congr 1
  funext a
  apply Fin.ext
  match a with
  | ⟨0, _⟩ => show win0_0.index t (0 : Fin 2) * 448 + 1 * k.val = k.val; rw [hi.1]; omega
  | ⟨1, _⟩ => show win0_0.index t (1 : Fin 2) * 384 + 1 * l.val = l.val; rw [hi.2]; omega
/-- Window `1`'s block at a point, entry by entry. -/
theorem iblk1_apply (c : Dev nD) (t : Fin cfg0.N) (k : Fin 192) (l : Fin 512) :
    (iblk m c 1 t : Vec Ideal S192x512 .i32) (ix2 k l) = (V m c main_arg1 : Vec Ideal S192x24576 .i32) (ix2 k (at512 t l)) := by
  have hi := index1 t
  unfold iblk
  rw [View.read_apply]
  show (V m c main_arg1 : Vec Ideal S192x24576 .i32) _ = (V m c main_arg1 : Vec Ideal S192x24576 .i32) _
  congr 1
  funext a
  apply Fin.ext
  match a with
  | ⟨0, _⟩ => show win0_1.index t (0 : Fin 2) * 192 + 1 * k.val = k.val; rw [hi.1]; omega
  | ⟨1, _⟩ => show win0_1.index t (1 : Fin 2) * 512 + 1 * l.val = 512 * t.val + l.val; rw [hi.2]; omega
/-- Window `2`'s block at a point, entry by entry. -/
theorem iblk2_apply (c : Dev nD) (t : Fin cfg0.N) (k : Fin 112) (l : Fin 512) :
    (iblk m c 2 t : Vec Ideal S112x512 .i32) (ix2 k l) = (V m c main_arg2 : Vec Ideal S112x24576 .i32) (ix2 k (at512 t l)) := by
  have hi := index2 t
  unfold iblk
  rw [View.read_apply]
  show (V m c main_arg2 : Vec Ideal S112x24576 .i32) _ = (V m c main_arg2 : Vec Ideal S112x24576 .i32) _
  congr 1
  funext a
  apply Fin.ext
  match a with
  | ⟨0, _⟩ => show win0_2.index t (0 : Fin 2) * 112 + 1 * k.val = k.val; rw [hi.1]; omega
  | ⟨1, _⟩ => show win0_2.index t (1 : Fin 2) * 512 + 1 * l.val = 512 * t.val + l.val; rw [hi.2]; omega
/-- Window `3`'s block at a point, entry by entry. -/
theorem iblk3_apply (c : Dev nD) (t : Fin cfg0.N) (k : Fin 448) (l : Fin 512) :
    (iblk m c 3 t : Vec Ideal S448x512 .i32) (ix2 k l) = (V m c main_v1 : Vec Ideal S448x24576 .i32) (ix2 k (at512 t l)) := by
  have hi := index3 t
  unfold iblk
  rw [View.read_apply]
  show (V m c main_v1 : Vec Ideal S448x24576 .i32) _ = (V m c main_v1 : Vec Ideal S448x24576 .i32) _
  congr 1
  funext a
  apply Fin.ext
  match a with
  | ⟨0, _⟩ => show win0_3.index t (0 : Fin 2) * 448 + 1 * k.val = k.val; rw [hi.1]; omega
  | ⟨1, _⟩ => show win0_3.index t (1 : Fin 2) * 512 + 1 * l.val = 512 * t.val + l.val; rw [hi.2]; omega
/-- Window `4`'s block at a point, entry by entry. -/
theorem iblk4_apply (c : Dev nD) (t : Fin cfg0.N) (k : Fin 1) (l : Fin 512) :
    (iblk m c 4 t : Vec Ideal S1x512 .f32) (ix2 k l) = (V m c main_v2 : Vec Ideal S1x24576 .f32) (ix2 k (at512 t l)) := by
  have hi := index4 t
  unfold iblk
  rw [View.read_apply]
  show (V m c main_v2 : Vec Ideal S1x24576 .f32) _ = (V m c main_v2 : Vec Ideal S1x24576 .f32) _
  congr 1
  funext a
  apply Fin.ext
  match a with
  | ⟨0, _⟩ => show win0_4.index t (0 : Fin 2) * 1 + 1 * k.val = k.val; rw [hi.1]; omega
  | ⟨1, _⟩ => show win0_4.index t (1 : Fin 2) * 512 + 1 * l.val = 512 * t.val + l.val; rw [hi.2]; omega
/-- Window `5`'s block at a point, entry by entry. -/
theorem iblk5_apply (c : Dev nD) (t : Fin cfg0.N) (k : Fin 1) (l : Fin 512) :
    (iblk m c 5 t : Vec Ideal S1x512 .f32) (ix2 k l) = (V m c main_v3 : Vec Ideal S1x24576 .f32) (ix2 k (at512 t l)) := by
  have hi := index5 t
  unfold iblk
  rw [View.read_apply]
  show (V m c main_v3 : Vec Ideal S1x24576 .f32) _ = (V m c main_v3 : Vec Ideal S1x24576 .f32) _
  congr 1
  funext a
  apply Fin.ext
  match a with
  | ⟨0, _⟩ => show win0_5.index t (0 : Fin 2) * 1 + 1 * k.val = k.val; rw [hi.1]; omega
  | ⟨1, _⟩ => show win0_5.index t (1 : Fin 2) * 512 + 1 * l.val = 512 * t.val + l.val; rw [hi.2]; omega
/-- Window `6`'s block at a point, entry by entry. -/
theorem iblk6_apply (c : Dev nD) (t : Fin cfg0.N) (k : Fin 1) (l : Fin 512) :
    (iblk m c 6 t : Vec Ideal S1x512 .f32) (ix2 k l) = (V m c main_v4 : Vec Ideal S1x24576 .f32) (ix2 k (at512 t l)) := by
  have hi := index6 t
  unfold iblk
  rw [View.read_apply]
  show (V m c main_v4 : Vec Ideal S1x24576 .f32) _ = (V m c main_v4 : Vec Ideal S1x24576 .f32) _
  congr 1
  funext a
  apply Fin.ext
  match a with
  | ⟨0, _⟩ => show win0_6.index t (0 : Fin 2) * 1 + 1 * k.val = k.val; rw [hi.1]; omega
  | ⟨1, _⟩ => show win0_6.index t (1 : Fin 2) * 512 + 1 * l.val = 512 * t.val + l.val; rw [hi.2]; omega

/-- The gradient's window is the whole array at every point. -/
theorem iblk0_eq (c : Dev nD) (t : Fin cfg0.N) : (iblk m c 0 t : Vec Ideal S448x384 .f32) = (V m c main_v0 : Vec Ideal S448x384 .f32) := by
  funext j
  obtain ⟨k, l, rfl⟩ : ∃ (k : Fin 448) (l : Fin 384), j = ix2 k l := ⟨j 0, j 1, (ix2_eta j).symm⟩
  exact iblk0_apply m c t k l

/-- After every point the scratch holds the split gradient. -/
theorem scratch_eq (c : Dev nD) : ∀ (n : ℕ) (hn : n < cfg0.N),
    (outsAt0 m c n hn).2.2.2.2 = grad3 (V m c main_v0 : Vec Ideal S448x384 .f32) := by
  intro n
  induction n with
  | zero =>
    intro hn
    have h := outsAt0_A m c ⟨0, hn⟩ (Nat.zero_mod _)
    rw [show outsAt0 m c 0 hn = _ from h]
    dsimp only
    rw [soutA, iblk0_eq]
  | succ n ih =>
    intro hn
    by_cases h0 : (n + 1) % 48 = 0
    · have h := outsAt0_A m c ⟨n + 1, hn⟩ h0
      rw [show outsAt0 m c (n + 1) hn = _ from h]
      dsimp only
      rw [soutA, iblk0_eq]
    · have h := outsAt0_B m c ⟨n + 1, hn⟩ h0
      rw [show outsAt0 m c (n + 1) hn = _ from h]
      exact ih (by omega)

/-- The gradient block of point `t`. -/
def gAt (c : Dev nD) (t : Fin cfg0.N) : Vec Ideal S448x512 .f32 :=
  gBlk (iblk m c 1 t) (grad3 (V m c main_v0 : Vec Ideal S448x384 .f32))

/-- What a point leaves in its output windows. -/
theorem outs_eq (c : Dev nD) (t : Fin cfg0.N) :
    (outsAt0 m c t.val t.isLt).1 = oCodes (gAt m c t) (iblk m c 2 t) (iblk m c 3 t) (iblk m c 4 t) (iblk m c 5 t) (iblk m c 6 t)
    ∧ (outsAt0 m c t.val t.isLt).2.1 = oScale (gAt m c t) (iblk m c 2 t) (iblk m c 4 t) (iblk m c 5 t) (iblk m c 6 t)
    ∧ (outsAt0 m c t.val t.isLt).2.2.1 = oBias (gAt m c t) (iblk m c 2 t) (iblk m c 4 t) (iblk m c 5 t) (iblk m c 6 t)
    ∧ (outsAt0 m c t.val t.isLt).2.2.2.1 = oState (gAt m c t) (iblk m c 6 t) := by
  unfold gAt
  by_cases h0 : t.val % 48 = 0
  · rw [outsAt0_A m c t h0]
    dsimp only
    rw [outA_7, outA_8, outA_9, outA_10, iblk0_eq]
    exact ⟨rfl, rfl, rfl, rfl⟩
  · rw [outsAt0_B m c t h0]
    dsimp only
    rw [outB_7, outB_8, outB_9, outB_10, scratch_eq]
    exact ⟨rfl, rfl, rfl, rfl⟩

/-- Row `p`'s gradient as the kernel sums it: the three parts of the split gradient, one after the other. -/
def kg (g0 : Vec Ideal S384x448 .f32) (cn : Vec Ideal S192x24576 .i32) (p : Fin 24576) : Fin 448 → Ideal .f32 := fun d =>
  (∑ k : Fin 1152, (part3 k.val (g0 (ix2 ⟨k.val % 384, Nat.mod_lt _ (by decide)⟩ d)) : EReal)
    * (FloatOps.sitofp (F := Ideal) FTy.f32 (cntOf cn p ⟨k.val % 384, Nat.mod_lt _ (by decide)⟩) : EReal) : EReal)

/-- Row `p`'s old weights. -/
def ow (w : Vec Ideal S112x24576 .i32) (sc bi : Vec Ideal S24576 .f32) (p : Fin 24576) : Fin 448 → Ideal .f32 := fun d =>
  Row.old (Row.byte (w (ix2 ⟨d.val / 4, by omega⟩ p)) (d.val % 4)) (sc (ix1 p)) (bi (ix1 p))

/-- A block's unpacked counts are the rows'. -/
theorem cntOf_iblk (c : Dev nD) (t : Fin cfg0.N) (l : Fin 512) (k : Fin 384) :
    cntOf (iblk m c 1 t : Vec Ideal S192x512 .i32) l k = cntOf (m ((c : Thread nD τ).loc main_arg1) : Vec Ideal S192x24576 .i32) (at512 t l) k := by
  unfold cntOf
  split
  · rw [iblk1_apply, V_main_arg1]
  · rw [iblk1_apply, V_main_arg1]

/-- The gradient block's columns are the rows' gradients. -/
theorem col_gAt (c : Dev nD) (t : Fin cfg0.N) (l : Fin 512) :
    col (gAt m c t) l = kg (m ((c : Thread nD τ).loc main_arg0)) (m ((c : Thread nD τ).loc main_arg1)) (at512 t l) := by
  funext d
  show gAt m c t (ix2 d l) = _
  unfold gAt gBlk
  rw [matmul_apply]
  unfold kg
  refine Finset.sum_congr rfl fun k _ => ?_
  rw [cntOf_iblk]
  refine congrArg (· * _) ?_
  show part3 k.val ((V m c main_v0 : Vec Ideal S448x384 .f32) (ix2 d ⟨k.val % 384, _⟩)) = _
  rw [V_v0]

/-- A block's old weights are the rows'. -/
theorem oldRow_iblk (c : Dev nD) (t : Fin cfg0.N) (l : Fin 512) :
    oldRow (iblk m c 2 t : Vec Ideal S112x512 .i32) (iblk m c 4 t : Vec Ideal S1x512 .f32) (iblk m c 5 t : Vec Ideal S1x512 .f32) l
      = ow (m ((c : Thread nD τ).loc main_arg2)) (m ((c : Thread nD τ).loc main_arg4)) (m ((c : Thread nD τ).loc main_arg5)) (at512 t l) := by
  funext d
  unfold oldRow ow
  rw [iblk2_apply, iblk4_apply, iblk5_apply, V_main_arg2, V_v2, V_v3]

/-- A block's momenta are the rows'. -/
theorem mom_iblk (c : Dev nD) (t : Fin cfg0.N) (l : Fin 512) :
    (iblk m c 6 t : Vec Ideal S1x512 .f32) (ix2 0 l) = (m ((c : Thread nD τ).loc main_arg6) : Vec Ideal S24576 .f32) (ix1 (at512 t l)) := by
  rw [iblk6_apply, V_v4]

/-- Row `p`'s new weights as the kernel computes them. -/
def kw (c : Dev nD) (p : Fin 24576) : Fin 448 → Ideal .f32 :=
  Row.newW (kg (m ((c : Thread nD τ).loc main_arg0)) (m ((c : Thread nD τ).loc main_arg1)) p)
    (ow (m ((c : Thread nD τ).loc main_arg2)) (m ((c : Thread nD τ).loc main_arg4)) (m ((c : Thread nD τ).loc main_arg5)) p)
    ((m ((c : Thread nD τ).loc main_arg6) : Vec Ideal S24576 .f32) (ix1 p))

/-- A block's new weights are the rows'. -/
theorem newRow_iblk (c : Dev nD) (t : Fin cfg0.N) (l : Fin 512) :
    newRow (gAt m c t) (iblk m c 2 t : Vec Ideal S112x512 .i32) (iblk m c 4 t : Vec Ideal S1x512 .f32) (iblk m c 5 t : Vec Ideal S1x512 .f32) (iblk m c 6 t : Vec Ideal S1x512 .f32) l
      = kw m c (at512 t l) := by
  unfold newRow kw
  rw [col_gAt, oldRow_iblk, mom_iblk]

/-- The point and the lane of row `p`. -/
def ptOf (p : Fin 24576) : Fin cfg0.N := ⟨p.val / 512, by rw [show cfg0.N = 48 from N_0]; omega⟩
/-- The lane of row `p` in its block. -/
def laneOf (p : Fin 24576) : Fin 512 := ⟨p.val % 512, Nat.mod_lt _ (by decide)⟩
/-- A row is the lane it has in its block. -/
theorem at512_ptOf (p : Fin 24576) : at512 (ptOf p) (laneOf p) = p := Fin.ext (by show 512 * (p.val / 512) + p.val % 512 = p.val; omega)

/-- What a point leaves depends on the point's number alone. -/
theorem outs_congr (c : Dev nD) (n n' : ℕ) (e : n = n') (h : n < cfg0.N) (h' : n' < cfg0.N) : outsAt0 m c n h = outsAt0 m c n' h' := by
  subst e; rfl

/-- The new code of entry `d` of row `p`. -/
theorem G7_apply (c : Dev nD) (p : Fin 24576) (d : Fin 448) : (Value.G7 m c : Vec Ideal S448x24576 .i8) (ix2 d p)
    = Row.code (kw m c p) (IntOp.shrui .vector ((m ((c : Thread nD τ).loc main_arg3) : Vec Ideal S24576x448 .i32) (ix2 p d)) 8#32) d := by
  have hp : Value.pt7Of (ix2 d p) = (ptOf p).val := by
    show 48 * (d.val / 448 - 0) + 1 * (p.val / 512 - 0) = p.val / 512
    omega
  have hl : Value.loc7Of (ix2 d p) = ix2 d (laneOf p) := by
    funext a
    match a with
    | ⟨0, _⟩ => exact Fin.ext (show d.val % 448 = d.val by omega)
    | ⟨1, _⟩ => rfl
  unfold Value.G7
  rw [dif_pos (hp ▸ (ptOf p).isLt), ← Value.outsAt0_sweep m c _ (hp ▸ (ptOf p).isLt),
    outs_congr m c _ _ hp _ (ptOf p).isLt, (outs_eq m c (ptOf p)).1, hl]
  show Row.code (newRow _ _ _ _ _ (laneOf p)) (IntOp.shrui .vector ((iblk m c 3 (ptOf p) : Vec Ideal S448x512 .i32) (ix2 d (laneOf p))) 8#32) d = _
  rw [newRow_iblk, iblk3_apply, V_v1, at512_ptOf]

/-- The new scale of row `p`. -/
theorem G8_apply (c : Dev nD) (p : Fin 24576) : (Value.G8 m c : Vec Ideal S1x24576 .f32) (ix2 0 p)
    = Row.scale (kw m c p) := by
  have hp : Value.pt8Of (ix2 0 p) = (ptOf p).val := by
    show 48 * ((0 : ℕ) / 1 - 0) + 1 * (p.val / 512 - 0) = p.val / 512
    omega
  have hl : Value.loc8Of (ix2 0 p) = ix2 0 (laneOf p) := by
    funext a
    match a with
    | ⟨0, _⟩ => exact Fin.ext (show (0 : ℕ) % 1 = (0 : ℕ) by omega)
    | ⟨1, _⟩ => rfl
  unfold Value.G8
  rw [dif_pos (hp ▸ (ptOf p).isLt), ← Value.outsAt0_sweep m c _ (hp ▸ (ptOf p).isLt),
    outs_congr m c _ _ hp _ (ptOf p).isLt, (outs_eq m c (ptOf p)).2.1, hl]
  show Row.scale (newRow _ _ _ _ _ (laneOf p)) = _
  rw [newRow_iblk, at512_ptOf]

/-- The new bias of row `p`. -/
theorem G9_apply (c : Dev nD) (p : Fin 24576) : (Value.G9 m c : Vec Ideal S1x24576 .f32) (ix2 0 p)
    = Row.lo (kw m c p) := by
  have hp : Value.pt9Of (ix2 0 p) = (ptOf p).val := by
    show 48 * ((0 : ℕ) / 1 - 0) + 1 * (p.val / 512 - 0) = p.val / 512
    omega
  have hl : Value.loc9Of (ix2 0 p) = ix2 0 (laneOf p) := by
    funext a
    match a with
    | ⟨0, _⟩ => exact Fin.ext (show (0 : ℕ) % 1 = (0 : ℕ) by omega)
    | ⟨1, _⟩ => rfl
  unfold Value.G9
  rw [dif_pos (hp ▸ (ptOf p).isLt), ← Value.outsAt0_sweep m c _ (hp ▸ (ptOf p).isLt),
    outs_congr m c _ _ hp _ (ptOf p).isLt, (outs_eq m c (ptOf p)).2.2.1, hl]
  show Row.lo (newRow _ _ _ _ _ (laneOf p)) = _
  rw [newRow_iblk, at512_ptOf]

/-- The new momentum of row `p`. -/
theorem G10_apply (c : Dev nD) (p : Fin 24576) : (Value.G10 m c : Vec Ideal S1x24576 .f32) (ix2 0 p)
    = Row.state (kg (m ((c : Thread nD τ).loc main_arg0)) (m ((c : Thread nD τ).loc main_arg1)) p) ((m ((c : Thread nD τ).loc main_arg6) : Vec Ideal S24576 .f32) (ix1 p)) := by
  have hp : Value.pt10Of (ix2 0 p) = (ptOf p).val := by
    show 48 * ((0 : ℕ) / 1 - 0) + 1 * (p.val / 512 - 0) = p.val / 512
    omega
  have hl : Value.loc10Of (ix2 0 p) = ix2 0 (laneOf p) := by
    funext a
    match a with
    | ⟨0, _⟩ => exact Fin.ext (show (0 : ℕ) % 1 = (0 : ℕ) by omega)
    | ⟨1, _⟩ => rfl
  unfold Value.G10
  rw [dif_pos (hp ▸ (ptOf p).isLt), ← Value.outsAt0_sweep m c _ (hp ▸ (ptOf p).isLt),
    outs_congr m c _ _ hp _ (ptOf p).isLt, (outs_eq m c (ptOf p)).2.2.2, hl]
  show Row.state (col _ (laneOf p)) ((iblk m c 6 (ptOf p) : Vec Ideal S1x512 .f32) (ix2 0 (laneOf p))) = _
  rw [col_gAt, mom_iblk, at512_ptOf]

end Cert.KernelIdeal.V
-- ==== Proof.Reference.lean ====
/-
  THE REFERENCE, entry by entry, as Spec.lean's functions of row p's data.
-/
module
public import proofs.«01_k».proof.Proof.Chunk
public import proofs.«01_k».proof.Proof.Gen.ReferenceIdeal.Read
public import Idealize.ShloMosaic.Lib.Pointwise
@[expose] public section
set_option maxRecDepth 65536
noncomputable section
open Idealize.ShloMosaic Idealize.ShloMosaic.TcCoe Idealize.SL.Sem
namespace Cert.ReferenceIdeal.V
open Cert.ReferenceIdeal Cert.ReferenceIdeal.Gen Cert.ReferenceIdeal.Read

/-- The count of bag `k` in row `p`, unpacked on the host. -/
def cnt (x1 : Vec Ideal S192x24576 .i32) (p : Fin 24576) (k : Fin 384) : BitVec 32 :=
  if h : k.val < 192 then IntOp.andi (x1 (ix2 ⟨k.val, h⟩ p)) 65535#32
  else IntOp.shrsi .host (x1 (ix2 ⟨k.val - 192, by omega⟩ p)) 16#32

/-- The unpacked counts are the two halves one above the other. -/
theorem v4_at (x1 : Vec Ideal S192x24576 .i32) (k : Fin 384) (p : Fin 24576) :
    val_main_v4 (F := Ideal) x1 (ix2 k p) = cnt x1 p k := by
  unfold val_main_v4 cnt
  pointwise
  rfl

/-- Row `p`'s gradient: every bag's gradient times the number of times the bag looks the row up. -/
def rg (x0 : Vec Ideal S384x448 .f32) (x1 : Vec Ideal S192x24576 .i32) (p : Fin 24576) : Fin 448 → Ideal .f32 := fun d =>
  (∑ k : Fin 384, (FloatOps.sitofp (F := Ideal) FTy.f32 (cnt x1 p k) : EReal) * (x0 (ix2 k d) : EReal) : EReal)

/-- The reference's matrix product, at an entry. -/
theorem v7_at (x0 : Vec Ideal S384x448 .f32) (x1 : Vec Ideal S192x24576 .i32) (p : Fin 24576) (d : Fin 448) :
    val_main_v7 x0 x1 (ix2 p d) = rg x0 x1 p d := by
  rw [val_main_v7_apply]
  unfold rg
  refine Finset.sum_congr rfl fun k _ => ?_
  have el : lidx_main_v7 (ix2 p d) k = ix2 p k := by
    funext a; match a with | ⟨0, _⟩ => rfl | ⟨1, _⟩ => rfl
  have er : ridx_main_v7 (ix2 p d) k = ix2 k d := by
    funext a; match a with | ⟨0, _⟩ => rfl | ⟨1, _⟩ => rfl
  have e6 : idx_main_v6 (ix2 p k) = ix2 k p := by
    funext a; match a with | ⟨0, _⟩ => rfl | ⟨1, _⟩ => rfl
  rw [el, er, val_main_v6_apply, e6, val_main_v5_apply, v4_at]

/-- A byte shifted down on the host and masked is the byte. -/
theorem byte_host (w : BitVec 32) (b : Fin 4) :
    IntOp.andi (IntOp.shrsi .host w (IntOp.muli 8#32 (BitVec.ofNat 32 b.val))) 255#32 = Row.byte w b.val := by
  have hb : (IntOp.muli 8#32 (BitVec.ofNat 32 b.val)) = BitVec.ofNat 32 (8 * b.val) := by
    revert b; decide
  have hl : (BitVec.ofNat 32 (8 * b.val)).toNat = 8 * b.val := by
    revert b; decide
  rw [hb]
  unfold IntOp.shrsi IntOp.andi Row.byte
  rw [if_pos (by rw [hl]; omega)]
  unfold BitVec.sshiftRight'
  rw [hl]
  apply BitVec.eq_of_getLsbD_eq
  intro i hi
  rw [BitVec.getLsbD_and, BitVec.getLsbD_and, BitVec.getLsbD_sshiftRight, BitVec.getLsbD_ushiftRight]
  by_cases h8 : i < 8
  · have : 8 * b.val + i < 32 := by omega
    have h32 : ¬ 32 ≤ i := by omega
    simp [hi, this, h32]
  · have : (255#32).getLsbD i = false := by
      revert i; decide
    rw [this, Bool.and_false, Bool.and_false]

/-- The old codes, at an entry. -/
theorem v19_at (x2 : Vec Ideal S112x24576 .i32) (p : Fin 24576) (d : Fin 448) :
    val_main_v19 (F := Ideal) x2 (ix2 p d) = Row.byte (x2 (ix2 ⟨d.val / 4, by omega⟩ p)) (d.val % 4) := by
  rw [val_main_v19_apply, val_main_v18_apply, val_main_v17_apply, val_main_v15_apply, val_main_v13_apply, val_main_v10_apply,
    val_main_v14_apply, val_main_v12_apply, val_main_v11_apply, val_main_v9_apply, val_main_v8_apply, val_main_v16_apply]
  rw [val_main_c_1_apply, val_main_c_2_apply]
  have hd := d.isLt
  have hp := p.isLt
  refine Eq.trans ?_ (byte_host (x2 (ix2 ⟨d.val / 4, by omega⟩ p)) ⟨d.val % 4, by omega⟩)
  have e1 : idx_main_v10 (idx_main_v13 (idx_main_v18 (idx_main_v19 (ix2 p d)))) = ix2 ⟨d.val / 4, by omega⟩ p := by
    funext a
    match a with
    | ⟨0, _⟩ => exact Fin.ext (show (d.val * 24576 + p.val) / 98304 = d.val / 4 by omega)
    | ⟨1, _⟩ => exact Fin.ext (show (d.val * 24576 + p.val) % 24576 = p.val by omega)
  rw [e1]
  have e2 : (d.val * 24576 + p.val) / 24576 % 4 = d.val % 4 := by omega
  show IntOp.andi (IntOp.shrsi .host _ (IntOp.muli 8#32 (BitVec.ofNat 32 ((d.val * 24576 + p.val) / 24576 % 4)))) _ = _
  rw [e2]

/-- Row `p`'s old weights. -/
def ow (x2 : Vec Ideal S112x24576 .i32) (x4 x5 : Vec Ideal S24576 .f32) (p : Fin 24576) : Fin 448 → Ideal .f32 := fun d =>
  Row.old (Row.byte (x2 (ix2 ⟨d.val / 4, by omega⟩ p)) (d.val % 4)) (x4 (ix1 p)) (x5 (ix1 p))

/-- The old weights, at an entry. -/
theorem v26_at (x2 : Vec Ideal S112x24576 .i32) (x4 x5 : Vec Ideal S24576 .f32) (p : Fin 24576) (d : Fin 448) :
    val_main_v26 x2 x4 x5 (ix2 p d) = ow x2 x4 x5 p d := by
  rw [val_main_v26_apply, val_main_v23_apply, val_main_v25_apply, val_main_v24_apply, val_main_v22_apply, val_main_v21_apply, val_main_v20_apply, v19_at]
  rw [show idx_main_v21 (idx_main_v22 (ix2 p d)) = ix1 p from by funext a; match a with | ⟨0, _⟩ => rfl,
    show idx_main_v24 (idx_main_v25 (ix2 p d)) = ix1 p from by funext a; match a with | ⟨0, _⟩ => rfl]
  rfl

/-- The new momentum of a row. -/
theorem v31_at (x0 : Vec Ideal S384x448 .f32) (x1 : Vec Ideal S192x24576 .i32) (x6 : Vec Ideal S24576 .f32) (p : Fin 24576) :
    val_main_v31 x0 x1 x6 (ix1 p) = Row.state (rg x0 x1 p) (x6 (ix1 p)) := by
  rw [val_main_v31_apply, val_main_v30_apply, val_main_v28_apply, val_main_v29_apply, val_main_cst_apply, val_main_cst_3_apply]
  have e : ∀ k, val_main_v27 x0 x1 (idx_main_v28 (ix1 p) k) = rg x0 x1 p k * rg x0 x1 p k := by
    intro k
    rw [show idx_main_v28 (ix1 p) k = ix2 p k from by funext a; match a with | ⟨0, _⟩ => rfl | ⟨1, _⟩ => rfl, val_main_v27_apply, v7_at]
    rfl
  rw [Finset.sum_congr rfl fun k _ => e k]
  unfold Row.state
  pointwise

/-- The new weights, at an entry. -/
theorem v40_at (x0 : Vec Ideal S384x448 .f32) (x1 : Vec Ideal S192x24576 .i32) (x2 : Vec Ideal S112x24576 .i32) (x4 x5 x6 : Vec Ideal S24576 .f32) (p : Fin 24576) (d : Fin 448) :
    val_main_v40 x0 x1 x2 x4 x5 x6 (ix2 p d) = Row.newW (rg x0 x1 p) (ow x2 x4 x5 p) (x6 (ix1 p)) d := by
  rw [val_main_v40_apply, v26_at, val_main_v39_apply, v7_at, val_main_v38_apply, val_main_v37_apply,
    show idx_main_v37 (idx_main_v38 (ix2 p d)) = ix1 p from by funext a; match a with | ⟨0, _⟩ => rfl,
    val_main_v36_apply, val_main_v35_apply, val_main_v34_apply, val_main_v32_apply, v31_at, val_main_v33_apply, val_main_cst_4_apply, val_main_cst_5_apply]
  unfold Row.newW
  rfl

/-- Row `p`'s new weights. -/
abbrev rw' (x0 : Vec Ideal S384x448 .f32) (x1 : Vec Ideal S192x24576 .i32) (x2 : Vec Ideal S112x24576 .i32) (x4 x5 x6 : Vec Ideal S24576 .f32) (p : Fin 24576) : Fin 448 → Ideal .f32 :=
  Row.newW (rg x0 x1 p) (ow x2 x4 x5 p) (x6 (ix1 p))

/-- The smallest new weight of a row. -/
theorem v41_at (x0 : Vec Ideal S384x448 .f32) (x1 : Vec Ideal S192x24576 .i32) (x2 : Vec Ideal S112x24576 .i32) (x4 x5 x6 : Vec Ideal S24576 .f32) (p : Fin 24576) :
    val_main_v41 x0 x1 x2 x4 x5 x6 (ix1 p) = Row.lo (rw' x0 x1 x2 x4 x5 x6 p) := by
  rw [show rw' x0 x1 x2 x4 x5 x6 p = fun d => val_main_v40 x0 x1 x2 x4 x5 x6 (ix2 p d) from funext fun d => (v40_at x0 x1 x2 x4 x5 x6 p d).symm]
  unfold val_main_v41
  generalize val_main_v40 x0 x1 x2 x4 x5 x6 = y
  unfold Row.lo Row.lit
  pointwise
  rfl

/-- The largest new weight of a row. -/
theorem v42_at (x0 : Vec Ideal S384x448 .f32) (x1 : Vec Ideal S192x24576 .i32) (x2 : Vec Ideal S112x24576 .i32) (x4 x5 x6 : Vec Ideal S24576 .f32) (p : Fin 24576) :
    val_main_v42 x0 x1 x2 x4 x5 x6 (ix1 p) = Row.hi (rw' x0 x1 x2 x4 x5 x6 p) := by
  rw [show rw' x0 x1 x2 x4 x5 x6 p = fun d => val_main_v40 x0 x1 x2 x4 x5 x6 (ix2 p d) from funext fun d => (v40_at x0 x1 x2 x4 x5 x6 p d).symm]
  unfold val_main_v42
  generalize val_main_v40 x0 x1 x2 x4 x5 x6 = y
  unfold Row.hi Row.lit
  pointwise
  rfl

/-- The first 24 bits of a random word, read as an unsigned and as a signed number. -/
theorem rand_eq (r : BitVec 32) : (FloatOps.uitofp FTy.f32 (IntOp.shrui .host r 8#32) : Ideal .f32) = FloatOps.sitofp FTy.f32 (IntOp.shrui .vector r 8#32) := by
  have e : IntOp.shrui .host r 8#32 = r >>> 8 := rfl
  have e' : IntOp.shrui .vector r 8#32 = r >>> 8 := rfl
  rw [e, e']
  have h : ((r >>> 8).toInt : ℤ) = ((r >>> 8).toNat : ℤ) := by
    rw [BitVec.toInt_eq_toNat_of_lt]
    rw [BitVec.toNat_ushiftRight, Nat.shiftRight_eq_div_pow]
    have := r.isLt
    omega
  show (((r >>> 8).toNat : ℝ) : EReal) = (((r >>> 8).toInt : ℝ) : EReal)
  rw [h]
  rfl

/-- The new codes, at an entry. -/
theorem v64_at (x0 : Vec Ideal S384x448 .f32) (x1 : Vec Ideal S192x24576 .i32) (x2 : Vec Ideal S112x24576 .i32) (x3 : Vec Ideal S24576x448 .i32) (x4 x5 x6 : Vec Ideal S24576 .f32) (p : Fin 24576) (d : Fin 448) :
    val_main_v64 x0 x1 x2 x3 x4 x5 x6 (ix2 d p) = Row.code (rw' x0 x1 x2 x4 x5 x6 p) (IntOp.shrui .vector (x3 (ix2 p d)) 8#32) d := by
  rw [val_main_v64_apply, show idx_main_v64 (ix2 d p) = ix2 p d from by funext a; match a with | ⟨0, _⟩ => rfl | ⟨1, _⟩ => rfl]
  rw [val_main_v63_apply, val_main_v62_apply, val_main_v61_apply, val_main_call0_v4_apply, val_main_call0_v3_apply, val_main_call0_v2_apply, val_main_call0_v1_apply, val_main_call0_v0_apply,
    val_main_v60_apply, val_main_v59_apply, val_main_v58_apply, val_main_v57_apply, val_main_v56_apply, val_main_v55_apply, val_main_v54_apply, val_main_v53_apply, val_main_v52_apply, val_main_v51_apply,
    val_main_v50_apply, val_main_v49_apply, val_main_v48_apply, v40_at,
    show idx_main_v48 (idx_main_v49 (ix2 p d)) = ix1 p from by funext a; match a with | ⟨0, _⟩ => rfl,
    show idx_main_v51 (idx_main_v52 (ix2 p d)) = ix1 p from by funext a; match a with | ⟨0, _⟩ => rfl,
    val_main_v47_apply, val_main_v46_apply, val_main_v45_apply, val_main_v44_apply, val_main_v43_apply, v41_at, v42_at, val_main_c_10_apply, rand_eq]
  rw [val_main_cst_13_apply, val_main_cst_12_apply, val_main_cst_11_apply, val_main_cst_9_apply, val_main_cst_8_apply,
    show (FloatOps.ofBits FTy.f32 0x00000000#32 : Ideal .f32) = 0 from Ideal.ofBits_zero _]
  rfl

/-- The new scale of a row. -/
theorem v67_at (x0 : Vec Ideal S384x448 .f32) (x1 : Vec Ideal S192x24576 .i32) (x2 : Vec Ideal S112x24576 .i32) (x4 x5 x6 : Vec Ideal S24576 .f32) (p : Fin 24576) :
    val_main_v67 x0 x1 x2 x4 x5 x6 (ix2 0 p) = Row.scale (rw' x0 x1 x2 x4 x5 x6 p) := by
  rw [val_main_v67_apply, show idx_main_v67 (ix2 0 p) = ix1 p from by funext a; match a with | ⟨0, _⟩ => exact Fin.ext (show 0 * 24576 + p.val = p.val by omega),
    val_main_v66_apply, val_main_v43_apply, v41_at, v42_at, val_main_v65_apply, val_main_cst_14_apply]
  rfl

/-- The new bias of a row. -/
theorem v68_at (x0 : Vec Ideal S384x448 .f32) (x1 : Vec Ideal S192x24576 .i32) (x2 : Vec Ideal S112x24576 .i32) (x4 x5 x6 : Vec Ideal S24576 .f32) (p : Fin 24576) :
    val_main_v68 x0 x1 x2 x4 x5 x6 (ix2 0 p) = Row.lo (rw' x0 x1 x2 x4 x5 x6 p) := by
  rw [val_main_v68_apply, show idx_main_v68 (ix2 0 p) = ix1 p from by funext a; match a with | ⟨0, _⟩ => exact Fin.ext (show 0 * 24576 + p.val = p.val by omega), v41_at]

/-- The new momentum of a row. -/
theorem v69_at (x0 : Vec Ideal S384x448 .f32) (x1 : Vec Ideal S192x24576 .i32) (x6 : Vec Ideal S24576 .f32) (p : Fin 24576) :
    val_main_v69 x0 x1 x6 (ix2 0 p) = Row.state (rg x0 x1 p) (x6 (ix1 p)) := by
  rw [val_main_v69_apply, show idx_main_v69 (ix2 0 p) = ix1 p from by funext a; match a with | ⟨0, _⟩ => exact Fin.ext (show 0 * 24576 + p.val = p.val by omega), v31_at]

end Cert.ReferenceIdeal.V
-- ==== Proof.Equation.lean ====
/-
  THE EQUATION: over extended reals a finite gradient's second and third parts are zero, so the kernel's sum over the
  three parts is the reference's sum; everything after the sum is the same function of a row on both sides.
-/
module
public import proofs.«01_k».proof.Proof.Array
public import proofs.«01_k».proof.Proof.Reference
public import proofs.«01_k».proof.Proof.Gen.Pre_finite
@[expose] public section
set_option maxRecDepth 65536
noncomputable section
open Idealize.ShloMosaic Idealize.ShloMosaic.TcCoe Idealize.SL.Sem
namespace Cert.Eqn

/-- The kernel's unpacked counts are the host's. -/
theorem cnt_eq (x1 : Vec Ideal Cert.KernelIdeal.S192x24576 .i32) (p : Fin 24576) (k : Fin 384) :
    Cert.KernelIdeal.V.cntOf x1 p k = Cert.ReferenceIdeal.V.cnt x1 p k := by
  unfold Cert.KernelIdeal.V.cntOf Cert.ReferenceIdeal.V.cnt
  split
  · rfl
  · rfl

/-- The first part of an entry is the entry. -/
theorem part3_hi (k : ℕ) (hk : k < 384) (y : Ideal .f32) : KernelIdeal.V.part3 k y = y := if_pos hk

/-- The other two parts of a finite entry are zero. -/
theorem part3_rest (k : ℕ) (hk : 384 ≤ k) (y : Ideal .f32) (ht : (y : EReal) ≠ ⊤) (hb : (y : EReal) ≠ ⊥) :
    (KernelIdeal.V.part3 k y : EReal) = 0 := by
  have h0 : (y - y : EReal) = 0 := EReal.sub_self ht hb
  unfold KernelIdeal.V.part3
  rw [if_neg (by omega)]
  split
  · exact h0
  · show ((y - y : EReal) - (y - y : EReal)) = 0
    rw [h0]
    exact EReal.sub_self (by decide) (by decide)

/-- Every entry of the gradient is a finite number. -/
def Finite (x0 : Vec Ideal Cert.KernelIdeal.S384x448 .f32) : Prop := ∀ i, (x0 i : EReal) ≠ ⊤ ∧ (x0 i : EReal) ≠ ⊥

/-- The two sums of a row's gradient. -/
theorem grad_eq (x0 : Vec Ideal Cert.KernelIdeal.S384x448 .f32) (x1 : Vec Ideal Cert.KernelIdeal.S192x24576 .i32)
    (hx : Finite x0) (p : Fin 24576) :
    KernelIdeal.V.kg x0 x1 p = ReferenceIdeal.V.rg x0 x1 p := by
  funext d
  unfold KernelIdeal.V.kg ReferenceIdeal.V.rg
  rw [Fin.sum_univ_add (a := 384) (b := 768)]
  rw [Finset.sum_eq_zero (f := fun i : Fin 768 => _) fun i _ => ?_, add_zero]
  · refine Finset.sum_congr rfl fun k _ => ?_
    have hk : (⟨(Fin.castAdd 768 k).val % 384, Nat.mod_lt _ (by decide)⟩ : Fin 384) = k := Fin.ext (Nat.mod_eq_of_lt k.isLt)
    rw [hk, cnt_eq, part3_hi _ (show (Fin.castAdd 768 k).val < 384 from k.isLt)]
    exact mul_comm _ _
  · rw [part3_rest _ (by show 384 ≤ 384 + i.val; omega) _ (hx _).1 (hx _).2]
    exact zero_mul _

/-- What the precondition says: every gradient entry is finite. -/
theorem finite_of_pre (x0 : FVec Ideal Cert.Pre_finite.S384x448 .f32) (x1 x2 x3 x4 x5 x6)
    (h : Cert.Pre_finite.fn (F := Ideal) x0 x1 x2 x3 x4 x5 x6 = fun _ => 1#1) : Finite x0 := by
  intro i
  have hi := congrFun h i
  have hb : ∀ a b : Bool, (BitVec.ofBool a &&& BitVec.ofBool b) = 1#1 → a = true ∧ b = true := by decide
  obtain ⟨h1, h2⟩ := hb _ _ hi
  exact ⟨ne_top_of_lt (of_decide_eq_true h2), ne_bot_of_gt (of_decide_eq_true h1)⟩

/-- Both sides' new weights of a row. -/
theorem weights_eq (m : (ℓ : Loc KernelIdeal.nD KernelIdeal.τ KernelIdeal.sig) → Buf (Elt Ideal) ℓ) (c : Dev KernelIdeal.nD)
    (hx : Finite (m ((c.tc : Thread KernelIdeal.nD KernelIdeal.τ).loc KernelIdeal.main_arg0))) (p : Fin 24576) :
    KernelIdeal.V.kw m c p = ReferenceIdeal.V.rw' (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2))
      (m ((c.tc : Thread KernelIdeal.nD KernelIdeal.τ).loc KernelIdeal.main_arg4)) (m ((c.tc : Thread KernelIdeal.nD KernelIdeal.τ).loc KernelIdeal.main_arg5))
      (m ((c.tc : Thread KernelIdeal.nD KernelIdeal.τ).loc KernelIdeal.main_arg6)) p := by
  unfold KernelIdeal.V.kw ReferenceIdeal.V.rw'
  rw [grad_eq _ _ hx]
  rfl

section
open Cert.KernelIdeal
variable (m : (ℓ : Loc nD τ sig) → Buf (Elt Ideal) ℓ) (c : Dev nD)
  (hx : Finite (m ((c.tc : Thread nD τ).loc main_arg0)))
include hx

/-- The two programs' codes. -/
theorem codes_eq : ReferenceIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    = KernelIdeal.Value.G7 m c := by
  funext i
  obtain ⟨d, p, rfl⟩ : ∃ (d : Fin 448) (p : Fin 24576), i = ix2 d p := ⟨i 0, i 1, (ix2_eta i).symm⟩
  refine (ReferenceIdeal.V.v64_at _ _ _ _ _ _ _ p d).trans ((V.G7_apply m c p d).trans ?_).symm
  rw [weights_eq m c hx]

/-- The two programs' scales. -/
theorem scale_eq : ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
    = KernelIdeal.Value.G8 m c := by
  funext i
  obtain ⟨u, p, rfl⟩ : ∃ (u : Fin 1) (p : Fin 24576), i = ix2 u p := ⟨i 0, i 1, (ix2_eta i).symm⟩
  obtain rfl : u = 0 := Subsingleton.elim _ _
  refine (ReferenceIdeal.V.v67_at _ _ _ _ _ _ p).trans ((V.G8_apply m c p).trans ?_).symm
  rw [weights_eq m c hx]

/-- The two programs' biases. -/
theorem bias_eq : ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
    = KernelIdeal.Value.G9 m c := by
  funext i
  obtain ⟨u, p, rfl⟩ : ∃ (u : Fin 1) (p : Fin 24576), i = ix2 u p := ⟨i 0, i 1, (ix2_eta i).symm⟩
  obtain rfl : u = 0 := Subsingleton.elim _ _
  refine (ReferenceIdeal.V.v68_at _ _ _ _ _ _ p).trans ((V.G9_apply m c p).trans ?_).symm
  rw [weights_eq m c hx]

/-- The two programs' momenta. -/
theorem state_eq : ReferenceIdeal.Read.val_main_v69 (F := Ideal) (m ((c.tc : Thread nD τ).loc main_arg0)) (m ((c.tc : Thread nD τ).loc main_arg1)) (m ((c.tc : Thread nD τ).loc main_arg6))
    = KernelIdeal.Value.G10 m c := by
  funext i
  obtain ⟨u, p, rfl⟩ : ∃ (u : Fin 1) (p : Fin 24576), i = ix2 u p := ⟨i 0, i 1, (ix2_eta i).symm⟩
  obtain rfl : u = 0 := Subsingleton.elim _ _
  refine (ReferenceIdeal.V.v69_at _ _ _ p).trans ((V.G10_apply m c p).trans ?_).symm
  rw [grad_eq _ _ hx]
end
end Cert.Eqn
-- ==== Proof.XTrip.lean ====
/-
  One trip of `_extract`'s inner loop. A block of 128 slots carries fourteen tiles of 8 × 128 words. A trip looks at eight
  consecutive 128-wide columns of the staged part of the table; for each column it takes, in every tile, the lanes whose
  slot lies in that column from the table's words. This file restates the trip on the fourteen tiles uniformly and reads
  the result lane by lane.
-/
module

public import proofs.«01_k».proof.Proof.Gen.Extract.Loops
public import proofs.«01_k».proof.Proof.Gen.Extract.Launch

@[expose] public section

set_option maxRecDepth 8192
set_option maxHeartbeats 4000000

noncomputable section

namespace Cert.Proof.X

open Cert.Extract Cert.Extract.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The fourteen tiles of a block. -/
abbrev Tiles : Type := IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32

/-- Tile `k`. -/
def pick (a : Tiles) : Fin 14 → IVec S8x128 32 :=
  ![a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2]

/-- The lane each slot reads, as the kernel computes it: the slot's lane word, plus 128 if it is negative. -/
def laneOf (v14 : IVec S8x128 32) : IVec S8x128 32 :=
  shapeCast S8x128 (shapeCast S8x128x1 (select (cmpi .slt v14 (broadcast S8x128 0#32)) (addi v14 (broadcast S8x128 128#32)) v14)
    shapeCasts_S8x128_S8x128x1) shapeCasts_S8x128x1_S8x128

/-- One column taken into a tile: the lanes whose column word is `cc` read the column's words `W`, the others keep `T`. -/
def stepTile (v14 v16 : IVec S8x128 32) (cc : BitVec 32) (W T : IVec S8x128 32) : IVec S8x128 32 :=
  select (cmpi .eq v16 (broadcast S8x128 cc)) (dynamicGather 1 W (laneOf v14)) T

/-- The first `n` columns of a trip from column `start`, taken into a tile. -/
def steps (v14 v16 : IVec S8x128 32) (start : BitVec 32) (W : Fin 8 → IVec S8x128 32) (T : IVec S8x128 32) :
    (n : ℕ) → n ≤ 8 → IVec S8x128 32
  | 0, _ => T
  | n + 1, h => stepTile v14 v16 (Scalar.addi start (BitVec.ofNat 32 n)) (W ⟨n, h⟩) (steps v14 v16 start W T n (Nat.le_of_succ_le h))

/-- A lane in none of the first `n` columns keeps its word. -/
theorem steps_keep {v14 v16 : IVec S8x128 32} {start : BitVec 32} {W : Fin 8 → IVec S8x128 32} {T : IVec S8x128 32} {x : S8x128.Idx} :
    ∀ (n : ℕ) (h : n ≤ 8), (∀ r : Fin 8, r.val < n → v16 x ≠ Scalar.addi start (BitVec.ofNat 32 r.val)) →
      steps v14 v16 start W T n h x = T x
  | 0, _, _ => rfl
  | n + 1, h, hne => by
    have h1 := hne ⟨n, h⟩ (Nat.lt_succ_self n)
    have h2 := steps_keep (W := W) (T := T) (v14 := v14) n (Nat.le_of_succ_le h) (fun r hr => hne r (Nat.lt_succ_of_lt hr))
    rw [steps, stepTile, ← h2]
    show Scalar.select (IntOp.cmpi .eq (v16 x) (Scalar.addi start (BitVec.ofNat 32 n))) _ _ = _
    rw [show IntOp.cmpi .eq (v16 x) (Scalar.addi start (BitVec.ofNat 32 n)) = 0#1 from by
      show BitVec.ofBool _ = _; rw [beq_eq_false_iff_ne.mpr h1]; rfl]
    rfl

/-- A lane in one of the first `n` columns reads that column's word. -/
theorem steps_take {v14 v16 : IVec S8x128 32} {start : BitVec 32} {W : Fin 8 → IVec S8x128 32} {T : IVec S8x128 32} {x : S8x128.Idx}
    {g : BitVec 32} (hg : ∀ r : Fin 8, v16 x = Scalar.addi start (BitVec.ofNat 32 r.val) → dynamicGather 1 (W r) (laneOf v14) x = g) :
    ∀ (n : ℕ) (h : n ≤ 8), (∃ r : Fin 8, r.val < n ∧ v16 x = Scalar.addi start (BitVec.ofNat 32 r.val)) →
      steps v14 v16 start W T n h x = g
  | 0, _, ⟨_, hr, _⟩ => absurd hr (Nat.not_lt_zero _)
  | n + 1, h, ⟨r, hr, e⟩ => by
    rw [steps, stepTile]
    show Scalar.select (IntOp.cmpi .eq (v16 x) (Scalar.addi start (BitVec.ofNat 32 n))) _ _ = _
    by_cases h1 : v16 x = Scalar.addi start (BitVec.ofNat 32 n)
    · rw [show IntOp.cmpi .eq (v16 x) (Scalar.addi start (BitVec.ofNat 32 n)) = 1#1 from by
        show BitVec.ofBool _ = _; rw [beq_iff_eq.mpr h1]; rfl]
      exact hg ⟨n, h⟩ h1
    · rw [show IntOp.cmpi .eq (v16 x) (Scalar.addi start (BitVec.ofNat 32 n)) = 0#1 from by
        show BitVec.ofBool _ = _; rw [beq_eq_false_iff_ne.mpr h1]; rfl]
      have hlt : r.val < n := by
        rcases Nat.lt_or_ge r.val n with hlt | hge
        · exact hlt
        · have : r.val = n := by omega
          exact absurd (this ▸ e) h1
      exact steps_take (T := T) hg n (Nat.le_of_succ_le h) ⟨r, hlt, e⟩

/-- The offsets of tile `k`'s load of one column. -/
def offK (i : grid0.Coords) (v18 v21 : BitVec 32) (t : Fin (k0_t1_loop i v18 v21).trips) (c : BitVec 32) : Fin 14 → Fin 2 → ℕ :=
  ![k0_off18 i v18 v21 t c, k0_off19 i v18 v21 t c, k0_off20 i v18 v21 t c, k0_off21 i v18 v21 t c, k0_off22 i v18 v21 t c, k0_off23 i v18 v21 t c, k0_off24 i v18 v21 t c, k0_off25 i v18 v21 t c, k0_off26 i v18 v21 t c, k0_off27 i v18 v21 t c, k0_off28 i v18 v21 t c, k0_off29 i v18 v21 t c, k0_off30 i v18 v21 t c, k0_off31 i v18 v21 t c]

/-- Every such load is inside the staged part of the table. -/
theorem offK_inb (i : grid0.Coords) (v18 v21 : BitVec 32) (h : k0_chk3 i v18 v21) (t : Fin (k0_t1_loop i v18 v21).trips) (k : Fin 14)
    (r : Fin 8) : ∀ a, offK i v18 v21 t (BitVec.ofNat 32 r.val) k a + S32x128.size a ≤ S448x8192.size a := by
  fin_cases k
  · exact k0_off18_inb i v18 v21 h t r
  · exact k0_off19_inb i v18 v21 h t r
  · exact k0_off20_inb i v18 v21 h t r
  · exact k0_off21_inb i v18 v21 h t r
  · exact k0_off22_inb i v18 v21 h t r
  · exact k0_off23_inb i v18 v21 h t r
  · exact k0_off24_inb i v18 v21 h t r
  · exact k0_off25_inb i v18 v21 h t r
  · exact k0_off26_inb i v18 v21 h t r
  · exact k0_off27_inb i v18 v21 h t r
  · exact k0_off28_inb i v18 v21 h t r
  · exact k0_off29_inb i v18 v21 h t r
  · exact k0_off30_inb i v18 v21 h t r
  · exact k0_off31_inb i v18 v21 h t r

/-- One column's words for tile `k`: 32 rows of bytes of the staged part, four rows to a word. -/
def colWords (i : grid0.Coords) (v18 v21 : BitVec 32) (h : k0_chk3 i v18 v21) (t : Fin (k0_t1_loop i v18 v21).trips)
    (arg4 : Memref sig .tc .vmem S448x8192 .i8) (X : BufTy.Contents (Elt F) arg4.view.ty) (k : Fin 14) (r : Fin 8) : IVec S8x128 32 :=
  bitcast S8x128 32 (shapeCast S32x128 (arg4.view.readAt (Elt F)
    (Rect.unit (s := S448x8192) (offK i v18 v21 t (BitVec.ofNat 32 r.val) k) S32x128.size (offK_inb i v18 v21 h t k r)).toLoadRect X)
    shapeCasts_S32x128_S32x128) bitcasts_S32x128_w8_S8x128_w32

/-- The first column of trip `t`. -/
def start (i : grid0.Coords) (v18 : BitVec 32) (n : ℕ) : BitVec 32 :=
  Scalar.minsi (Scalar.addi (Scalar.maxsi v18 (Scalar.muli (BitVec.ofNat 32 (i 0).val) 64#32)) (Scalar.muli (Scf.iv 0#32 1#32 n) 8#32))
    (Scalar.subi (Scalar.addi (Scalar.muli (BitVec.ofNat 32 (i 0).val) 64#32) 64#32) 8#32)

section
variable (𝒱 : Variants) (c : Dev nD) (bd : Option 𝒱.V) (i : grid0.Coords) (arg1 : Memref sig .tc .smem S192 .i32) (harg1 : arg1.IsWhole) (arg3 : Memref sig .tc .vmem S192x128 .i32) (harg3 : arg3.IsWhole) (arg2 : Memref sig .tc .smem S192 .i32) (harg2 : arg2.IsWhole) (arg5 : Memref sig .tc .vmem S112x24576 .i32) (harg5 : arg5.IsWhole) (arg4 : Memref sig .tc .vmem S448x8192 .i8) (harg4 : arg4.IsWhole) (arg7 : BitVec 32) (arg8 : BitVec 1) (v3 : BitVec 32) (v4 : BitVec 32) (k0_hw2 : k0_chk2 arg7) (v14 : IVec S8x128 32) (v16 : IVec S8x128 32) (v18 : Elt F .i32) (v19 : BitVec 32) (v21 : Elt F .i32) (k0_hw3 : k0_chk3 i v18 v21) (v23 : BitVec 32) (v25 : BitVec 32) (v28 : IVec S8x128 32) (v31 : IVec S8x128 32) (v34 : IVec S8x128 32) (v37 : IVec S8x128 32) (v40 : IVec S8x128 32) (v43 : IVec S8x128 32) (v46 : IVec S8x128 32) (v49 : IVec S8x128 32) (v51 : Vec F S8x128 .i32)

set_option maxHeartbeats 40000000 in
/-- A trip takes the trip's eight columns into every tile. -/
theorem trip_eq (X_arg4 : BufTy.Contents (Elt F) arg4.view.ty) (t : Fin (k0_t1_loop i v18 v21).trips) (acc : Tiles) (k : Fin 14)
    (h3 : v3 = Scalar.muli (BitVec.ofNat 32 (i 0).val) 64#32) (h4 : v4 = Scalar.addi v3 64#32) (h19 : v19 = Scalar.maxsi v18 v3) :
    pick (tripR_k0_t1 (F := F) 𝒱 c bd i arg1 harg1 arg3 harg3 arg2 harg2 arg5 harg5 arg4 harg4 arg7 arg8 v3 v4 k0_hw2 v14 v16 v18 v19 v21 k0_hw3 v23 v25 v28 v31 v34 v37 v40 v43 v46 v49 v51 X_arg4 t acc) k
      = steps v14 v16 (start i v18 t.val) (colWords i v18 v21 k0_hw3 t arg4 X_arg4 k) (pick acc k) 8 le_rfl := by
  subst h4 h19 h3
  unfold tripR_k0_t1 trip_k0_t1
  fin_cases k <;> rfl

end

end Cert.Proof.X
-- ==== Proof.XArith.lean ====
/-
  The integer arithmetic of `_extract`: what the kernel's index words are as integers, and that every access of one step of
  its loop over blocks is in bounds, whatever the ids are.
-/
module

public import proofs.«01_k».proof.Proof.XTrip
public import Idealize.ShloMosaic.Lib.Affine

@[expose] public section

set_option maxRecDepth 8192
set_option maxHeartbeats 4000000

noncomputable section

namespace Cert.Proof.X

open Cert.Extract Cert.Extract.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Affine (IsInt)

/-- Reading a word's integer. -/
theorem toInt_of {x : BitVec 32} {e : Int} (h : IsInt x e) : x.toInt = e := by unfold IsInt at h; exact h
theorem isInt_of {x : BitVec 32} {e : Int} (h : x.toInt = e) : IsInt x e := h ▸ Affine.word x

/-- The kernel's rounded-down quotient by 8: the quotient toward zero, one less where the operand is negative and the division is not exact. -/
def floorWord (v70 : BitVec 32) : BitVec 32 :=
  Scalar.addi 0#32 (Scalar.muli (Scalar.divsi (Scalar.subi
    (Scalar.select (Scalar.andi
        (Scalar.cmpi .ne (Scalar.subi (Scalar.extui (Scalar.cmpi .sgt v70 0#32)) (Scalar.extui (Scalar.cmpi .slt v70 0#32)))
          (Scalar.subi (Scalar.extui (Scalar.cmpi .sgt 8#32 0#32)) (Scalar.extui (Scalar.cmpi .slt 8#32 0#32))))
        (Scalar.cmpi .ne (Scalar.remsi v70 8#32) 0#32))
      (Scalar.subi (Scalar.divsi v70 8#32) 1#32) (Scalar.divsi v70 8#32)) 0#32) 1#32) 1#32)

theorem isInt_lit (n : ℕ) (h : n < 2 ^ 31) : IsInt (BitVec.ofNat 32 n) n := Affine.ofNat n ⟨rfl, h⟩

theorem not_corner (x : BitVec 32) : ¬IntOp.SDivCorner x 8#32 := by
  unfold IntOp.SDivCorner
  rintro (h | ⟨_, h⟩)
  · exact absurd h (by decide)
  · exact absurd h (by decide)

theorem divsi_toInt (x : BitVec 32) : (Scalar.divsi x 8#32).toInt = x.toInt.tdiv 8 := by
  show (IntOp.divsi .scalar x 8#32).toInt = _
  unfold IntOp.divsi
  rw [if_neg (not_corner x), BitVec.toInt_sdiv]
  have h := Affine.word_range x
  show (x.toInt.tdiv 8).bmod (2 ^ 32) = _
  rcases Int.le_total 0 x.toInt with hp | hn
  · rw [Int.tdiv_eq_ediv_of_nonneg hp, Int.bmod_def]; omega
  · obtain ⟨n, hn'⟩ : ∃ n : ℕ, x.toInt = -(n : Int) := ⟨x.toInt.natAbs, by omega⟩
    rw [hn', Int.neg_tdiv, Int.tdiv_eq_ediv_of_nonneg (by omega), Int.bmod_def]; omega

theorem remsi_toInt (x : BitVec 32) : (Scalar.remsi x 8#32).toInt = x.toInt.tmod 8 := by
  show (IntOp.remsi .scalar x 8#32).toInt = _
  unfold IntOp.remsi
  rw [if_neg (not_corner x), BitVec.toInt_srem]
  rfl

theorem floorWord_toInt {x : BitVec 32} {d : Int} (hx : IsInt x d) (h : -2 ^ 28 ≤ d ∧ d < 2 ^ 28) : IsInt (floorWord x) (d / 8) := by
  have z : IsInt 0#32 0 := isInt_lit 0 (by decide)
  have o : IsInt 1#32 1 := isInt_lit 1 (by decide)
  have e : IsInt 8#32 8 := isInt_lit 8 (by decide)
  have hd : IsInt (Scalar.divsi x 8#32) (d.tdiv 8) := isInt_of (by rw [divsi_toInt, toInt_of hx])
  have hr : IsInt (Scalar.remsi x 8#32) (d.tmod 8) := isInt_of (by rw [remsi_toInt, toInt_of hx])
  have key : ∀ q : BitVec 32, IsInt q (d / 8) → IsInt (Scalar.addi 0#32 (Scalar.muli (Scalar.divsi (Scalar.subi q 0#32) 1#32) 1#32)) (d / 8) := by
    intro q hq
    have h1 := Affine.subi (e := d / 8) hq z ⟨by omega, by omega, by omega⟩
    have h2 := Affine.divsi_one (e := d / 8) h1 o ⟨by omega, rfl⟩
    have h3 := Affine.muli (e := d / 8) h2 o ⟨by omega, by omega, by omega⟩
    exact Affine.addi z h3 ⟨by omega, by omega, by omega⟩
  apply key
  have e1 : IsInt (Scalar.subi (Scalar.extui (Scalar.cmpi .sgt 8#32 0#32)) (Scalar.extui (Scalar.cmpi .slt 8#32 0#32))) 1 :=
    Affine.subi (Affine.extui_holds (Affine.sgt_holds e z (by decide)) rfl) (Affine.extui_fails (Affine.slt_fails e z (by decide)) rfl) (by decide)
  rcases lt_trichotomy d 0 with hn | h0 | hp
  · have s : IsInt (Scalar.subi (Scalar.extui (Scalar.cmpi .sgt x 0#32)) (Scalar.extui (Scalar.cmpi .slt x 0#32))) (-1) :=
      Affine.subi (Affine.extui_fails (Affine.sgt_fails hx z (by omega)) rfl) (Affine.extui_holds (Affine.slt_holds hx z (by omega)) rfl) (by decide)
    have hne := Affine.ne_holds s e1 (by decide)
    obtain ⟨n, rfl⟩ : ∃ n : ℕ, d = -(n : Int) := ⟨d.natAbs, by omega⟩
    rw [Int.neg_tdiv, Int.tdiv_eq_ediv_of_nonneg (by omega)] at hd
    rw [Int.neg_tmod, Int.tmod_eq_emod_of_nonneg (by omega)] at hr
    by_cases hm : (n : Int) % 8 = 0
    · exact Affine.select_fails (Affine.andi_fails_right (Affine.tH hne) (Affine.ne_fails hr z (by omega)))
        (Affine.subi (e := -((n : Int) / 8) - 1) hd o ⟨rfl, by omega, by omega⟩) hd (by omega)
    · exact Affine.select_holds (Affine.andi_holds hne (Affine.ne_holds hr z (by omega)))
        (Affine.subi (e := -((n : Int) / 8) - 1) hd o ⟨rfl, by omega, by omega⟩) hd (by omega)
  · subst h0
    exact Affine.select_fails (Affine.andi_fails_right trivial (Affine.ne_fails hr z (by decide)))
      (Affine.subi (e := -1) hd o (by decide)) hd (by decide)
  · have s : IsInt (Scalar.subi (Scalar.extui (Scalar.cmpi .sgt x 0#32)) (Scalar.extui (Scalar.cmpi .slt x 0#32))) 1 :=
      Affine.subi (Affine.extui_holds (Affine.sgt_holds hx z (by omega)) rfl) (Affine.extui_fails (Affine.slt_fails hx z (by omega)) rfl) (by decide)
    rw [Int.tdiv_eq_ediv_of_nonneg (by omega)] at hd
    exact Affine.select_fails (Affine.andi_fails_left (Affine.ne_fails s e1 rfl) trivial)
      (Affine.subi (e := d / 8 - 1) hd o ⟨rfl, by omega, by omega⟩) hd (by omega)

section
variable (i : grid0.Coords) (v18 v21 : BitVec 32) (hf : -2 ^ 25 ≤ v18.toInt ∧ v18.toInt < 2 ^ 25) (hl : -2 ^ 25 ≤ v21.toInt ∧ v21.toInt < 2 ^ 25)

theorem i_lt : (i 0).val < 104 := (i 0).isLt

/-- The first column of the chunk, -/
theorem c0_int : IsInt (Scalar.muli (BitVec.ofNat 32 (i 0).val) 64#32) (64 * (i 0).val) := by
  have := i_lt i
  exact Affine.muli (isInt_lit _ (by omega)) (isInt_lit 64 (by decide)) ⟨by push_cast; omega, by omega, by omega⟩

/-- and the one past its last. -/
theorem c1_int : IsInt (Scalar.addi (Scalar.muli (BitVec.ofNat 32 (i 0).val) 64#32) 64#32) (64 * (i 0).val + 64) := by
  have := i_lt i
  exact Affine.addi (c0_int i) (isInt_lit 64 (by decide)) ⟨by push_cast; omega, by omega, by omega⟩

/-- The count of groups of eight columns that block's slots meet in the chunk. -/
def groups : Int := (min (v21.toInt + 1) (64 * (i 0).val + 64) - max v18.toInt (64 * (i 0).val) + 7) / 8

include hf hl in
theorem ub_int : IsInt (k0_t1_loop i v18 v21).ub (groups i v18 v21) := by
  have := i_lt i
  have h1 : IsInt (Scalar.addi v21 1#32) (v21.toInt + 1) := Affine.addi (Affine.word _) (isInt_lit 1 (by decide)) ⟨by push_cast; omega, by omega, by omega⟩
  have h2 := Affine.minsi (e := min (v21.toInt + 1) (64 * (i 0).val + 64)) h1 (c1_int i) rfl
  have h3 := Affine.maxsi (e := max v18.toInt (64 * (i 0).val)) (Affine.word v18) (c0_int i) rfl
  have h4 := Affine.subi (e := min (v21.toInt + 1) (64 * (i 0).val + 64) - max v18.toInt (64 * (i 0).val)) h2 h3 ⟨rfl, by omega, by omega⟩
  have h5 := Affine.addi (e := min (v21.toInt + 1) (64 * (i 0).val + 64) - max v18.toInt (64 * (i 0).val) + 8) h4 (isInt_lit 8 (by decide)) ⟨by push_cast; omega, by omega, by omega⟩
  have h6 := Affine.subi (e := min (v21.toInt + 1) (64 * (i 0).val + 64) - max v18.toInt (64 * (i 0).val) + 7) h5 (isInt_lit 1 (by decide)) ⟨by push_cast; omega, by omega, by omega⟩
  exact floorWord_toInt h6 ⟨by omega, by omega⟩

include hf hl in
theorem t1_trips : (k0_t1_loop i v18 v21).trips = (groups i v18 v21).toNat := by
  have h := toInt_of (ub_int i v18 v21 hf hl)
  show ((_ - (0#32 : BitVec 32).toInt + (1#32 : BitVec 32).toInt - 1) / (1#32 : BitVec 32).toInt).toNat = _
  rw [h]
  show ((groups i v18 v21 - 0 + 1 - 1) / 1).toNat = _
  congr 1; omega

theorem groups_le : groups i v18 v21 ≤ 8 := by unfold groups; omega

theorem t2_ub : (k0_t2_loop i v18 v21).lb = (k0_t2_loop i v18 v21).ub := by
  have h : ∀ q : BitVec 32, Scalar.muli (Scalar.divsi q 1#32) 1#32 = q := fun q => by
    have h1 : Scalar.divsi q 1#32 = q :=
      BitVec.eq_of_toInt_eq (toInt_of (Affine.divsi_one (Affine.word q) (isInt_lit 1 (by decide)) ⟨rfl, rfl⟩))
    rw [h1]; exact BitVec.mul_one q
  exact congrArg (Scalar.addi 0#32) (h _)

/-- The loop over the columns left over has none. -/
theorem t2_trips : (k0_t2_loop i v18 v21).trips = 0 := by
  show Scf.trips _ _ _ = 0
  rw [← t2_ub]
  show ((_ - _ + (1#32 : BitVec 32).toInt - 1) / (1#32 : BitVec 32).toInt).toNat = _
  rw [Int.sub_self]; rfl

/-- The first column of trip `n`: eight further per trip, but never past the chunk's last eight. -/
def startInt (n : ℕ) : Int := min (max v18.toInt (64 * (i 0).val) + 8 * n) (64 * (i 0).val + 56)

include hf in
theorem start_int (n : ℕ) (hn : n ≤ 8) : IsInt (start i v18 n) (startInt i v18 n) := by
  have := i_lt i
  have h3 := Affine.maxsi (e := max v18.toInt (64 * (i 0).val)) (Affine.word v18) (c0_int i) rfl
  have h4 := Affine.iv (e := n) (isInt_lit 0 (by decide)) (isInt_lit 1 (by decide)) n ⟨by push_cast; omega, by omega, by omega⟩
  have h5 := Affine.muli (e := 8 * n) h4 (isInt_lit 8 (by decide)) ⟨by push_cast; omega, by omega, by omega⟩
  have h6 := Affine.addi (e := max v18.toInt (64 * (i 0).val) + 8 * n) h3 h5 ⟨rfl, by omega, by omega⟩
  have h7 := Affine.subi (e := 64 * (i 0).val + 56) (c1_int i) (isInt_lit 8 (by decide)) ⟨by push_cast; omega, by omega, by omega⟩
  exact Affine.minsi h6 h7 rfl

include hf in
/-- The lane offset of a trip's column in the staged part of the table. -/
theorem off_int (n : ℕ) (hn : n ≤ 8) (r : ℕ) (hr : r < 8) :
    IsInt (Scalar.muli (Scalar.subi (Scalar.addi (start i v18 n) (BitVec.ofNat 32 r)) (Scalar.muli (BitVec.ofNat 32 (i 0).val) 64#32)) 128#32)
      ((startInt i v18 n + r - 64 * (i 0).val) * 128) := by
  have := i_lt i
  have hs : 64 * ((i 0).val : Int) ≤ startInt i v18 n ∧ startInt i v18 n ≤ 64 * (i 0).val + 56 := by unfold startInt; omega
  have h1 := Affine.addi (e := startInt i v18 n + r) (start_int i v18 hf n hn) (isInt_lit r (by omega)) ⟨rfl, by omega, by omega⟩
  have h2 := Affine.subi (e := startInt i v18 n + r - 64 * (i 0).val) h1 (c0_int i) ⟨rfl, by omega, by omega⟩
  exact Affine.muli h2 (isInt_lit 128 (by decide)) ⟨by push_cast; omega, by omega, by omega⟩

include hf hl in
theorem trip_le (t : Fin (k0_t1_loop i v18 v21).trips) : t.val < 8 := by
  have h1 := Nat.lt_of_lt_of_eq t.isLt (t1_trips i v18 v21 hf hl)
  have h2 := groups_le i v18 v21
  omega

include hf hl in
theorem off_inb (t : Fin (k0_t1_loop i v18 v21).trips) (r : Fin 8) {o : Fin 2 → ℕ} {rr : ℕ} (hr : rr ≤ 416)
    (ho : o = ![rr, (Scalar.muli (Scalar.subi (Scalar.addi (start i v18 t.val) (BitVec.ofNat 32 r.val)) (Scalar.muli (BitVec.ofNat 32 (i 0).val) 64#32)) 128#32).toNat]) :
    ∀ a, o a + S32x128.size a ≤ S448x8192.size a := by
  have ht := trip_le i v18 v21 hf hl t
  have h := off_int i v18 hf t.val (by omega) r.val r.isLt
  have hs : 64 * ((i 0).val : Int) ≤ startInt i v18 t.val ∧ startInt i v18 t.val ≤ 64 * (i 0).val + 56 := by unfold startInt; omega
  have hn := Affine.toNat_of h (by omega)
  subst ho
  intro a
  fin_cases a
  · show rr + 32 ≤ 448; omega
  · show (Scalar.muli _ _).toNat + 128 ≤ 8192
    have := r.isLt
    omega

include hf hl in
theorem mult_dvd (t : Fin (k0_t1_loop i v18 v21).trips) (r : ℕ) (hr : r < 8) {w : BitVec 32}
    (hw : w = Scalar.muli (Scalar.subi (Scalar.addi (start i v18 t.val) (BitVec.ofNat 32 r)) (Scalar.muli (BitVec.ofNat 32 (i 0).val) 64#32)) 128#32) :
    128 ∣ w.toNat := by
  have ht := trip_le i v18 v21 hf hl t
  have h := off_int i v18 hf t.val (by omega) r hr
  have hs : 64 * ((i 0).val : Int) ≤ startInt i v18 t.val ∧ startInt i v18 t.val ≤ 64 * (i 0).val + 56 := by unfold startInt; omega
  subst hw
  exact Affine.dvd_of h 128 ⟨⟨_, Int.mul_comm _ _⟩, by omega⟩

include hf hl in
theorem t1_ok : (k0_t1_loop i v18 v21).OK := by
  refine ⟨show 0 < (1#32 : BitVec 32).toInt by decide, ?_⟩
  show (0#32 : BitVec 32).toInt + (((k0_t1_loop i v18 v21).trips : ℕ) : Int) * (1#32 : BitVec 32).toInt < 2 ^ 31
  have h2 := groups_le i v18 v21
  rw [t1_trips i v18 v21 hf hl]
  show (0 : Int) + ((groups i v18 v21).toNat : Int) * 1 < 2 ^ 31
  omega

theorem t2_ok : (k0_t2_loop i v18 v21).OK := by
  refine ⟨show 0 < (1#32 : BitVec 32).toInt by decide, ?_⟩
  show (k0_t2_loop i v18 v21).lb.toInt + (((k0_t2_loop i v18 v21).trips : ℕ) : Int) * (1#32 : BitVec 32).toInt < 2 ^ 31
  rw [t2_trips i v18 v21]
  have := Affine.word_range (k0_t2_loop i v18 v21).lb
  omega

include hf hl in
/-- Every access of a block's two loops is in bounds, whatever the block's first and last column. -/
theorem chk3 : k0_chk3 i v18 v21 := by
  have z : ∀ t : Fin (k0_t2_loop i v18 v21).trips, False := fun t => by
    exact absurd (Nat.lt_of_lt_of_eq t.isLt (t2_trips i v18 v21)) (Nat.not_lt_zero _)
  unfold k0_chk3 k0_chk3_0 k0_chk3_1
  refine ⟨⟨t1_ok i v18 v21 hf hl, fun t => mult_dvd i v18 v21 hf hl t 0 (by decide) rfl, ?_, ?_, ?_, ?_, ?_, ?_, ?_, ?_, ?_, ?_, ?_, ?_, ?_, ?_,
    fun t => mult_dvd i v18 v21 hf hl t 1 (by decide) rfl, fun t => mult_dvd i v18 v21 hf hl t 2 (by decide) rfl, fun t => mult_dvd i v18 v21 hf hl t 3 (by decide) rfl,
    fun t => mult_dvd i v18 v21 hf hl t 4 (by decide) rfl, fun t => mult_dvd i v18 v21 hf hl t 5 (by decide) rfl, fun t => mult_dvd i v18 v21 hf hl t 6 (by decide) rfl,
    fun t => mult_dvd i v18 v21 hf hl t 7 (by decide) rfl, t2_ok i v18 v21, fun t => (z t).elim, fun t => (z t).elim, fun t => (z t).elim, fun t => (z t).elim, fun t => (z t).elim,
    fun t => (z t).elim, fun t => (z t).elim, fun t => (z t).elim⟩, fun t => (z t).elim, fun t => (z t).elim, fun t => (z t).elim, fun t => (z t).elim, fun t => (z t).elim, fun t => (z t).elim,
    fun t => (z t).elim, fun t => (z t).elim, fun t => (z t).elim, fun t => (z t).elim, fun t => (z t).elim, fun t => (z t).elim, fun t => (z t).elim, fun t => (z t).elim⟩
  all_goals exact fun t r => off_inb i v18 v21 hf hl t r (by decide) rfl

end

/-- The word of a block number. -/
theorem ofNat_toNat {j : ℕ} (hj : j ≤ 192) : (BitVec.ofNat 32 j).toNat = j := by rw [BitVec.toNat_ofNat]; omega

/-- The block's first slot. -/
theorem slot0 {j : ℕ} (hj : j ≤ 192) : (Scalar.muli (BitVec.ofNat 32 j) 128#32).toNat = 128 * j := by
  have h : IsInt (Scalar.muli (BitVec.ofNat 32 j) 128#32) (128 * j) :=
    Affine.muli (isInt_lit j (by omega)) (isInt_lit 128 (by decide)) ⟨by push_cast; omega, by omega, by omega⟩
  have := Affine.toNat_of h (by omega)
  omega

/-- The block whose first column the loop's test reads. -/
theorem capped {j : ℕ} (hj : j ≤ 192) : (Scalar.minsi (BitVec.ofNat 32 j) 191#32).toNat = min j 191 := by
  have h : IsInt (Scalar.minsi (BitVec.ofNat 32 j) 191#32) (min (j : Int) 191) :=
    Affine.minsi (isInt_lit j (by omega)) (isInt_lit 191 (by decide)) rfl
  have := Affine.toNat_of h (by omega)
  omega

theorem off1_eq {j : ℕ} (hj : j ≤ 192) : k0_off1 (BitVec.ofNat 32 j) = ![min j 191] := by
  show ![(Scalar.minsi (BitVec.ofNat 32 j) 191#32).toNat] = _
  rw [capped hj]

theorem off3_eq {j : ℕ} (hj : j ≤ 192) : k0_off3 (BitVec.ofNat 32 j) = ![j] := by
  show ![(BitVec.ofNat 32 j).toNat] = _
  rw [ofNat_toNat hj]

theorem off2_eq {j : ℕ} (hj : j ≤ 192) : k0_off2 (BitVec.ofNat 32 j) = ![j, 0] := by
  show ![(BitVec.ofNat 32 j).toNat, 0] = _
  rw [ofNat_toNat hj]

theorem chk1 {j : ℕ} (hj : j ≤ 192) : k0_chk1 (BitVec.ofNat 32 j) := by
  unfold k0_chk1
  rw [off1_eq hj]
  intro a; fin_cases a
  show min j 191 + 1 ≤ 192; omega

theorem tile_inb {j : ℕ} (hj : j < 192) {o : Fin 2 → ℕ} {rr : ℕ} (hr : rr ≤ 104)
    (ho : o = ![rr, (Scalar.muli (BitVec.ofNat 32 j) 128#32).toNat]) : ∀ a, o a + S8x128.size a ≤ S112x24576.size a := by
  subst ho
  rw [slot0 (by omega)]
  intro a; fin_cases a
  · show rr + 8 ≤ 112; omega
  · show 128 * j + 128 ≤ 24576; omega

theorem chk2 {j : ℕ} (hj : j < 192) : k0_chk2 (BitVec.ofNat 32 j) := by
  unfold k0_chk2
  have o3 : ∀ a : Fin 1, k0_off3 (BitVec.ofNat 32 j) a + S1.size a ≤ S192.size a := by
    rw [off3_eq (by omega)]; intro a; fin_cases a; show j + 1 ≤ 192; omega
  refine ⟨?_, o3, ?_, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, tile_inb hj (by decide) rfl, o3⟩
  · rw [off2_eq (by omega)]; intro a; fin_cases a
    · show j + 1 ≤ 192; omega
    · show 0 + 128 ≤ 128; omega
  · show 128 ∣ (Scalar.muli (BitVec.ofNat 32 j) 128#32).toNat; rw [slot0 (by omega)]; exact ⟨j, rfl⟩

end Cert.Proof.X
-- ==== Proof.XLoop.lean ====
/-
  The inner loop over the table's columns, all trips together, and what a slot's word is: the four bytes of the table's
  column that its id names.
-/
module

public import proofs.«01_k».proof.Proof.XTrip
public import proofs.«01_k».proof.Proof.XArith
public import Idealize.ShloMosaic.Lib.BitcastFour
public import Idealize.ShloMosaic.Lib.Pipeline.Value

@[expose] public section

set_option maxRecDepth 8192
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Four bytes as one word, the first the lowest. -/
def word4 (b : Fin 4 → BitVec 8) : BitVec 32 :=
  (b 0).setWidth 32 ||| ((b 1).setWidth 32 <<< 8) ||| ((b 2).setWidth 32 <<< 16) ||| ((b 3).setWidth 32 <<< 24)

/-- A byte of the staged part of the table, zero outside it. -/
def byteAt (arg4 : Memref sig .tc .vmem S448x8192 .i8) (X : BufTy.Contents (Elt F) arg4.view.ty) (r o : ℕ) : BitVec 8 :=
  if h : r < 448 ∧ o < 8192 then arg4.view.read (Elt F) X (ix2 (n0 := 448) (n1 := 8192) ⟨r, h.1⟩ ⟨o, h.2⟩) else 0#8

/-- The word of word row `w` at a staged place: the bytes of the four rows `4 w` to `4 w + 3`. -/
def wordAt (arg4 : Memref sig .tc .vmem S448x8192 .i8) (X : BufTy.Contents (Elt F) arg4.view.ty) (w o : ℕ) : BitVec 32 :=
  word4 fun b => byteAt arg4 X (4 * w + b.val) o

theorem offK_eq (i : grid0.Coords) (v18 v21 : BitVec 32) (t : Fin (k0_t1_loop i v18 v21).trips) (r : Fin 8) (k : Fin 14) :
    offK i v18 v21 t (BitVec.ofNat 32 r.val) k = ![32 * k.val, (Scalar.muli (Scalar.subi (Scalar.addi (start i v18 t.val) (BitVec.ofNat 32 r.val)) (Scalar.muli (BitVec.ofNat 32 (i 0).val) 64#32)) 128#32).toNat] := by
  fin_cases k <;> rfl

theorem colWords_apply (i : grid0.Coords) (v18 v21 : BitVec 32) (h : k0_chk3 i v18 v21) (t : Fin (k0_t1_loop i v18 v21).trips)
    (arg4 : Memref sig .tc .vmem S448x8192 .i8) (X : BufTy.Contents (Elt F) arg4.view.ty) (k : Fin 14) (r : Fin 8) (o : ℕ) (ho : o + 128 ≤ 8192)
    (hoff : offK i v18 v21 t (BitVec.ofNat 32 r.val) k = ![32 * k.val, o]) (p : Fin 8) (l : Fin 128) :
    colWords i v18 v21 h t arg4 X k r (ix2 p l) = wordAt arg4 X (8 * k.val + p.val) (o + l.val) := by
  apply BitVec.eq_of_getLsbD_eq
  intro q hq
  unfold colWords wordAt
  refine Eq.trans ?_ (four_bytes_getLsbD (fun b => byteAt arg4 X (4 * (8 * k.val + p.val) + b.val) (o + l.val)) q hq).symm
  refine (bitcast_8_32_getLsbD_ix2 (R := 32) (r := 8) (n := 128) _ bitcasts_S32x128_w8_S8x128_w32 p l q hq ⟨4 * p.val + q / 8, by omega⟩ rfl).trans ?_
  refine (congrArg (fun z : BitVec 8 => z.getLsbD (q % 8)) (congrFun (shapeCast_self (s := S32x128) _ _) _)).trans ?_
  show (View.readAt (Elt F) _ _ X _ : BitVec 8).getLsbD _ = _
  rw [View.readAt_apply]
  unfold byteAt
  rw [dif_pos ⟨by show 4 * (8 * k.val + p.val) + q / 8 < 448; omega, by omega⟩]
  refine congrArg (fun z => BitVec.getLsbD (arg4.view.read (Elt F) X z) (q % 8)) ?_
  funext a
  match a with
  | ⟨0, _⟩ =>
    refine Fin.ext ?_
    show offK i v18 v21 t (BitVec.ofNat 32 r.val) k 0 + 1 * (4 * p.val + q / 8) = 4 * (8 * k.val + p.val) + q / 8
    rw [hoff]; show 32 * k.val + _ = _; omega
  | ⟨1, _⟩ =>
    refine Fin.ext ?_
    show offK i v18 v21 t (BitVec.ofNat 32 r.val) k 1 + 1 * l.val = o + l.val
    rw [hoff]; show o + _ = _; omega

/-- A slot's lane is its lane word: it is never negative. -/
theorem laneOf_apply {v14 : IVec S8x128 32} {x : S8x128.Idx} (h : (v14 x).toNat < 128) : laneOf v14 x = v14 x := by
  unfold laneOf
  rw [shapeCast_shapeCast]
  show Scalar.select (IntOp.cmpi .slt (v14 x) 0#32) _ _ = _
  rw [show IntOp.cmpi .slt (v14 x) 0#32 = 0#1 from by
    show BitVec.ofBool ((v14 x).slt 0#32) = 0#1
    have : (v14 x).slt 0#32 = false := by
      rw [BitVec.slt, decide_eq_false_iff_not, BitVec.toInt_eq_toNat_of_lt (by omega)]
      show ¬ ((v14 x).toNat : Int) < (0#32 : BitVec 32).toInt
      rw [show (0#32 : BitVec 32).toInt = 0 from by decide]; omega
    rw [this]; rfl]
  rfl

/-- A slot is in a trip's column exactly when its column is that number. -/
theorem taken_iff (i : grid0.Coords) (v18 : BitVec 32) (hf : -2 ^ 25 ≤ v18.toInt ∧ v18.toInt < 2 ^ 25) (n : ℕ) (hn : n ≤ 8) (r : Fin 8) (w : BitVec 32) :
    w = Scalar.addi (start i v18 n) (BitVec.ofNat 32 r.val) ↔ w.toInt = startInt i v18 n + r.val := by
  have := i_lt i
  have h := Affine.addi (e := startInt i v18 n + r.val) (start_int i v18 hf n hn) (isInt_lit r.val (by omega)) ⟨rfl, by unfold startInt; omega, by unfold startInt; omega⟩
  constructor
  · intro e; rw [e]; exact toInt_of h
  · intro e; exact BitVec.eq_of_toInt_eq (e.trans (toInt_of h).symm)

section
variable (𝒱 : Variants) (c : Dev nD) (bd : Option 𝒱.V) (i : grid0.Coords) (arg1 : Memref sig .tc .smem S192 .i32) (harg1 : arg1.IsWhole) (arg3 : Memref sig .tc .vmem S192x128 .i32) (harg3 : arg3.IsWhole) (arg2 : Memref sig .tc .smem S192 .i32) (harg2 : arg2.IsWhole) (arg5 : Memref sig .tc .vmem S112x24576 .i32) (harg5 : arg5.IsWhole) (arg4 : Memref sig .tc .vmem S448x8192 .i8) (harg4 : arg4.IsWhole) (arg7 : BitVec 32) (arg8 : BitVec 1) (v3 : BitVec 32) (v4 : BitVec 32) (k0_hw2 : k0_chk2 arg7) (v14 : IVec S8x128 32) (v16 : IVec S8x128 32) (v18 : Elt F .i32) (v19 : BitVec 32) (v21 : Elt F .i32) (k0_hw3 : k0_chk3 i v18 v21) (v23 : BitVec 32) (v25 : BitVec 32) (v28 : IVec S8x128 32) (v31 : IVec S8x128 32) (v34 : IVec S8x128 32) (v37 : IVec S8x128 32) (v40 : IVec S8x128 32) (v43 : IVec S8x128 32) (v46 : IVec S8x128 32) (v49 : IVec S8x128 32) (v51 : Vec F S8x128 .i32)

/-- The loop over groups of columns, at one slot of one tile: a slot whose column is in the chunk reads its word of the staged
    part of the table, any other keeps what it held. -/
theorem loop_value (X_arg4 : BufTy.Contents (Elt F) arg4.view.ty) (init : Tiles) (k : Fin 14) (p : Fin 8) (l : Fin 128)
    (h3 : v3 = Scalar.muli (BitVec.ofNat 32 (i 0).val) 64#32) (h4 : v4 = Scalar.addi v3 64#32) (h19 : v19 = Scalar.maxsi v18 v3)
    (hf : -2 ^ 25 ≤ v18.toInt ∧ v18.toInt < 2 ^ 25) (hl : -2 ^ 25 ≤ v21.toInt ∧ v21.toInt < 2 ^ 25)
    (h14 : (v14 (ix2 p l)).toNat < 128) (hfirst : v18.toInt ≤ (v16 (ix2 p l)).toInt) (hlast : (v16 (ix2 p l)).toInt ≤ v21.toInt) :
    pick (st_k0_t1 (F := F) 𝒱 c bd i arg1 harg1 arg3 harg3 arg2 harg2 arg5 harg5 arg4 harg4 arg7 arg8 v3 v4 k0_hw2 v14 v16 v18 v19 v21 k0_hw3 v23 v25 v28 v31 v34 v37 v40 v43 v46 v49 v51 X_arg4 init (k0_t1_loop i v18 v21).trips) k (ix2 p l)
      = if 64 * ((i 0).val : Int) ≤ (v16 (ix2 p l)).toInt ∧ (v16 (ix2 p l)).toInt < 64 * (i 0).val + 64
        then wordAt arg4 X_arg4 (8 * k.val + p.val) (((v16 (ix2 p l)).toInt - 64 * (i 0).val).toNat * 128 + (v14 (ix2 p l)).toNat)
        else pick init k (ix2 p l) := by
  have hi := i_lt i
  have key : ∀ n : ℕ, n ≤ (k0_t1_loop i v18 v21).trips →
      ((∃ t, t < n ∧ startInt i v18 t ≤ (v16 (ix2 p l)).toInt ∧ (v16 (ix2 p l)).toInt < startInt i v18 t + 8) →
        pick (st_k0_t1 (F := F) 𝒱 c bd i arg1 harg1 arg3 harg3 arg2 harg2 arg5 harg5 arg4 harg4 arg7 arg8 v3 v4 k0_hw2 v14 v16 v18 v19 v21 k0_hw3 v23 v25 v28 v31 v34 v37 v40 v43 v46 v49 v51 X_arg4 init n) k (ix2 p l)
          = wordAt arg4 X_arg4 (8 * k.val + p.val) (((v16 (ix2 p l)).toInt - 64 * (i 0).val).toNat * 128 + (v14 (ix2 p l)).toNat)) ∧
      ((∀ t, t < n → ¬ (startInt i v18 t ≤ (v16 (ix2 p l)).toInt ∧ (v16 (ix2 p l)).toInt < startInt i v18 t + 8)) →
        pick (st_k0_t1 (F := F) 𝒱 c bd i arg1 harg1 arg3 harg3 arg2 harg2 arg5 harg5 arg4 harg4 arg7 arg8 v3 v4 k0_hw2 v14 v16 v18 v19 v21 k0_hw3 v23 v25 v28 v31 v34 v37 v40 v43 v46 v49 v51 X_arg4 init n) k (ix2 p l) = pick init k (ix2 p l)) := by
    intro n
    induction n with
    | zero => exact fun _ => ⟨fun ⟨t, ht, _⟩ => absurd ht (Nat.not_lt_zero _), fun _ => rfl⟩
    | succ n ih =>
      intro hn
      have ih := ih (by omega)
      have hn8 : n < 8 := trip_le i v18 v21 hf hl ⟨n, hn⟩
      have e := st_k0_t1_succ (F := F) 𝒱 c bd i arg1 harg1 arg3 harg3 arg2 harg2 arg5 harg5 arg4 harg4 arg7 arg8 v3 v4 k0_hw2 v14 v16 v18 v19 v21 k0_hw3 v23 v25 v28 v31 v34 v37 v40 v43 v46 v49 v51 X_arg4 init ⟨n, hn⟩
      have e' := congrArg (fun z : Tiles => pick z k (ix2 p l)) e
      have e'' := congrFun (trip_eq (F := F) 𝒱 c bd i arg1 harg1 arg3 harg3 arg2 harg2 arg5 harg5 arg4 harg4 arg7 arg8 v3 v4 k0_hw2 v14 v16 v18 v19 v21 k0_hw3 v23 v25 v28 v31 v34 v37 v40 v43 v46 v49 v51 X_arg4 ⟨n, hn⟩ (st_k0_t1 (F := F) 𝒱 c bd i arg1 harg1 arg3 harg3 arg2 harg2 arg5 harg5 arg4 harg4 arg7 arg8 v3 v4 k0_hw2 v14 v16 v18 v19 v21 k0_hw3 v23 v25 v28 v31 v34 v37 v40 v43 v46 v49 v51 X_arg4 init n) k h3 h4 h19) (ix2 p l)
      have e3 := e'.trans e''
      have eT : ∀ r : Fin 8, v16 (ix2 p l) = Scalar.addi (start i v18 n) (BitVec.ofNat 32 r.val) ↔ (v16 (ix2 p l)).toInt = startInt i v18 n + r.val :=
        fun r => taken_iff i v18 hf n (by omega) r _
      by_cases hin : startInt i v18 n ≤ (v16 (ix2 p l)).toInt ∧ (v16 (ix2 p l)).toInt < startInt i v18 n + 8
      · refine ⟨fun _ => e3.trans ?_, fun hno => absurd hin (hno n (Nat.lt_succ_self n))⟩
        refine steps_take ?_ 8 le_rfl ⟨⟨((v16 (ix2 p l)).toInt - startInt i v18 n).toNat, by omega⟩, by show (_ : ℕ) < 8; omega, (eT _).mpr (by show _ = _ + ((((v16 (ix2 p l)).toInt - startInt i v18 n).toNat : ℕ) : Int); omega)⟩
        intro r hr
        have hr := (eT r).mp hr
        have ho := off_int i v18 hf n (by omega) r.val r.isLt
        have ho' := Affine.toNat_of ho (by unfold startInt; omega)
        show colWords i v18 v21 k0_hw3 ⟨n, hn⟩ arg4 X_arg4 k r (fun b => if b = 1 then ⟨(laneOf v14 (ix2 p l)).toNat % S8x128.size b, _⟩ else (ix2 p l : S8x128.Idx) b) = _
        rw [show (fun b => if b = 1 then ⟨(laneOf v14 (ix2 p l)).toNat % S8x128.size b, _⟩ else (ix2 p l : S8x128.Idx) b : S8x128.Idx)
            = ix2 p ⟨(v14 (ix2 p l)).toNat, h14⟩ from by
          funext b
          match b with
          | ⟨0, _⟩ => rfl
          | ⟨1, _⟩ => exact Fin.ext (by
              show (laneOf v14 (ix2 p l)).toNat % 128 = (v14 (ix2 p l)).toNat
              rw [laneOf_apply h14]; omega)]
        have hs : startInt i v18 n + r.val - 64 * (i 0).val = (v16 (ix2 p l)).toInt - 64 * (i 0).val := by omega
        rw [hs] at ho'
        have hb : 0 ≤ (v16 (ix2 p l)).toInt - 64 * (i 0).val ∧ (v16 (ix2 p l)).toInt - 64 * (i 0).val < 64 := by
          rw [← hs]; unfold startInt; omega
        refine (colWords_apply i v18 v21 k0_hw3 ⟨n, hn⟩ arg4 X_arg4 k r (((v16 (ix2 p l)).toInt - 64 * (i 0).val).toNat * 128) (by omega) ?_ p _)
        rw [offK_eq]
        congr 2
        show (Scalar.muli (Scalar.subi (Scalar.addi (start i v18 n) (BitVec.ofNat 32 r.val)) (Scalar.muli (BitVec.ofNat 32 (i 0).val) 64#32)) 128#32).toNat = _
        omega
      · have hkeep := e3.trans (steps_keep 8 le_rfl (fun r _ hr => hin (by have := (eT r).mp hr; omega)))
        refine ⟨fun ⟨t, ht, hx⟩ => hkeep.trans (ih.1 ⟨t, ?_, hx⟩), fun hno => hkeep.trans (ih.2 fun t ht => hno t (by omega))⟩
        rcases Nat.lt_or_ge t n with h | h
        · exact h
        · exact absurd ((show t = n by omega) ▸ hx) hin
  have hk := key _ le_rfl
  have ht := t1_trips i v18 v21 hf hl
  split
  · rename_i hc
    refine hk.1 ⟨(((v16 (ix2 p l)).toInt - max v18.toInt (64 * (i 0).val)) / 8).toNat, ?_, ?_⟩
    · rw [ht]; unfold groups; omega
    · unfold startInt; omega
  · rename_i hc
    refine hk.2 fun t _ hx => hc ?_
    unfold startInt at hx; omega

end

end Cert.Proof.X
-- ==== Proof.XRun.lean ====
/-
  One step of the loop over blocks as a run: it reads the block's ids and its words so far, runs the inner loop and
  writes the block's words back.
-/
module

public import proofs.«01_k».proof.Proof.XTrip

@[expose] public section

set_option maxRecDepth 8192
set_option maxHeartbeats 4000000

noncomputable section

namespace Cert.Proof.X

open Cert.Extract Cert.Extract.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The loops count down natural numbers. -/
abbrev 𝒱₀ : Variants := Variants.nat

/-- What one step of the loop over blocks holds: the two tables of columns, the ids, the staged part of the table, the words gathered so far. -/
def Held (c : Dev nD) (q : PosShare TreeShare) (arg1 : Memref sig .tc .smem S192 .i32) (arg2 : Memref sig .tc .smem S192 .i32) (arg3 : Memref sig .tc .vmem S192x128 .i32)
    (arg4 : Memref sig .tc .vmem S448x8192 .i8) (arg5 : Memref sig .tc .vmem S112x24576 .i32)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) : sProp 𝕄G :=
  iprop((arg1.view.loc (c : Thread nD τ) ↦[arg1.view.set]{q} f1) ∗ (arg2.view.loc (c : Thread nD τ) ↦[arg2.view.set]{q} f2)
    ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5))

/-- The word of a table of columns that belongs to block `arg7`. -/
def word1 (a : Memref sig .tc .smem S192 .i32) (f : BufTy.Contents (Elt F) a.view.ty) (arg7 : BitVec 32) (hw2 : k0_chk2 arg7) : BitVec 32 :=
  a.view.readAt (Elt F) (Rect.unit (s := S192) (k0_off3 arg7) S1.size (k0_off3_inb arg7 hw2)).toLoadRect f (Shape.Idx.first (numel1_S1.symm ▸ Nat.one_pos))

/-- Where block `arg7` writes its fourteen tiles. -/
def offS (arg7 : BitVec 32) : Fin 14 → Fin 2 → ℕ :=
  ![k0_off46 arg7, k0_off47 arg7, k0_off48 arg7, k0_off49 arg7, k0_off50 arg7, k0_off51 arg7, k0_off52 arg7, k0_off53 arg7, k0_off54 arg7, k0_off55 arg7, k0_off56 arg7, k0_off57 arg7, k0_off58 arg7, k0_off59 arg7]

theorem offS_inb (arg7 : BitVec 32) (hw2 : k0_chk2 arg7) (k : Fin 14) : ∀ a, offS arg7 k a + S8x128.size a ≤ S112x24576.size a := by
  fin_cases k
  · exact k0_off46_inb arg7 hw2
  · exact k0_off47_inb arg7 hw2
  · exact k0_off48_inb arg7 hw2
  · exact k0_off49_inb arg7 hw2
  · exact k0_off50_inb arg7 hw2
  · exact k0_off51_inb arg7 hw2
  · exact k0_off52_inb arg7 hw2
  · exact k0_off53_inb arg7 hw2
  · exact k0_off54_inb arg7 hw2
  · exact k0_off55_inb arg7 hw2
  · exact k0_off56_inb arg7 hw2
  · exact k0_off57_inb arg7 hw2
  · exact k0_off58_inb arg7 hw2
  · exact k0_off59_inb arg7 hw2

/-- The write of tile `k`. -/
def pieceS (arg7 : BitVec 32) (hw2 : k0_chk2 arg7) (a : Tiles) (k : Fin 14) : View.Piece (Elt F) S112x24576 .i32 :=
  ⟨Rect.unit (s := S112x24576) (offS arg7 k) S8x128.size (offS_inb arg7 hw2 k), pick a k⟩

/-- The block's writes, the last first. -/
def pieces (arg7 : BitVec 32) (hw2 : k0_chk2 arg7) (a : Tiles) : List (View.Piece (Elt F) S112x24576 .i32) :=
  [pieceS arg7 hw2 a 13, pieceS arg7 hw2 a 12, pieceS arg7 hw2 a 11, pieceS arg7 hw2 a 10, pieceS arg7 hw2 a 9, pieceS arg7 hw2 a 8, pieceS arg7 hw2 a 7, pieceS arg7 hw2 a 6, pieceS arg7 hw2 a 5, pieceS arg7 hw2 a 4, pieceS arg7 hw2 a 3, pieceS arg7 hw2 a 2, pieceS arg7 hw2 a 1, pieceS arg7 hw2 a 0]

section
variable (c : Dev nD) (bd : Option 𝒱₀.V) (q : PosShare TreeShare) (i : grid0.Coords)
 (arg1 : Memref sig .tc .smem S192 .i32) (harg1 : arg1.IsWhole) (arg3 : Memref sig .tc .vmem S192x128 .i32) (harg3 : arg3.IsWhole) (arg2 : Memref sig .tc .smem S192 .i32) (harg2 : arg2.IsWhole)
 (arg5 : Memref sig .tc .vmem S112x24576 .i32) (harg5 : arg5.IsWhole) (arg4 : Memref sig .tc .vmem S448x8192 .i8) (harg4 : arg4.IsWhole) (arg7 : BitVec 32) (arg8 : BitVec 1) (v3 v4 : BitVec 32)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty)

/-- What the first part of a block's step computes: the block's ids split into lanes and columns, its first and last column,
    and the first nine of its tiles. -/
theorem run63 (hw2 : k0_chk2 arg7) (hw3 : k0_chk3 i (word1 arg1 f1 arg7 hw2) (word1 arg2 f2 arg7 hw2)) (E : Set ℕ) :
    Held c q arg1 arg2 arg3 arg4 arg5 f1 f2 f3 f4 f5 ⊢ wp frame (wpE (defs₀ (F := F)) 𝒱₀ (c : Thread nD τ) bd) E
      (k0_part63 (F := F) i arg1 harg1 arg3 harg3 arg2 harg2 arg5 harg5 arg4 harg4 arg7 arg8 v3 v4)
      (fun y => iprop(⌜y = ⟨hw2, k0_pay317 (arg3.view.readAt (Elt F) (Rect.unit (s := S192x128) (k0_off2 arg7) S1x128.size (k0_off2_inb arg7 hw2)).toLoadRect f3), k0_pay318 (arg3.view.readAt (Elt F) (Rect.unit (s := S192x128) (k0_off2 arg7) S1x128.size (k0_off2_inb arg7 hw2)).toLoadRect f3), word1 arg1 f1 arg7 hw2, Scalar.maxsi (word1 arg1 f1 arg7 hw2) v3, word1 arg2 f2 arg7 hw2, hw3, Scalar.minsi (Scalar.addi (word1 arg2 f2 arg7 hw2) 1#32) v4, Scalar.muli arg7 128#32, k0_pay319 (arg5.view.readAt (Elt F) (Rect.unit (s := S112x24576) (k0_off4 arg7) S8x128.size (k0_off4_inb arg7 hw2)).toLoadRect f5), k0_pay320 (arg5.view.readAt (Elt F) (Rect.unit (s := S112x24576) (k0_off5 arg7) S8x128.size (k0_off5_inb arg7 hw2)).toLoadRect f5), k0_pay321 (arg5.view.readAt (Elt F) (Rect.unit (s := S112x24576) (k0_off6 arg7) S8x128.size (k0_off6_inb arg7 hw2)).toLoadRect f5), k0_pay322 (arg5.view.readAt (Elt F) (Rect.unit (s := S112x24576) (k0_off7 arg7) S8x128.size (k0_off7_inb arg7 hw2)).toLoadRect f5), k0_pay323 (arg5.view.readAt (Elt F) (Rect.unit (s := S112x24576) (k0_off8 arg7) S8x128.size (k0_off8_inb arg7 hw2)).toLoadRect f5), k0_pay324 (arg5.view.readAt (Elt F) (Rect.unit (s := S112x24576) (k0_off9 arg7) S8x128.size (k0_off9_inb arg7 hw2)).toLoadRect f5), k0_pay325 (arg5.view.readAt (Elt F) (Rect.unit (s := S112x24576) (k0_off10 arg7) S8x128.size (k0_off10_inb arg7 hw2)).toLoadRect f5), k0_pay326 (arg5.view.readAt (Elt F) (Rect.unit (s := S112x24576) (k0_off11 arg7) S8x128.size (k0_off11_inb arg7 hw2)).toLoadRect f5), (arg5.view.readAt (Elt F) (Rect.unit (s := S112x24576) (k0_off12 arg7) S8x128.size (k0_off12_inb arg7 hw2)).toLoadRect f5)⟩⌝
        ∗ Held c q arg1 arg2 arg3 arg4 arg5 f1 f2 f3 f4 f5)) := by
  rw [k0_part63_eq_skeleton]; unfold k0_part63_skel Held
  simp only [smemLoad, smemLoadElt, Prog.lift, Prog.bind_op, Prog.bind_ret, Prog.pure_eq_ret]
  iintro ⟨H1, H2, H3, H4, H5⟩
  iapply (wp_assume _ _ _ _ hw2)
  sl_step
  sl_step
  sl_step
  iapply (wp_assume _ _ _ _ hw3)
  sl_exec
  sl_step
  sl_close

/-- The tiles a block starts from. -/
def tiles0 (hw2 : k0_chk2 arg7) (t0 t1 t2 t3 t4 t5 t6 t7 : IVec S8x128 32) (t8 : Vec F S8x128 .i32) : Tiles :=
  (t0, t1, t2, t3, t4, t5, t6, t7, k0_pay327 t8, k0_pay328 (arg5.view.readAt (Elt F) (Rect.unit (s := S112x24576) (k0_off13 arg7) S8x128.size (k0_off13_inb arg7 hw2)).toLoadRect f5), k0_pay329 (arg5.view.readAt (Elt F) (Rect.unit (s := S112x24576) (k0_off14 arg7) S8x128.size (k0_off14_inb arg7 hw2)).toLoadRect f5), k0_pay330 (arg5.view.readAt (Elt F) (Rect.unit (s := S112x24576) (k0_off15 arg7) S8x128.size (k0_off15_inb arg7 hw2)).toLoadRect f5), k0_pay331 (arg5.view.readAt (Elt F) (Rect.unit (s := S112x24576) (k0_off16 arg7) S8x128.size (k0_off16_inb arg7 hw2)).toLoadRect f5), k0_pay332 (arg5.view.readAt (Elt F) (Rect.unit (s := S112x24576) (k0_off17 arg7) S8x128.size (k0_off17_inb arg7 hw2)).toLoadRect f5))

/-- What the second part computes: the tiles after the loop over groups of columns. -/
theorem run64 (k0_hw2 : k0_chk2 arg7) (v14 : IVec S8x128 32) (v16 : IVec S8x128 32) (v18 : Elt F .i32) (v19 : BitVec 32) (v21 : Elt F .i32) (k0_hw3 : k0_chk3 i v18 v21) (v23 : BitVec 32) (v25 : BitVec 32) (v28 : IVec S8x128 32) (v31 : IVec S8x128 32) (v34 : IVec S8x128 32) (v37 : IVec S8x128 32) (v40 : IVec S8x128 32) (v43 : IVec S8x128 32) (v46 : IVec S8x128 32) (v49 : IVec S8x128 32) (v51 : Vec F S8x128 .i32) (E : Set ℕ) :
    Held c q arg1 arg2 arg3 arg4 arg5 f1 f2 f3 f4 f5 ⊢ wp frame (wpE (defs₀ (F := F)) 𝒱₀ (c : Thread nD τ) bd) E
      (k0_part64 (F := F) i arg1 harg1 arg3 harg3 arg2 harg2 arg5 harg5 arg4 harg4 arg7 arg8 v3 v4 k0_hw2 v14 v16 v18 v19 v21 k0_hw3 v23 v25 v28 v31 v34 v37 v40 v43 v46 v49 v51)
      (fun y => iprop(⌜∃ v92 : BitVec 32, ∃ T : Tiles, T = st_k0_t1 (F := F) 𝒱₀ c bd i arg1 harg1 arg3 harg3 arg2 harg2 arg5 harg5 arg4 harg4 arg7 arg8 v3 v4 k0_hw2 v14 v16 v18 v19 v21 k0_hw3 v23 v25 v28 v31 v34 v37 v40 v43 v46 v49 v51 f4 (tiles0 arg5 arg7 f5 k0_hw2 v28 v31 v34 v37 v40 v43 v46 v49 v51) (k0_t1_loop i v18 v21).trips
        ∧ y = ⟨v92, T.1, T.2.1, T.2.2.1, T.2.2.2.1, T.2.2.2.2.1, T.2.2.2.2.2.1, T.2.2.2.2.2.2.1, T.2.2.2.2.2.2.2.1, T.2.2.2.2.2.2.2.2.1, T.2.2.2.2.2.2.2.2.2.1, T.2.2.2.2.2.2.2.2.2.2.1, T.2.2.2.2.2.2.2.2.2.2.2.1, T.2.2.2.2.2.2.2.2.2.2.2.2.1, T.2.2.2.2.2.2.2.2.2.2.2.2.2, 1#32⟩⌝ ∗ Held c q arg1 arg2 arg3 arg4 arg5 f1 f2 f3 f4 f5)) := by
  rw [k0_part64_eq_skeleton]; unfold k0_part64_skel Held
  simp only [smemLoad, smemLoadElt, Prog.lift, Prog.bind_op, Prog.bind_ret, Prog.pure_eq_ret]
  iintro ⟨H1, H2, H3, H4, H5⟩
  sl_exec
  sl_step
  isplitr
  · ipureintro; exact ⟨_, _, rfl, rfl⟩
  isplitl [H1]; · iexact H1
  isplitl [H2]; · iexact H2
  isplitl [H3]; · iexact H3
  isplitl [H4]; · iexact H4
  iexact H5

/-- The last part: the tiles are written back, and whether the block is done is read off. -/
theorem run65 (k0_hw2 : k0_chk2 arg7) (v14 : IVec S8x128 32) (v16 : IVec S8x128 32) (v18 : Elt F .i32) (v19 : BitVec 32) (v21 : Elt F .i32) (k0_hw3 : k0_chk3 i v18 v21) (v25 v92 : BitVec 32) (a : Tiles) (E : Set ℕ) :
    Held c q arg1 arg2 arg3 arg4 arg5 f1 f2 f3 f4 f5 ⊢ wp frame (wpE (defs₀ (F := F)) 𝒱₀ (c : Thread nD τ) bd) E
      (k0_part65 (F := F) i arg1 harg1 arg3 harg3 arg2 harg2 arg5 harg5 arg4 harg4 arg7 arg8 v3 v4 k0_hw2 v14 v16 v18 v19 v21 k0_hw3 v25 v92 a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2.1 a.2.2.2.2.2.2.2.2.2.2.2.2.1 a.2.2.2.2.2.2.2.2.2.2.2.2.2 1#32)
      (fun y => iprop(⌜y = Scalar.cmpi .slt (word1 arg2 f2 arg7 k0_hw2) v4⌝ ∗ Held c q arg1 arg2 arg3 arg4 arg5 f1 f2 f3 f4 (arg5.view.writes (Elt F) f5 (pieces arg7 k0_hw2
        (st_k0_t2 (F := F) 𝒱₀ c bd i arg1 harg1 arg3 harg3 arg2 harg2 arg5 harg5 arg4 harg4 arg7 arg8 v3 v4 k0_hw2 v14 v16 v18 v19 v21 k0_hw3 v25 v92 a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2.1 a.2.2.2.2.2.2.2.2.2.2.2.2.1 a.2.2.2.2.2.2.2.2.2.2.2.2.2 1#32 f4 a (k0_t2_loop i v18 v21).trips))))) := by
  rw [k0_part65_eq_skeleton]; unfold k0_part65_skel Held
  simp only [smemLoad, smemLoadElt, Prog.lift, Prog.bind_op, Prog.bind_ret, Prog.pure_eq_ret]
  iintro ⟨H1, H2, H3, H4, H5⟩
  sl_exec
  sl_step
  isplitr
  · ipureintro; rfl
  isplitl [H1]; · iexact H1
  isplitl [H2]; · iexact H2
  isplitl [H3]; · iexact H3
  isplitl [H4]; · iexact H4
  iexact H5

end
end Cert.Proof.X
-- ==== Proof.XBlock.lean ====
/-
  One block's step read element by element. The step changes only the block's 128 columns of the output, and there only
  the slots whose column of the table is staged: such a slot gets its words, every other keeps what it held.
-/
module

public import proofs.«01_k».proof.Proof.XLoop
public import proofs.«01_k».proof.Proof.XRun
public import Idealize.ShloMosaic.Lib.BitcastFour
public import Idealize.ShloMosaic.Lib.Pipeline.Value

@[expose] public section

set_option maxRecDepth 8192
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A table of columns as numbers, zero outside it. -/
def colAt (a : Memref sig .tc .smem S192 .i32) (f : BufTy.Contents (Elt F) a.view.ty) (j : ℕ) : Int :=
  if h : j < 192 then (a.view.read (Elt F) f (ix1 (n := 192) ⟨j, h⟩) : BitVec 32).toInt else 0

/-- The id of slot `128 j + l`, zero outside the slots. -/
def idAt (a : Memref sig .tc .vmem S192x128 .i32) (f : BufTy.Contents (Elt F) a.view.ty) (j l : ℕ) : BitVec 32 :=
  if h : j < 192 ∧ l < 128 then a.view.read (Elt F) f (ix2 (n0 := 192) (n1 := 128) ⟨j, h.1⟩ ⟨l, h.2⟩) else 0#32

/-- Word row `w` of slot `s` of the output, zero outside it. -/
def outAt (a : Memref sig .tc .vmem S112x24576 .i32) (f : BufTy.Contents (Elt F) a.view.ty) (w s : ℕ) : BitVec 32 :=
  if h : w < 112 ∧ s < 24576 then a.view.read (Elt F) f (ix2 (n0 := 112) (n1 := 24576) ⟨w, h.1⟩ ⟨s, h.2⟩) else 0#32

/-- The column of 128 rows of the table an id lies in, and its place there. -/
def colOf (u : BitVec 32) : BitVec 32 := IntOp.shrsi .vector u 7#32
def laneIn (u : BitVec 32) : BitVec 32 := u &&& 127#32

theorem word1_toInt (a : Memref sig .tc .smem S192 .i32) (f : BufTy.Contents (Elt F) a.view.ty) {j : ℕ} (hj : j < 192) (hw2 : k0_chk2 (BitVec.ofNat 32 j)) :
    (word1 a f (BitVec.ofNat 32 j) hw2).toInt = colAt a f j := by
  unfold word1 colAt
  rw [dif_pos hj, View.readAt_apply]
  refine congrArg (fun z => BitVec.toInt (a.view.read (Elt F) f z)) ?_
  funext b
  match b with
  | ⟨0, _⟩ =>
    refine Fin.ext ?_
    show k0_off3 (BitVec.ofNat 32 j) 0 + 1 * 0 = j
    rw [off3_eq (by omega)]; show j + 1 * 0 = j; omega

theorem lane_lt (u : BitVec 32) : (laneIn u).toNat < 128 := by
  unfold laneIn
  rw [BitVec.toNat_and]
  exact Nat.lt_of_le_of_lt Nat.and_le_right (by decide)

/-- A row number that is not negative splits into its column and its place there. -/
theorem col_lane {u : BitVec 32} (h : u.toNat < 850000) : (colOf u).toInt = (u.toNat / 128 : ℕ) ∧ (laneIn u).toNat = u.toNat % 128 := by
  constructor
  · have e : (colOf u).toNat = u.toNat / 128 := by
      show (u.sshiftRight 7).toNat = _
      rw [BitVec.toNat_sshiftRight_of_msb_false (by rw [BitVec.msb_eq_decide]; simp; omega), Nat.shiftRight_eq_div_pow]
    rw [BitVec.toInt_eq_toNat_of_lt (by rw [e]; omega), e]
  · unfold laneIn
    rw [BitVec.toNat_and]
    exact Nat.and_two_pow_sub_one_eq_mod u.toNat 7

section
variable (c : Dev nD) (bd : Option 𝒱₀.V) (q : PosShare TreeShare) (i : grid0.Coords)
 (arg1 : Memref sig .tc .smem S192 .i32) (harg1 : arg1.IsWhole) (arg3 : Memref sig .tc .vmem S192x128 .i32) (harg3 : arg3.IsWhole) (arg2 : Memref sig .tc .smem S192 .i32) (harg2 : arg2.IsWhole)
 (arg5 : Memref sig .tc .vmem S112x24576 .i32) (harg5 : arg5.IsWhole) (arg4 : Memref sig .tc .vmem S448x8192 .i8) (harg4 : arg4.IsWhole) (j : ℕ) (arg8 : BitVec 1) (v3 v4 : BitVec 32)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty)

/-- The writes of a block, read at an element: the block's own columns hold the tiles, the others what they held. -/
theorem pieces_read (hj : j < 192) (hw2 : k0_chk2 (BitVec.ofNat 32 j)) (a : Tiles) (w s : ℕ) (hw : w < 112) (hs : s < 24576) :
    outAt arg5 (arg5.view.writes (Elt F) f5 (pieces (BitVec.ofNat 32 j) hw2 a)) w s
      = if s / 128 = j then pick a ⟨w / 8, by omega⟩ (ix2 (n0 := 8) (n1 := 128) ⟨w % 8, by omega⟩ ⟨s % 128, by omega⟩) else outAt arg5 f5 w s := by
  have hoff : ∀ k : Fin 14, offS (BitVec.ofNat 32 j) k = ![8 * k.val, 128 * j] := by
    intro k
    rw [← slot0 (j := j) (by omega)]
    fin_cases k <;> rfl
  have hall : ∀ (P : View.Piece (Elt F) S112x24576 .i32 → Prop), (∀ k, P (pieceS (BitVec.ofNat 32 j) hw2 a k)) → ∀ p ∈ pieces (F := F) (BitVec.ofNat 32 j) hw2 a, P p := by
    intro P h p hp
    unfold pieces at hp
    simp only [List.mem_cons, List.not_mem_nil, or_false] at hp
    rcases hp with e | e | e | e | e | e | e | e | e | e | e | e | e | e <;> (rw [e]; exact h _)
  have hmem : ∀ k : Fin 14, pieceS (BitVec.ofNat 32 j) hw2 a k ∈ pieces (F := F) (BitVec.ofNat 32 j) hw2 a := by
    intro k; unfold pieces; simp only [List.mem_cons, List.not_mem_nil, or_false]; fin_cases k <;> simp
  unfold outAt
  rw [dif_pos ⟨hw, hs⟩, dif_pos ⟨hw, hs⟩]
  by_cases h : s / 128 = j
  · rw [if_pos h]
    let G : S112x24576.Idx → Elt F .i32 := fun y => pick a ⟨(y 0).val / 8, by have : (y 0).val < 112 := (y 0).isLt; omega⟩
      (ix2 (n0 := 8) (n1 := 128) ⟨(y 0).val % 8, by omega⟩ ⟨(y 1).val % 128, by omega⟩)
    refine View.read_writes_apply_of_pieces arg5.view f5 G _ (hall _ fun k x => ?_) _ ⟨_, hmem ⟨w / 8, by omega⟩, ?_⟩
    · show pick a k x = pick a _ _
      have e0 : ((pieceS (F := F) (BitVec.ofNat 32 j) hw2 a k).1.emb x 0).val = 8 * k.val + (x 0).val := by
        show offS (BitVec.ofNat 32 j) k 0 + 1 * (x 0).val = _
        rw [hoff]; show 8 * k.val + 1 * _ = _; omega
      have e1 : ((pieceS (F := F) (BitVec.ofNat 32 j) hw2 a k).1.emb x 1).val = 128 * j + (x 1).val := by
        show offS (BitVec.ofNat 32 j) k 1 + 1 * (x 1).val = _
        rw [hoff]; show 128 * j + 1 * _ = _; omega
      have x0 : (x 0).val < 8 := (x 0).isLt
      have x1 : (x 1).val < 128 := (x 1).isLt
      congr 1
      · congr 1; exact Fin.ext (by show k.val = ((pieceS (F := F) (BitVec.ofNat 32 j) hw2 a k).1.emb x 0).val / 8; rw [e0]; omega)
      · funext b
        match b with
        | ⟨0, _⟩ => exact Fin.ext (by show (x 0).val = ((pieceS (F := F) (BitVec.ofNat 32 j) hw2 a k).1.emb x 0).val % 8; rw [e0]; omega)
        | ⟨1, _⟩ => exact Fin.ext (by show (x 1).val = ((pieceS (F := F) (BitVec.ofNat 32 j) hw2 a k).1.emb x 1).val % 128; rw [e1]; omega)
    · refine (Rect.mem_set_unit (inb := offS_inb (BitVec.ofNat 32 j) hw2 _)).mpr fun b => ?_
      rw [hoff]
      match b with
      | ⟨0, _⟩ => show 8 * (w / 8) ≤ w ∧ w < 8 * (w / 8) + 8; omega
      | ⟨1, _⟩ => show 128 * j ≤ s ∧ s < 128 * j + 128; omega
  · rw [if_neg h]
    refine View.read_writes_apply_of_forall_not_mem arg5.view f5 _ _ (hall _ fun k hy => h ?_)
    have h1 := (Rect.mem_set_unit (inb := offS_inb (BitVec.ofNat 32 j) hw2 k)).mp hy 1
    rw [hoff] at h1
    have h1 : 128 * j ≤ s ∧ s < 128 * j + 128 := h1
    omega

/-- A tile as it was loaded. -/
theorem tile_at (hj : j < 192) (k : Fin 14) (p : Fin 8) (l : Fin 128) {o : Fin 2 → ℕ} (inb : ∀ a, o a + S8x128.size a ≤ S112x24576.size a)
    (ho : o = ![8 * k.val, (Scalar.muli (BitVec.ofNat 32 j) 128#32).toNat]) :
    arg5.view.readAt (Elt F) (Rect.unit (s := S112x24576) o S8x128.size inb).toLoadRect f5 (ix2 p l) = outAt arg5 f5 (8 * k.val + p.val) (128 * j + l.val) := by
  subst ho
  unfold outAt
  rw [View.readAt_apply, dif_pos ⟨by omega, by omega⟩]
  refine congrArg (arg5.view.read (Elt F) f5) ?_
  funext b
  match b with
  | ⟨0, _⟩ => exact Fin.ext (by show 8 * k.val + 1 * p.val = _; show _ = 8 * k.val + p.val; omega)
  | ⟨1, _⟩ => exact Fin.ext (by show (Scalar.muli (BitVec.ofNat 32 j) 128#32).toNat + 1 * l.val = 128 * j + l.val; rw [slot0 (by omega)]; omega)

theorem tiles0_pick (hj : j < 192) (hw2 : k0_chk2 (BitVec.ofNat 32 j)) (k : Fin 14) (p : Fin 8) (l : Fin 128) :
    pick (tiles0 arg5 (BitVec.ofNat 32 j) f5 hw2 (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5)) k (ix2 p l) = outAt arg5 f5 (8 * k.val + p.val) (128 * j + l.val) := by
  fin_cases k
  · exact (congrFun (shapeCast_self (s := S8x128) _ _) _).trans (tile_at arg5 j f5 hj 0 p l _ rfl)
  · exact (congrFun (shapeCast_self (s := S8x128) _ _) _).trans (tile_at arg5 j f5 hj 1 p l _ rfl)
  · exact (congrFun (shapeCast_self (s := S8x128) _ _) _).trans (tile_at arg5 j f5 hj 2 p l _ rfl)
  · exact (congrFun (shapeCast_self (s := S8x128) _ _) _).trans (tile_at arg5 j f5 hj 3 p l _ rfl)
  · exact (congrFun (shapeCast_self (s := S8x128) _ _) _).trans (tile_at arg5 j f5 hj 4 p l _ rfl)
  · exact (congrFun (shapeCast_self (s := S8x128) _ _) _).trans (tile_at arg5 j f5 hj 5 p l _ rfl)
  · exact (congrFun (shapeCast_self (s := S8x128) _ _) _).trans (tile_at arg5 j f5 hj 6 p l _ rfl)
  · exact (congrFun (shapeCast_self (s := S8x128) _ _) _).trans (tile_at arg5 j f5 hj 7 p l _ rfl)
  · exact (congrFun (shapeCast_self (s := S8x128) _ _) _).trans (tile_at arg5 j f5 hj 8 p l _ rfl)
  · exact (congrFun (shapeCast_self (s := S8x128) _ _) _).trans (tile_at arg5 j f5 hj 9 p l _ rfl)
  · exact (congrFun (shapeCast_self (s := S8x128) _ _) _).trans (tile_at arg5 j f5 hj 10 p l _ rfl)
  · exact (congrFun (shapeCast_self (s := S8x128) _ _) _).trans (tile_at arg5 j f5 hj 11 p l _ rfl)
  · exact (congrFun (shapeCast_self (s := S8x128) _ _) _).trans (tile_at arg5 j f5 hj 12 p l _ rfl)
  · exact (congrFun (shapeCast_self (s := S8x128) _ _) _).trans (tile_at arg5 j f5 hj 13 p l _ rfl)

/-- The block's ids, one to a lane, in every row of a tile. -/
theorem ids_at (hj : j < 192) (hw2 : k0_chk2 (BitVec.ofNat 32 j)) (p : Fin 8) (l : Fin 128) :
    k0_pay316 (arg3.view.readAt (Elt F) (Rect.unit (s := S192x128) (k0_off2 (BitVec.ofNat 32 j)) S1x128.size (k0_off2_inb (BitVec.ofNat 32 j) hw2)).toLoadRect f3) (ix2 p l) = idAt arg3 f3 j l.val := by
  unfold k0_pay316 idAt
  rw [dif_pos ⟨hj, l.isLt⟩]
  rw [shapeCast_self (s := S1x128), shapeCast_self (s := S1x128)]
  show arg3.view.readAt (Elt F) _ f3 _ = _
  rw [View.readAt_apply]
  refine congrArg (arg3.view.read (Elt F) f3) ?_
  funext b
  match b with
  | ⟨0, _⟩ => exact Fin.ext (by show k0_off2 (BitVec.ofNat 32 j) 0 + 1 * 0 = j; rw [off2_eq (by omega)]; show j + 1 * 0 = j; omega)
  | ⟨1, _⟩ => exact Fin.ext (by show k0_off2 (BitVec.ofNat 32 j) 1 + 1 * l.val = l.val; rw [off2_eq (by omega)]; show 0 + 1 * l.val = l.val; omega)

/-- The block's step, at word row `w` of slot `s`. -/
theorem block_value (hj : j < 192) (hw2 : k0_chk2 (BitVec.ofNat 32 j)) (hw3 : k0_chk3 i (word1 arg1 f1 (BitVec.ofNat 32 j) hw2) (word1 arg2 f2 (BitVec.ofNat 32 j) hw2))
    (hf : -2 ^ 25 ≤ colAt arg1 f1 j ∧ colAt arg1 f1 j < 2 ^ 25) (hl : -2 ^ 25 ≤ colAt arg2 f2 j ∧ colAt arg2 f2 j < 2 ^ 25)
    (h3 : v3 = Scalar.muli (BitVec.ofNat 32 (i 0).val) 64#32) (h4 : v4 = Scalar.addi v3 64#32)
    (w s : ℕ) (hw : w < 112) (hs : s < 24576) (v92 : BitVec 32) (a : Tiles)
    (ha : a = st_k0_t1 (F := F) 𝒱₀ c bd i arg1 harg1 arg3 harg3 arg2 harg2 arg5 harg5 arg4 harg4 (BitVec.ofNat 32 j) arg8 v3 v4 hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) v3) (word1 arg2 f2 (BitVec.ofNat 32 j) hw2) hw3 (Scalar.minsi (Scalar.addi (word1 arg2 f2 (BitVec.ofNat 32 j) hw2) 1#32) v4) (Scalar.muli (BitVec.ofNat 32 j) 128#32) (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5) f4 (tiles0 arg5 (BitVec.ofNat 32 j) f5 hw2 (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5)) (k0_t1_loop i (word1 arg1 f1 (BitVec.ofNat 32 j) hw2) (word1 arg2 f2 (BitVec.ofNat 32 j) hw2)).trips) :
    outAt arg5 (arg5.view.writes (Elt F) f5 (pieces (BitVec.ofNat 32 j) hw2
        (st_k0_t2 (F := F) 𝒱₀ c bd i arg1 harg1 arg3 harg3 arg2 harg2 arg5 harg5 arg4 harg4 (BitVec.ofNat 32 j) arg8 v3 v4 hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) v3) (word1 arg2 f2 (BitVec.ofNat 32 j) hw2) hw3 (Scalar.muli (BitVec.ofNat 32 j) 128#32) v92 a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2.1 a.2.2.2.2.2.2.2.2.2.2.2.2.1 a.2.2.2.2.2.2.2.2.2.2.2.2.2 1#32 f4 a (k0_t2_loop i (word1 arg1 f1 (BitVec.ofNat 32 j) hw2) (word1 arg2 f2 (BitVec.ofNat 32 j) hw2)).trips))) w s
      = if s / 128 = j then pick a ⟨w / 8, by omega⟩ (ix2 (n0 := 8) (n1 := 128) ⟨w % 8, by omega⟩ ⟨s % 128, by omega⟩) else outAt arg5 f5 w s := by
  rw [pieces_read arg5 j f5 hj hw2 _ w s hw hs, t2_trips]
  rfl

theorem block_tile (hj : j < 192) (hw2 : k0_chk2 (BitVec.ofNat 32 j)) (hw3 : k0_chk3 i (word1 arg1 f1 (BitVec.ofNat 32 j) hw2) (word1 arg2 f2 (BitVec.ofNat 32 j) hw2))
    (hf : -2 ^ 25 ≤ colAt arg1 f1 j ∧ colAt arg1 f1 j < 2 ^ 25) (hl : -2 ^ 25 ≤ colAt arg2 f2 j ∧ colAt arg2 f2 j < 2 ^ 25)
    (h3 : v3 = Scalar.muli (BitVec.ofNat 32 (i 0).val) 64#32) (h4 : v4 = Scalar.addi v3 64#32)
    (w s : ℕ) (hw : w < 112) (hs : s < 24576) (hsj : s / 128 = j) (u : BitVec 32) (hu : u = idAt arg3 f3 j (s % 128))
    (hin : colAt arg1 f1 j ≤ (colOf u).toInt ∧ (colOf u).toInt ≤ colAt arg2 f2 j) (a : Tiles)
    (ha : a = st_k0_t1 (F := F) 𝒱₀ c bd i arg1 harg1 arg3 harg3 arg2 harg2 arg5 harg5 arg4 harg4 (BitVec.ofNat 32 j) arg8 v3 v4 hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) v3) (word1 arg2 f2 (BitVec.ofNat 32 j) hw2) hw3 (Scalar.minsi (Scalar.addi (word1 arg2 f2 (BitVec.ofNat 32 j) hw2) 1#32) v4) (Scalar.muli (BitVec.ofNat 32 j) 128#32) (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5) f4 (tiles0 arg5 (BitVec.ofNat 32 j) f5 hw2 (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5)) (k0_t1_loop i (word1 arg1 f1 (BitVec.ofNat 32 j) hw2) (word1 arg2 f2 (BitVec.ofNat 32 j) hw2)).trips) :
    pick a ⟨w / 8, by omega⟩ (ix2 (n0 := 8) (n1 := 128) ⟨w % 8, by omega⟩ ⟨s % 128, by omega⟩)
      = if 64 * ((i 0).val : Int) ≤ (colOf u).toInt ∧ (colOf u).toInt < 64 * (i 0).val + 64
        then wordAt arg4 f4 w (((colOf u).toInt - 64 * (i 0).val).toNat * 128 + (laneIn u).toNat) else outAt arg5 f5 w s := by
  have e14 : k0_pay317 (arg3.view.readAt (Elt F) (Rect.unit (s := S192x128) (k0_off2 (BitVec.ofNat 32 j)) S1x128.size (k0_off2_inb (BitVec.ofNat 32 j) hw2)).toLoadRect f3) (ix2 (n0 := 8) (n1 := 128) ⟨w % 8, by omega⟩ ⟨s % 128, by omega⟩) = laneIn u := by
    subst hu; exact congrArg (· &&& 127#32) (ids_at arg3 j f3 hj hw2 ⟨w % 8, by omega⟩ ⟨s % 128, by omega⟩)
  have e16 : k0_pay318 (arg3.view.readAt (Elt F) (Rect.unit (s := S192x128) (k0_off2 (BitVec.ofNat 32 j)) S1x128.size (k0_off2_inb (BitVec.ofNat 32 j) hw2)).toLoadRect f3) (ix2 (n0 := 8) (n1 := 128) ⟨w % 8, by omega⟩ ⟨s % 128, by omega⟩) = colOf u := by
    subst hu; exact congrArg (IntOp.shrsi .vector · 7#32) (ids_at arg3 j f3 hj hw2 ⟨w % 8, by omega⟩ ⟨s % 128, by omega⟩)
  have e1 := word1_toInt arg1 f1 hj hw2
  have e2 := word1_toInt arg2 f2 hj hw2
  have h := loop_value 𝒱₀ c bd i arg1 harg1 arg3 harg3 arg2 harg2 arg5 harg5 arg4 harg4 (BitVec.ofNat 32 j) arg8 v3 v4 hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) v3) (word1 arg2 f2 (BitVec.ofNat 32 j) hw2) hw3 (Scalar.minsi (Scalar.addi (word1 arg2 f2 (BitVec.ofNat 32 j) hw2) 1#32) v4) (Scalar.muli (BitVec.ofNat 32 j) 128#32) (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5) f4 (tiles0 arg5 (BitVec.ofNat 32 j) f5 hw2 (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5)) ⟨w / 8, by omega⟩ ⟨w % 8, by omega⟩ ⟨s % 128, by omega⟩ h3 h4 rfl
    (by rw [e1]; exact hf) (by rw [e2]; exact hl) (by rw [e14]; exact lane_lt u) (by rw [e1, e16]; exact hin.1) (by rw [e2, e16]; exact hin.2)
  subst ha
  have e0 := tiles0_pick arg5 j f5 hj hw2 ⟨w / 8, by omega⟩ ⟨w % 8, by omega⟩ ⟨s % 128, by omega⟩
  rw [e14, e16] at h
  refine h.trans ((if_congr Iff.rfl rfl e0).trans ?_)
  have ew : 8 * (w / 8) + w % 8 = w := by omega
  have es : 128 * j + s % 128 = s := by omega
  show (if _ then wordAt arg4 f4 (8 * (w / 8) + w % 8) _ else outAt arg5 f5 (8 * (w / 8) + w % 8) (128 * j + s % 128)) = _
  rw [ew, es]

end
end Cert.Proof.X
-- ==== Proof.XInv.lean ====
/-
  What the loop over blocks keeps, as a statement about numbers. `first` and `last` are the two tables of columns, `id` the
  ids of the slots, `tab` the table by row of bytes, `out` the words gathered so far. If the ids ascend, the blocks
  before the current one have every slot whose column is in the current chunk or an earlier one, and every slot of an
  earlier chunk's columns is done.
-/
module

public import proofs.«01_k».proof.Proof.XBlock
public import Idealize.ShloMosaic.Lib.BitcastFour
public import Idealize.ShloMosaic.Lib.Pipeline.Value

@[expose] public section

set_option maxRecDepth 8192
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The ids ascend: each block's columns lie between its first and its last, the later blocks' columns do not come before
    a block's last, and every id is a row of the table. -/
structure Asc (first last : ℕ → Int) (id : ℕ → ℕ → BitVec 32) : Prop where
  within : ∀ j l, j < 192 → l < 128 → first j ≤ (colOf (id j l)).toInt ∧ (colOf (id j l)).toInt ≤ last j
  after : ∀ j j' l, j < j' → j' < 192 → l < 128 → last j ≤ (colOf (id j' l)).toInt
  row : ∀ j l, j < 192 → l < 128 → (id j l).toNat < 850000

/-- The word of word row `w` and table row `u`. -/
def gWord (tab : ℕ → ℕ → BitVec 8) (w u : ℕ) : BitVec 32 := word4 fun b => tab (4 * w + b.val) u

/-- A slot has its words. -/
def SlotOk (id : ℕ → ℕ → BitVec 32) (tab : ℕ → ℕ → BitVec 8) (out : ℕ → ℕ → BitVec 32) (j l : ℕ) : Prop :=
  ∀ w, w < 112 → out w (128 * j + l) = gWord tab w (id j l).toNat

/-- Every slot whose column comes before chunk `n` has its words. -/
def Good (first last : ℕ → Int) (id : ℕ → ℕ → BitVec 32) (tab : ℕ → ℕ → BitVec 8) (n : ℕ) (out : ℕ → ℕ → BitVec 32) : Prop :=
  Asc first last id → ∀ j l, j < 192 → l < 128 → (colOf (id j l)).toInt < 64 * n → SlotOk id tab out j l

/-- The blocks before `j` end before chunk `n`. -/
def Past (last : ℕ → Int) (n j : ℕ) : Prop := j ≤ 192 ∧ ∀ j', j' < j → last j' < 64 * n

/-- What holds between two blocks of chunk `n`: at block `j`, going on or not. -/
structure Between (first last : ℕ → Int) (id : ℕ → ℕ → BitVec 32) (tab : ℕ → ℕ → BitVec 8) (n j : ℕ) (go : BitVec 1) (out : ℕ → ℕ → BitVec 32) : Prop where
  past : Past last (n + 1) j
  old : Good first last id tab n out
  before : Asc first last id → ∀ j' l, j' < j → l < 128 → SlotOk id tab out j' l
  stopped : go ≠ 1#1 → j < 192 ∧ 64 * ((n : Int) + 1) ≤ last j ∧ (Asc first last id → ∀ l, l < 128 → (colOf (id j l)).toInt < 64 * ((n : Int) + 1) → SlotOk id tab out j l)

variable {first last : ℕ → Int} {id : ℕ → ℕ → BitVec 32} {tab : ℕ → ℕ → BitVec 8} {n j : ℕ} {go : BitVec 1} {out : ℕ → ℕ → BitVec 32}

theorem Between.enter (hp : Past last n j) (hg : Good first last id tab n out) : Between first last id tab n j 1#1 out where
  past := ⟨hp.1, fun j' h => by have := hp.2 j' h; push_cast; omega⟩
  old := hg
  before := fun ha j' l h hl => hg ha j' l (by have := hp.1; omega) hl (by have := hp.2 j' h; have := (ha.within j' l (by have := hp.1; omega) hl).2; omega)
  stopped := fun h => absurd rfl h

/-- Leaving the loop: it was told to stop, or the blocks are over, or the next block starts after the chunk. -/
theorem Between.leave (h : Between first last id tab n j go out) (hx : go ≠ 1#1 ∨ ¬ j < 192 ∨ 64 * ((n : Int) + 1) ≤ first j) :
    Good first last id tab (n + 1) out := by
  intro ha j' l hj' hl hc
  push_cast at hc
  rcases Nat.lt_trichotomy j' j with hlt | rfl | hgt
  · exact h.before ha j' l hlt hl
  · rcases hx with hx | hx | hx
    · exact (h.stopped hx).2.2 ha l hl (by omega)
    · exact absurd hj' hx
    · have := (ha.within j' l hj' hl).1; omega
  · have h1 := ha.after j j' l hgt hj' hl
    rcases hx with hx | hx | hx
    · have := (h.stopped hx).2.1; omega
    · omega
    · have h0 := ha.within j 0 (by omega) (by omega); omega

/-- One block's step: it changes only its own slots, and there exactly those whose column is in the chunk. -/
theorem Between.step {out' : ℕ → ℕ → BitVec 32} (h : Between first last id tab n j go out) (hj : j < 192)
    (hother : ∀ w s, w < 112 → s < 24576 → s / 128 ≠ j → out' w s = out w s)
    (hown : Asc first last id → ∀ w l, w < 112 → l < 128 → out' w (128 * j + l)
      = if 64 * (n : Int) ≤ (colOf (id j l)).toInt ∧ (colOf (id j l)).toInt < 64 * n + 64 then gWord tab w (id j l).toNat else out w (128 * j + l)) :
    (last j < 64 * ((n : Int) + 1) → Between first last id tab n (j + 1) 1#1 out') ∧ (¬ last j < 64 * ((n : Int) + 1) → Between first last id tab n j 0#1 out') := by
  have hold : Good first last id tab n out' := by
    intro ha j' l hj' hl hc w hw
    by_cases e : j' = j
    · subst e
      rw [hown ha w l hw hl, if_neg (by omega)]
      exact h.old ha j' l hj' hl hc w hw
    · rw [hother w _ hw (by omega) (by omega)]
      exact h.old ha j' l hj' hl hc w hw
  have hbef : Asc first last id → ∀ j' l, j' < j → l < 128 → SlotOk id tab out' j' l := by
    intro ha j' l hj' hl w hw
    rw [hother w _ hw (by omega) (by omega)]
    exact h.before ha j' l hj' hl w hw
  have hown' : Asc first last id → ∀ l, l < 128 → (colOf (id j l)).toInt < 64 * ((n : Int) + 1) → SlotOk id tab out' j l := by
    intro ha l hl hc w hw
    rw [hown ha w l hw hl]
    split
    · rfl
    · exact h.old ha j l hj hl (by omega) w hw
  refine ⟨fun hd => ⟨⟨by omega, fun j' hj' => ?_⟩, hold, fun ha j' l hj' hl => ?_, fun hne => absurd rfl hne⟩,
    fun hd => ⟨h.past, hold, hbef, fun _ => ⟨hj, by omega, hown'⟩⟩⟩
  · rcases Nat.lt_or_ge j' j with e | e
    · exact h.past.2 j' e
    · have : j' = j := by omega
      subst this; push_cast; exact hd
  · rcases Nat.lt_or_ge j' j with e | e
    · exact hbef ha j' l e hl
    · have : j' = j := by omega
      subst this
      exact hown' ha l hl (by have := (ha.within j' l hj hl).2; omega)

end Cert.Proof.X
-- ==== Proof.XWhile.lean ====
/-
  The loop over blocks, as one specification: entered at block `j` with what holds between blocks, it ends, and at its end
  the chunk's slots and all earlier ones have their words.
-/
module

public import proofs.«01_k».proof.Proof.XInv
public import Idealize.ShloMosaic.Lib.BitcastFour
public import Idealize.ShloMosaic.Lib.Pipeline.Value

@[expose] public section

set_option maxRecDepth 8192
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A slot's staged words are the table's. -/
theorem wordAt_eq (i : grid0.Coords) (arg4 : Memref sig .tc .vmem S448x8192 .i8) (f4 : BufTy.Contents (Elt F) arg4.view.ty) (tab : ℕ → ℕ → BitVec 8)
    (hB : ∀ r o, r < 448 → o < 8192 → 8192 * (i 0).val + o < 850000 → byteAt arg4 f4 r o = tab r (8192 * (i 0).val + o))
    {u : BitVec 32} (hu : u.toNat < 850000) (hc : 64 * ((i 0).val : Int) ≤ (colOf u).toInt ∧ (colOf u).toInt < 64 * (i 0).val + 64) (w : ℕ) (hw : w < 112) :
    wordAt arg4 f4 w (((colOf u).toInt - 64 * (i 0).val).toNat * 128 + (laneIn u).toNat) = gWord tab w u.toNat := by
  obtain ⟨e1, e2⟩ := col_lane hu
  rw [e1] at hc ⊢
  rw [e2]
  unfold wordAt gWord
  congr 1
  funext b
  have hb := b.isLt
  have eo : 8192 * (i 0).val + ((((u.toNat / 128 : ℕ) : Int) - 64 * (i 0).val).toNat * 128 + u.toNat % 128) = u.toNat := by omega
  rw [hB _ _ (by omega) (by omega) (by omega), eo]

theorem and1 (x y : BitVec 1) : Scalar.andi x y = 1#1 ↔ x = 1#1 ∧ y = 1#1 := by
  show x &&& y = 1#1 ↔ _
  revert x y; decide

theorem slt1 (x y : BitVec 32) : Scalar.cmpi .slt x y = 1#1 ↔ x.toInt < y.toInt := by
  show BitVec.ofBool (x.slt y) = 1#1 ↔ _
  rw [BitVec.slt]
  by_cases h : x.toInt < y.toInt <;> simp [h]

theorem lt192 {j : ℕ} (hj : j ≤ 192) : Scalar.cmpi .slt (BitVec.ofNat 32 j) 192#32 = 1#1 ↔ j < 192 := by
  rw [slt1, toInt_of (isInt_lit j (by omega)), show (192#32 : BitVec 32).toInt = 192 from by decide]
  omega

/-- The word the loop's test reads: the first column of block `j`, of the last block past the end. -/
theorem word0_toInt (a : Memref sig .tc .smem S192 .i32) (f : BufTy.Contents (Elt F) a.view.ty) {j : ℕ} (hj : j < 192) (hw1 : k0_chk1 (BitVec.ofNat 32 j)) :
    (a.view.readAt (Elt F) (Rect.unit (s := S192) (k0_off1 (BitVec.ofNat 32 j)) S1.size (k0_off1_inb (BitVec.ofNat 32 j) hw1)).toLoadRect f (Shape.Idx.first (numel1_S1.symm ▸ Nat.one_pos)) : BitVec 32).toInt = colAt a f j := by
  unfold colAt
  rw [dif_pos hj, View.readAt_apply]
  refine congrArg (fun z => BitVec.toInt (a.view.read (Elt F) f z)) ?_
  funext b
  match b with
  | ⟨0, _⟩ =>
    refine Fin.ext ?_
    show k0_off1 (BitVec.ofNat 32 j) 0 + 1 * 0 = j
    rw [off1_eq (by omega)]; show min j 191 + 1 * 0 = j; omega

/-- The next block's number: one more when the block is done, the same when it is not. -/
theorem next_done {j : ℕ} (hj : j < 192) {d : BitVec 1} (h : d = 1#1) : Scalar.addi (BitVec.ofNat 32 j) (Scalar.extui d) = BitVec.ofNat 32 (j + 1) := by
  subst h
  show BitVec.ofNat 32 j + 1#32 = _
  rw [← BitVec.ofNat_add]
theorem next_same {j : ℕ} {d : BitVec 1} (h : d = 0#1) : Scalar.addi (BitVec.ofNat 32 j) (Scalar.extui d) = BitVec.ofNat 32 j := by
  subst h
  show BitVec.ofNat 32 j + 0#32 = _
  rw [BitVec.add_zero]

section
variable (c : Dev nD) (bd : Option 𝒱₀.V) (q : PosShare TreeShare) (i : grid0.Coords)
 (arg1 : Memref sig .tc .smem S192 .i32) (harg1 : arg1.IsWhole) (arg3 : Memref sig .tc .vmem S192x128 .i32) (harg3 : arg3.IsWhole) (arg2 : Memref sig .tc .smem S192 .i32) (harg2 : arg2.IsWhole)
 (arg5 : Memref sig .tc .vmem S112x24576 .i32) (harg5 : arg5.IsWhole) (arg4 : Memref sig .tc .vmem S448x8192 .i8) (harg4 : arg4.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty)

    (tab : ℕ → ℕ → BitVec 8)

/-- A block's step keeps what holds between blocks. -/
theorem step_between (j : ℕ) (go : BitVec 1) (hj : j < 192) (hw2 : k0_chk2 (BitVec.ofNat 32 j)) (hw3 : k0_chk3 i (word1 arg1 f1 (BitVec.ofNat 32 j) hw2) (word1 arg2 f2 (BitVec.ofNat 32 j) hw2))
    (hf : ∀ j, -2 ^ 25 ≤ colAt arg1 f1 j ∧ colAt arg1 f1 j < 2 ^ 25) (hl : ∀ j, -2 ^ 25 ≤ colAt arg2 f2 j ∧ colAt arg2 f2 j < 2 ^ 25)
    (hB : ∀ r o, r < 448 → o < 8192 → 8192 * (i 0).val + o < 850000 → byteAt arg4 f4 r o = tab r (8192 * (i 0).val + o))
    (hb : Between (colAt arg1 f1) (colAt arg2 f2) (idAt arg3 f3) tab (i 0).val j go (outAt arg5 f5)) (v92 : BitVec 32) (a : Tiles)
    (ha : a = st_k0_t1 (F := F) 𝒱₀ c bd i arg1 harg1 arg3 harg3 arg2 harg2 arg5 harg5 arg4 harg4 (BitVec.ofNat 32 j) go (Scalar.muli (BitVec.ofNat 32 (i 0).val) 64#32) (Scalar.addi (Scalar.muli (BitVec.ofNat 32 (i 0).val) 64#32) 64#32) hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) (Scalar.muli (BitVec.ofNat 32 (i 0).val) 64#32)) (word1 arg2 f2 (BitVec.ofNat 32 j) hw2) hw3 (Scalar.minsi (Scalar.addi (word1 arg2 f2 (BitVec.ofNat 32 j) hw2) 1#32) (Scalar.addi (Scalar.muli (BitVec.ofNat 32 (i 0).val) 64#32) 64#32)) (Scalar.muli (BitVec.ofNat 32 j) 128#32) (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5) f4 (tiles0 arg5 (BitVec.ofNat 32 j) f5 hw2 (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5)) (k0_t1_loop i (word1 arg1 f1 (BitVec.ofNat 32 j) hw2) (word1 arg2 f2 (BitVec.ofNat 32 j) hw2)).trips) :
    (colAt arg2 f2 j < 64 * (((i 0).val : Int) + 1) → Between (colAt arg1 f1) (colAt arg2 f2) (idAt arg3 f3) tab (i 0).val (j + 1) 1#1 (outAt arg5 (arg5.view.writes (Elt F) f5 (pieces (BitVec.ofNat 32 j) hw2
        (st_k0_t2 (F := F) 𝒱₀ c bd i arg1 harg1 arg3 harg3 arg2 harg2 arg5 harg5 arg4 harg4 (BitVec.ofNat 32 j) go (Scalar.muli (BitVec.ofNat 32 (i 0).val) 64#32) (Scalar.addi (Scalar.muli (BitVec.ofNat 32 (i 0).val) 64#32) 64#32) hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) (Scalar.muli (BitVec.ofNat 32 (i 0).val) 64#32)) (word1 arg2 f2 (BitVec.ofNat 32 j) hw2) hw3 (Scalar.muli (BitVec.ofNat 32 j) 128#32) v92 a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2.1 a.2.2.2.2.2.2.2.2.2.2.2.2.1 a.2.2.2.2.2.2.2.2.2.2.2.2.2 1#32 f4 a (k0_t2_loop i (word1 arg1 f1 (BitVec.ofNat 32 j) hw2) (word1 arg2 f2 (BitVec.ofNat 32 j) hw2)).trips)))))
    ∧ (¬ colAt arg2 f2 j < 64 * (((i 0).val : Int) + 1) → Between (colAt arg1 f1) (colAt arg2 f2) (idAt arg3 f3) tab (i 0).val j 0#1 (outAt arg5 (arg5.view.writes (Elt F) f5 (pieces (BitVec.ofNat 32 j) hw2
        (st_k0_t2 (F := F) 𝒱₀ c bd i arg1 harg1 arg3 harg3 arg2 harg2 arg5 harg5 arg4 harg4 (BitVec.ofNat 32 j) go (Scalar.muli (BitVec.ofNat 32 (i 0).val) 64#32) (Scalar.addi (Scalar.muli (BitVec.ofNat 32 (i 0).val) 64#32) 64#32) hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) (Scalar.muli (BitVec.ofNat 32 (i 0).val) 64#32)) (word1 arg2 f2 (BitVec.ofNat 32 j) hw2) hw3 (Scalar.muli (BitVec.ofNat 32 j) 128#32) v92 a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2.1 a.2.2.2.2.2.2.2.2.2.2.2.2.1 a.2.2.2.2.2.2.2.2.2.2.2.2.2 1#32 f4 a (k0_t2_loop i (word1 arg1 f1 (BitVec.ofNat 32 j) hw2) (word1 arg2 f2 (BitVec.ofNat 32 j) hw2)).trips))))) := by
  have bv := fun w s hw hs => block_value c bd i arg1 harg1 arg3 harg3 arg2 harg2 arg5 harg5 arg4 harg4 j go (Scalar.muli (BitVec.ofNat 32 (i 0).val) 64#32) (Scalar.addi (Scalar.muli (BitVec.ofNat 32 (i 0).val) 64#32) 64#32) f1 f2 f3 f4 f5 hj hw2 hw3 (hf j) (hl j) rfl rfl w s hw hs v92 a ha
  refine hb.step hj (fun w s hw hs hne => ?_) (fun hA w l hw hl' => ?_)
  · rw [bv w s hw hs, if_neg hne]
  · rw [bv w (128 * j + l) hw (by omega), if_pos (by omega)]
    have em : (128 * j + l) % 128 = l := by omega
    refine (block_tile c bd i arg1 harg1 arg3 harg3 arg2 harg2 arg5 harg5 arg4 harg4 j go (Scalar.muli (BitVec.ofNat 32 (i 0).val) 64#32) (Scalar.addi (Scalar.muli (BitVec.ofNat 32 (i 0).val) 64#32) 64#32) f1 f2 f3 f4 f5 hj hw2 hw3 (hf j) (hl j) rfl rfl w (128 * j + l) hw (by omega) (by omega)
      (idAt arg3 f3 j l) (by rw [em]) (hA.within j l hj hl') a ha).trans ?_
    split
    · rename_i hc; exact wordAt_eq i arg4 f4 tab hB (hA.row j l hj hl') hc w hw
    · rfl

/-- What the loop over blocks does. -/
def loopSpec : sWPT 𝕄G (BitVec 32 × BitVec 1) := do
  sWPT.consume (Held c q arg1 arg2 arg3 arg4 arg5 f1 f2 f3 f4 f5)
  let r ← sWPT.arbitrary
  let X ← sWPT.arbitrary
  sWPT.assume (∃ j : ℕ, r.1 = BitVec.ofNat 32 j ∧ Past (colAt arg2 f2) ((i 0).val + 1) j ∧ Good (colAt arg1 f1) (colAt arg2 f2) (idAt arg3 f3) tab ((i 0).val + 1) (outAt arg5 X))
  sWPT.produce (Held c q arg1 arg2 arg3 arg4 arg5 f1 f2 f3 f4 X)
  pure r

theorem loopSpec_apply (K : BitVec 32 × BitVec 1 → sProp 𝕄G) : loopSpec c q i arg1 arg3 arg2 arg5 arg4 f1 f2 f3 f4 f5 tab K
    = iprop(Held c q arg1 arg2 arg3 arg4 arg5 f1 f2 f3 f4 f5 ∗ ∀ r : BitVec 32 × BitVec 1, ∀ X : BufTy.Contents (Elt F) arg5.view.ty,
      ⌜∃ j : ℕ, r.1 = BitVec.ofNat 32 j ∧ Past (colAt arg2 f2) ((i 0).val + 1) j ∧ Good (colAt arg1 f1) (colAt arg2 f2) (idAt arg3 f3) tab ((i 0).val + 1) (outAt arg5 X)⌝ -∗ (Held c q arg1 arg2 arg3 arg4 arg5 f1 f2 f3 f4 X -∗ K r)) := rfl

/-- The loop's body meets the specification, by induction on the number of blocks it can still go on to. -/
theorem loopSpec_le
    (hf : ∀ j, -2 ^ 25 ≤ colAt arg1 f1 j ∧ colAt arg1 f1 j < 2 ^ 25) (hl : ∀ j, -2 ^ 25 ≤ colAt arg2 f2 j ∧ colAt arg2 f2 j < 2 ^ 25)
    (hB : ∀ r o, r < 448 → o < 8192 → 8192 * (i 0).val + o < 850000 → byteAt arg4 f4 r o = tab r (8192 * (i 0).val + o)) (E : Set ℕ) :
    ∀ (k j : ℕ) (go : BitVec 1), (go = 1#1 → 193 - j ≤ k) → ∀ f5, Between (colAt arg1 f1) (colAt arg2 f2) (idAt arg3 f3) tab (i 0).val j go (outAt arg5 f5) → ∀ K,
      loopSpec c q i arg1 arg3 arg2 arg5 arg4 f1 f2 f3 f4 f5 tab K ⊢ wp frame (wpE (defs₀ (F := F)) 𝒱₀ (c : Thread nD τ) (some k)) E
        (defs₀ (F := F) .tc 1 ⟨i, arg1, harg1, arg3, harg3, arg2, harg2, arg5, harg5, arg4, harg4, BitVec.ofNat 32 j, go⟩) K := by
  intro k
  induction k using Nat.strong_induction_on with
  | _ k ih =>
  intro j go hk f5 hb K
  have hj := hb.past.1
  rw [loopSpec_apply]
  show _ ⊢ wp frame (wpE (defs₀ (F := F)) 𝒱₀ (c : Thread nD τ) (some k)) E (cc0_while1 (F := F) i arg1 harg1 arg3 harg3 arg2 harg2 arg5 harg5 arg4 harg4 (BitVec.ofNat 32 j) go) K
  simp only [cc0_while1_eq_skeleton]; unfold cc0_while1_skel Held
  simp only [smemLoad, smemLoadElt, Prog.lift, Prog.bind_op, Prog.bind_ret, Prog.pure_eq_ret]
  iintro ⟨⟨H1, H2, H3, H4, H5⟩, Hk⟩
  iapply (wp_assume _ _ _ _ (chk1 hj))
  sl_step
  split
  · rename_i hv
    rw [and1, and1, slt1, lt192 hj] at hv
    obtain ⟨⟨hgo, hfirst⟩, hj192⟩ := hv
    have hk' := hk hgo
    have hw2 := chk2 hj192
    have e1 := word1_toInt arg1 f1 hj192 hw2
    have e2 := word1_toInt arg2 f2 hj192 hw2
    have hw3 : k0_chk3 i (word1 arg1 f1 (BitVec.ofNat 32 j) hw2) (word1 arg2 f2 (BitVec.ofNat 32 j) hw2) := chk3 i _ _ (by rw [e1]; exact hf j) (by rw [e2]; exact hl j)
    rw [wp_bind]
    iapply (wp_wand_r frame _ E)
    isplitl [H1 H2 H3 H4 H5]
    · iapply (run63 c (some k) q i arg1 harg1 arg3 harg3 arg2 harg2 arg5 harg5 arg4 harg4 (BitVec.ofNat 32 j) go (Scalar.muli (BitVec.ofNat 32 (i 0).val) 64#32) (Scalar.addi (Scalar.muli (BitVec.ofNat 32 (i 0).val) 64#32) 64#32) f1 f2 f3 f4 f5 hw2 hw3 E)
      unfold Held
      sl_close
    iintro %y ⟨%hy, H⟩
    subst hy
    dsimp only
    rw [wp_bind]
    iapply (wp_wand_r frame _ E)
    isplitl [H]
    · iapply (run64 c (some k) q i arg1 harg1 arg3 harg3 arg2 harg2 arg5 harg5 arg4 harg4 (BitVec.ofNat 32 j) go (Scalar.muli (BitVec.ofNat 32 (i 0).val) 64#32) (Scalar.addi (Scalar.muli (BitVec.ofNat 32 (i 0).val) 64#32) 64#32) f1 f2 f3 f4 f5 hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) (Scalar.muli (BitVec.ofNat 32 (i 0).val) 64#32)) (word1 arg2 f2 (BitVec.ofNat 32 j) hw2) hw3 (Scalar.minsi (Scalar.addi (word1 arg2 f2 (BitVec.ofNat 32 j) hw2) 1#32) (Scalar.addi (Scalar.muli (BitVec.ofNat 32 (i 0).val) 64#32) 64#32)) (Scalar.muli (BitVec.ofNat 32 j) 128#32) (k0_pay319 (arg5.view.readAt (Elt F) (Rect.unit (s := S112x24576) (k0_off4 (BitVec.ofNat 32 j)) S8x128.size (k0_off4_inb (BitVec.ofNat 32 j) hw2)).toLoadRect f5)) (k0_pay320 (arg5.view.readAt (Elt F) (Rect.unit (s := S112x24576) (k0_off5 (BitVec.ofNat 32 j)) S8x128.size (k0_off5_inb (BitVec.ofNat 32 j) hw2)).toLoadRect f5)) (k0_pay321 (arg5.view.readAt (Elt F) (Rect.unit (s := S112x24576) (k0_off6 (BitVec.ofNat 32 j)) S8x128.size (k0_off6_inb (BitVec.ofNat 32 j) hw2)).toLoadRect f5)) (k0_pay322 (arg5.view.readAt (Elt F) (Rect.unit (s := S112x24576) (k0_off7 (BitVec.ofNat 32 j)) S8x128.size (k0_off7_inb (BitVec.ofNat 32 j) hw2)).toLoadRect f5)) (k0_pay323 (arg5.view.readAt (Elt F) (Rect.unit (s := S112x24576) (k0_off8 (BitVec.ofNat 32 j)) S8x128.size (k0_off8_inb (BitVec.ofNat 32 j) hw2)).toLoadRect f5)) (k0_pay324 (arg5.view.readAt (Elt F) (Rect.unit (s := S112x24576) (k0_off9 (BitVec.ofNat 32 j)) S8x128.size (k0_off9_inb (BitVec.ofNat 32 j) hw2)).toLoadRect f5)) (k0_pay325 (arg5.view.readAt (Elt F) (Rect.unit (s := S112x24576) (k0_off10 (BitVec.ofNat 32 j)) S8x128.size (k0_off10_inb (BitVec.ofNat 32 j) hw2)).toLoadRect f5)) (k0_pay326 (arg5.view.readAt (Elt F) (Rect.unit (s := S112x24576) (k0_off11 (BitVec.ofNat 32 j)) S8x128.size (k0_off11_inb (BitVec.ofNat 32 j) hw2)).toLoadRect f5)) (arg5.view.readAt (Elt F) (Rect.unit (s := S112x24576) (k0_off12 (BitVec.ofNat 32 j)) S8x128.size (k0_off12_inb (BitVec.ofNat 32 j) hw2)).toLoadRect f5) E)
      iexact H
    iintro %y ⟨%hy, H⟩
    obtain ⟨v92, T, hT, hy⟩ := hy
    subst hy
    dsimp only
    rw [wp_bind]
    iapply (wp_wand_r frame _ E)
    isplitl [H]
    · iapply (run65 c (some k) q i arg1 harg1 arg3 harg3 arg2 harg2 arg5 harg5 arg4 harg4 (BitVec.ofNat 32 j) go (Scalar.muli (BitVec.ofNat 32 (i 0).val) 64#32) (Scalar.addi (Scalar.muli (BitVec.ofNat 32 (i 0).val) 64#32) 64#32) f1 f2 f3 f4 f5 hw2 (k0_pay317 (arg3.view.readAt (Elt F) (Rect.unit (s := S192x128) (k0_off2 (BitVec.ofNat 32 j)) S1x128.size (k0_off2_inb (BitVec.ofNat 32 j) hw2)).toLoadRect f3)) (k0_pay318 (arg3.view.readAt (Elt F) (Rect.unit (s := S192x128) (k0_off2 (BitVec.ofNat 32 j)) S1x128.size (k0_off2_inb (BitVec.ofNat 32 j) hw2)).toLoadRect f3)) (word1 arg1 f1 (BitVec.ofNat 32 j) hw2) (Scalar.maxsi (word1 arg1 f1 (BitVec.ofNat 32 j) hw2) (Scalar.muli (BitVec.ofNat 32 (i 0).val) 64#32)) (word1 arg2 f2 (BitVec.ofNat 32 j) hw2) hw3 (Scalar.muli (BitVec.ofNat 32 j) 128#32) v92 T E)
      iexact H
    iintro %y ⟨%hy, H⟩
    have hs := step_between c (some k) i arg1 harg1 arg3 harg3 arg2 harg2 arg5 harg5 arg4 harg4 f1 f2 f3 f4 f5 tab j go hj192 hw2 hw3 hf hl hB hb v92 T hT
    generalize arg5.view.writes (Elt F) f5 _ = X at hs ⊢
    have hc4 : (Scalar.addi (Scalar.muli (BitVec.ofNat 32 (i 0).val) 64#32) 64#32).toInt = 64 * (((i 0).val : Int) + 1) := by rw [toInt_of (c1_int i)]; omega
    by_cases hd : colAt arg2 f2 j < 64 * (((i 0).val : Int) + 1)
    · have hy1 : y = 1#1 := by rw [hy, slt1, e2, hc4]; exact hd
      rw [next_done hj192 hy1, hy1]
      iapply (wp_call_spec 𝒱₀ (c : Thread nD τ) (some k) E (loopSpec c q i arg1 arg3 arg2 arg5 arg4 f1 f2 f3 f4 X tab) (k - 1)
        (fun u hu => by cases hu; exact Nat.sub_lt (by omega) (by omega)) (ih (k - 1) (by omega) (j + 1) 1#1 (fun _ => by omega) X (hs.1 hd)))
      rw [loopSpec_apply]
      isplitl [H]
      · iexact H
      iintro %r %X' %hr H
      rw [wp_ret]; imodintro
      iapply Hk
      · ipureintro; exact hr
      · unfold Held; iexact H
    · have hy0 : y = 0#1 := by
        have h1 : y ≠ 1#1 := by rw [hy]; intro h; rw [slt1, e2, hc4] at h; exact hd h
        revert h1; clear * -; revert y; decide
      rw [next_same hy0, hy0]
      iapply (wp_call_spec 𝒱₀ (c : Thread nD τ) (some k) E (loopSpec c q i arg1 arg3 arg2 arg5 arg4 f1 f2 f3 f4 X tab) (k - 1)
        (fun u hu => by cases hu; exact Nat.sub_lt (by omega) (by omega)) (ih (k - 1) (by omega) j 0#1 (fun h => absurd h (by decide)) X (hs.2 hd)))
      rw [loopSpec_apply]
      isplitl [H]
      · iexact H
      iintro %r %X' %hr H
      rw [wp_ret]; imodintro
      iapply Hk
      · ipureintro; exact hr
      · unfold Held; iexact H
  · rename_i hv
    rw [and1, and1, slt1, lt192 hj] at hv
    rw [wp_ret]; imodintro
    iapply Hk
    · ipureintro
      refine ⟨j, rfl, hb.past, hb.leave ?_⟩
      by_cases h1 : go = 1#1
      · by_cases h2 : j < 192
        · right; right
          rw [word0_toInt arg1 f1 h2 (chk1 hj), toInt_of (c1_int i)] at hv
          have : ¬ colAt arg1 f1 j < 64 * (i 0).val + 64 := fun h => hv ⟨⟨h1, h⟩, h2⟩
          omega
        · exact Or.inr (Or.inl h2)
      · exact Or.inl h1
    · sl_close

end
end Cert.Proof.X
-- ==== Proof.XBody.lean ====
/-
  One point of `_extract`'s grid: the first point starts the output at zero and the block counter at the first block; then
  the loop over blocks runs from the counter kept in scalar memory, and the counter it ends at is kept for the next point.
-/
module

public import proofs.«01_k».proof.Proof.XWhile
public import Idealize.ShloMosaic.Lib.BitcastFour
public import Idealize.ShloMosaic.Lib.Pipeline.Value

@[expose] public section

set_option maxRecDepth 8192
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The block counter kept in scalar memory. -/
def counter (a : Memref sig .tc .smem S1 .i32) (f : BufTy.Contents (Elt F) a.view.ty) : BitVec 32 :=
  a.view.readAt (Elt F) (Rect.unit (s := S1) ![0] S1.size inb_S1_S1_0).toLoadRect f (Shape.Idx.first (numel1_S1.symm ▸ Nat.one_pos))

theorem first_point : ∀ n : Fin 104, (Scalar.cmpi .ne (Scalar.extui (Scalar.cmpi .eq (BitVec.ofNat 32 n.val) 0#32) : BitVec 32) 0#32 = 1#1) ↔ n.val = 0 := by decide

section
variable (c : Dev nD) (q : PosShare TreeShare) (i : grid0.Coords)
 (arg1 : Memref sig .tc .smem S192 .i32) (harg1 : arg1.IsWhole) (arg3 : Memref sig .tc .vmem S192x128 .i32) (harg3 : arg3.IsWhole) (arg2 : Memref sig .tc .smem S192 .i32) (harg2 : arg2.IsWhole)
 (arg5 : Memref sig .tc .vmem S112x24576 .i32) (harg5 : arg5.IsWhole) (arg4 : Memref sig .tc .vmem S448x8192 .i8) (harg4 : arg4.IsWhole) (arg6 : Memref sig .tc .smem S1 .i32) (harg6 : arg6.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty)

    (tab : ℕ → ℕ → BitVec 8)

theorem counter_write (f6 : BufTy.Contents (Elt F) arg6.view.ty) (v : BitVec 32) :
    counter arg6 (arg6.view.writes (Elt F) f6 [⟨Rect.unit (s := S1) ![0] S1.size inb_S1_S1_0, fun _ => v⟩]) = v := by
  unfold counter
  rw [View.readAt_apply]
  exact View.read_writes_cons_emb (Val := Elt F) arg6.view f6 (Rect.unit (s := S1) ![0] S1.size inb_S1_S1_0) (fun _ => v) [] _

/-- A point of the grid. -/
theorem point_run (f6 : BufTy.Contents (Elt F) arg6.view.ty)
    (hf : ∀ j, -2 ^ 25 ≤ colAt arg1 f1 j ∧ colAt arg1 f1 j < 2 ^ 25) (hl : ∀ j, -2 ^ 25 ≤ colAt arg2 f2 j ∧ colAt arg2 f2 j < 2 ^ 25)
    (hB : ∀ r o, r < 448 → o < 8192 → 8192 * (i 0).val + o < 850000 → byteAt arg4 f4 r o = tab r (8192 * (i 0).val + o))
    (hin : (i 0).val ≠ 0 → ∃ j : ℕ, counter arg6 f6 = BitVec.ofNat 32 j ∧ Past (colAt arg2 f2) (i 0).val j ∧ Good (colAt arg1 f1) (colAt arg2 f2) (idAt arg3 f3) tab (i 0).val (outAt arg5 f5))
    (E : Set ℕ) (K : PUnit → sProp 𝕄G) :
    iprop(Held c q arg1 arg2 arg3 arg4 arg5 f1 f2 f3 f4 f5 ∗ (arg6.view.loc (c : Thread nD τ) ↦[arg6.view.set]{fullShare} f6)
      ∗ (∀ X : BufTy.Contents (Elt F) arg5.view.ty, ∀ X6 : BufTy.Contents (Elt F) arg6.view.ty,
        ⌜∃ j : ℕ, counter arg6 X6 = BitVec.ofNat 32 j ∧ Past (colAt arg2 f2) ((i 0).val + 1) j ∧ Good (colAt arg1 f1) (colAt arg2 f2) (idAt arg3 f3) tab ((i 0).val + 1) (outAt arg5 X)⌝
          -∗ (Held c q arg1 arg2 arg3 arg4 arg5 f1 f2 f3 f4 X -∗ ((arg6.view.loc (c : Thread nD τ) ↦[arg6.view.set]{fullShare} X6) -∗ K ⟨⟩))))
    ⊢ wp frame (wpE (defs₀ (F := F)) 𝒱₀ (c : Thread nD τ) none) E
      (cc0_extract (F := F) i arg1 harg1 arg2 harg2 arg3 harg3 arg4 harg4 arg5 harg5 arg6 harg6) K := by
  have fin : ∀ (f6 : BufTy.Contents (Elt F) arg6.view.ty) (f5 : BufTy.Contents (Elt F) arg5.view.ty),
      (∃ j : ℕ, counter arg6 f6 = BitVec.ofNat 32 j ∧ Past (colAt arg2 f2) (i 0).val j ∧ Good (colAt arg1 f1) (colAt arg2 f2) (idAt arg3 f3) tab (i 0).val (outAt arg5 f5)) →
      iprop(Held c q arg1 arg2 arg3 arg4 arg5 f1 f2 f3 f4 f5 ∗ (arg6.view.loc (c : Thread nD τ) ↦[arg6.view.set]{fullShare} f6)
      ∗ (∀ X : BufTy.Contents (Elt F) arg5.view.ty, ∀ X6 : BufTy.Contents (Elt F) arg6.view.ty,
        ⌜∃ j : ℕ, counter arg6 X6 = BitVec.ofNat 32 j ∧ Past (colAt arg2 f2) ((i 0).val + 1) j ∧ Good (colAt arg1 f1) (colAt arg2 f2) (idAt arg3 f3) tab ((i 0).val + 1) (outAt arg5 X)⌝
          -∗ (Held c q arg1 arg2 arg3 arg4 arg5 f1 f2 f3 f4 X -∗ ((arg6.view.loc (c : Thread nD τ) ↦[arg6.view.set]{fullShare} X6) -∗ K ⟨⟩))))
      ⊢ wp frame (wpE (defs₀ (F := F)) 𝒱₀ (c : Thread nD τ) none) E
        (smemLoadElt arg6 (Rect.unit (s := S1) ![0] S1.size inb_S1_S1_0) (View.loads_smem_one rfl numel1_S1) (Shape.Idx.first (numel1_S1.symm ▸ Nat.one_pos)) fun v5 =>
          .op (.call (1 : (Λ₀ F).Label) ⟨i, arg1, harg1, arg3, harg3, arg2, harg2, arg5, harg5, arg4, harg4, v5, 1#1⟩) fun v6 =>
          smemLoadElt arg6 (Rect.unit (s := S1) ![0] S1.size inb_S1_S1_0) (View.loads_smem_one rfl numel1_S1) (Shape.Idx.first (numel1_S1.symm ▸ Nat.one_pos)) fun _ =>
          .op (.store arg6 (Rect.unit (s := S1) ![0] S1.size inb_S1_S1_0) (fun _ => v6.1) Finset.univ (View.stores_smem_one rfl numel1_S1) (.inl rfl)) fun _ => .ret ⟨⟩) K := by
    intro f6 f5 ⟨j, hc, hp, hg⟩
    unfold smemLoadElt
    iintro ⟨H, H6, Hk⟩
    sl_step
    rw [show arg6.view.readAt (Elt F) (Rect.unit (s := S1) ![0] S1.size inb_S1_S1_0).toLoadRect f6 (Shape.Idx.first (numel1_S1.symm ▸ Nat.one_pos)) = BitVec.ofNat 32 j from hc]
    iapply (wp_call_spec 𝒱₀ (c : Thread nD τ) none E (loopSpec c q i arg1 arg3 arg2 arg5 arg4 f1 f2 f3 f4 f5 tab) 193
      (fun u hu => nomatch hu) (loopSpec_le c q i arg1 harg1 arg3 harg3 arg2 harg2 arg5 harg5 arg4 harg4 f1 f2 f3 f4 tab hf hl hB E 193 j 1#1 (fun _ => by omega) f5 (Between.enter hp hg)))
    rw [loopSpec_apply]
    isplitl [H]
    · iexact H
    iintro %r %X %hr H
    obtain ⟨j', hr1, hr2, hr3⟩ := hr
    sl_step
    sl_step
    sl_step
    iapply Hk $$ %_ %_ [] H H6
    ipureintro
    exact ⟨j', (counter_write arg6 _ _).trans hr1, hr2, hr3⟩
  rw [cc0_extract_eq_skeleton]; unfold cc0_extract_skel
  simp only [smemLoad, smemLoadElt, Prog.lift, Prog.bind_op, Prog.bind_ret, Prog.pure_eq_ret]
  by_cases h0 : (i 0).val = 0
  · rw [dif_pos ((first_point (i 0)).mpr h0)]
    unfold Held
    iintro ⟨⟨H1, H2, H3, H4, H5⟩, H6, Hk⟩
    sl_step
    sl_step
    sl_step
    sl_step
    iapply (fin _ _ ⟨0, counter_write arg6 f6 0#32, ⟨Nat.zero_le _, fun _ h => absurd h (Nat.not_lt_zero _)⟩, fun hA j l hj hl hc => by
      have := (col_lane (hA.row j l hj hl)).1
      rw [h0] at hc; omega⟩)
    isplitl [H1 H2 H3 H4 H5]
    · unfold Held
      sl_close
    isplitl [H6]
    · iexact H6
    iexact Hk
  · rw [dif_neg (fun h => h0 ((first_point (i 0)).mp h))]
    exact fin f6 f5 (hin h0)

end
end Cert.Proof.X
-- ==== Proof.XLaunch.lean ====
/-
  `_extract` launched: the host operations cut the ids into blocks and read off the first and last column of each block;
  then the grid runs, point after point, and the words gathered are written back once, after the last point.
-/
module

public import proofs.«01_k».proof.Proof.XBody
public import Idealize.ShloMosaic.Lib.Pipeline.Frame
public import Idealize.ShloMosaic.Lib.Pipeline.ArrRel

@[expose] public section

set_option maxRecDepth 16384
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What the buffers of core `c` hold when the grid starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-- The tables of first and last columns, as the grid finds them. -/
def tabs : (p : Fin 1) → (pcfgs (F := F) p).Adm := fun _ => ⟨fun k => V m (0 : Dev nD) (pre0.ref k), trivial⟩

/-- The pipeline with these tables. -/
abbrev CF : Pipeline.Cfg sig (Λ₀ F) := Pipeline.pin (pcfgs (F := F)) (tabs m) 0

/-! ## What the blocks hold, by coordinates -/

/-- The ids of a block of ids. -/
def idOf (Y : S192x128.Idx → BitVec 32) (j l : ℕ) : BitVec 32 :=
  if h : j < 192 ∧ l < 128 then Y (ix2 (n0 := 192) (n1 := 128) ⟨j, h.1⟩ ⟨l, h.2⟩) else 0#32
/-- The words of the output block. -/
def outOf (Y : S112x24576.Idx → BitVec 32) (w s : ℕ) : BitVec 32 :=
  if h : w < 112 ∧ s < 24576 then Y (ix2 (n0 := 112) (n1 := 24576) ⟨w, h.1⟩ ⟨s, h.2⟩) else 0#32
/-- The bytes of the transposed table. -/
def tabOf (A : S448x850000.Idx → BitVec 8) (r u : ℕ) : BitVec 8 :=
  if h : r < 448 ∧ u < 850000 then A (ix2 (n0 := 448) (n1 := 850000) ⟨r, h.1⟩ ⟨u, h.2⟩) else 0#8
/-- The columns of a table of columns. -/
def colsOf (Y : S192.Idx → BitVec 32) (j : ℕ) : Int :=
  if h : j < 192 then (Y (ix1 (n := 192) ⟨j, h⟩)).toInt else 0

/-- The first and the last column of each block, the ids and the table, of this run. -/
def first : ℕ → Int := colsOf ((tabs m 0).1 0)
def last : ℕ → Int := colsOf ((tabs m 0).1 1)
def ids (c : Dev nD) : ℕ → ℕ → BitVec 32 := idOf (V m c main_v0)
def tab (c : Dev nD) : ℕ → ℕ → BitVec 8 := tabOf (V m c main_v1)

/-- The invariant between points. -/
def Phi (c : Dev nD) (t : Fin ((CF m).N + 1)) : sProp 𝕄G :=
  iprop((∃ f6 : Buf (Elt F) ((c : Thread nD τ).loc cc0_scratch0), ⌜t.val ≠ 0 → ∃ j : ℕ, counter (Memref.whole cc0_scratch0) f6 = BitVec.ofNat 32 j ∧ Past (last m) t.val j⌝
      ∗ ((c : Thread nD τ).loc cc0_scratch0) ↦{fullShare} f6)
    ∗ (∃ r, prngReg c r) ∗ Pipeline.ΦT pre0 (tabs m 0).1 c)

/-- What the body leaves in each window: the two inputs as it found them, the output right for every column so far. -/
def rdat (c : Dev nD) : RDat τ (Elt F) Unit ℕ (UR sig nD τ) ℕ (CF m) c where
  A w := V m c (Pipeline.arrRef spec0 w)
  after := fun
    | 0 => fun _ Y X => X = Y
    | 1 => fun _ Y X => X = Y
    | 2 => fun t _ X => Good (first m) (last m) (ids m c) (tab m c) (t.val + 1) (outOf X)
    | ⟨_ + 3, h⟩ => absurd h (Nat.not_lt.2 (Nat.le_add_left _ _))
  Φ := Phi m c
  q _ := fullShare
  owed _ := 0

theorem A_eq (c : Dev nD) (w : Fin (CF m).W) : (rdat m c).A w = V m c (Pipeline.arrRef spec0 w) := by dsimp only [rdat]

theorem coord_eq : ∀ t : Fin grid0.N, (grid0.coords t 0).val = t.val := by decide +kernel

theorem fetched_at {cfg : Pipeline.Cfg sig (Λ₀ F)} {c : Dev nD} (rd : RDat τ (Elt F) Unit ℕ (UR sig nD τ) ℕ cfg c) (w : Fin cfg.W) (t : Fin cfg.N)
    (d) (y : (cfg.win w).block.Idx) (hm : ∀ a, (y a).val < (cfg.win w).xsize (cfg.grid.coords t) a) :
    rd.fetched w t d y = rd.blockOf w t (fun a => ⟨(y a).val, hm a⟩) := by
  unfold RDat.fetched Pipeline.Window.fill
  exact dif_pos (((cfg.win w).moved_iff _ y).mpr hm)

theorem finds0' (c : Dev nD) (t : Fin (CF m).N) (Y) (h : (rdat m c).Finds (0 : Fin 3) t Y) : ∃ d, Y = (rdat m c).fetched (0 : Fin 3) t d :=
  (rdat m c).finds_in_eq_fetched (0 : Fin 3) rfl (fun _ _ _ => rfl) (fun _ _ _ h => h) t Y h
theorem finds1' (c : Dev nD) (t : Fin (CF m).N) (Y) (h : (rdat m c).Finds (1 : Fin 3) t Y) : ∃ d, Y = (rdat m c).fetched (1 : Fin 3) t d :=
  (rdat m c).finds_in_eq_fetched (1 : Fin 3) rfl (fun t t' h => funext fun a => by
    show Pipeline.Clip.of (cc0_transform_1 (grid0.coords t) a) (S448x8192.size a) (S448x850000.size a) = Pipeline.Clip.of (cc0_transform_1 (grid0.coords t') a) (S448x8192.size a) (S448x850000.size a)
    exact congrArg (fun z => Pipeline.Clip.of z _ _) (congrFun h a)) (fun _ _ _ h => h) t Y h

theorem block0 (c : Dev nD) (t : Fin (CF m).N) (A : Buf (Elt F) ((c : Thread nD τ).loc main_v0)) (z) : (((CF m).win (0 : Fin 3)).blk t).view.read (Elt F) A z = A ((((CF m).win (0 : Fin 3)).rect t).emb z) := rfl
theorem block1 (c : Dev nD) (t : Fin (CF m).N) (A : Buf (Elt F) ((c : Thread nD τ).loc main_v1)) (z) : (((CF m).win (1 : Fin 3)).blk t).view.read (Elt F) A z = A ((((CF m).win (1 : Fin 3)).rect t).emb z) := rfl
theorem emb0 (t : Fin (CF m).N) (z) (a : Fin 2) : ((((CF m).win (0 : Fin 3)).rect t).emb z a : ℕ) = cc0_transform_0 (grid0.coords t) a * S192x128.size a + (z a : ℕ) := Pipeline.Window.rect_emb_val _ t z a rfl
theorem emb1 (t : Fin (CF m).N) (z) (a : Fin 2) : ((((CF m).win (1 : Fin 3)).rect t).emb z a : ℕ) = cc0_transform_1 (grid0.coords t) a * S448x8192.size a + (z a : ℕ) := Pipeline.Window.rect_emb_val _ t z a rfl

theorem ix_0 (i : grid0.Coords) : cc0_transform_0 i 0 = 0 ∧ cc0_transform_0 i 1 = 0 := ⟨rfl, rfl⟩
theorem ix_1 (t : Fin grid0.N) : cc0_transform_1 (grid0.coords t) 0 = 0 ∧ cc0_transform_1 (grid0.coords t) 1 = t.val :=
  ⟨rfl, by
    show (BitVec.ofNat 32 (grid0.coords t 0).val).toNat = t.val
    have := lt_of_lt_of_eq t.isLt N_0
    rw [coord_eq, BitVec.toNat_ofNat, Nat.mod_eq_of_lt (by omega)]⟩

theorem finds0 (c : Dev nD) (t : Fin (CF m).N) (Y : S192x128.Idx → BitVec 32) (h : (rdat m c).Finds (0 : Fin 3) t Y) : idOf Y = ids m c := by
  obtain ⟨d, rfl⟩ := finds0' m c t Y h
  funext j l
  unfold ids idOf
  split
  · rename_i hjl
    rw [fetched_at (rdat m c) (0 : Fin 3) t d _ (fun a => (ix2 (n0 := 192) (n1 := 128) ⟨j, hjl.1⟩ ⟨l, hjl.2⟩ a).isLt)]
    refine (block0 m c t (V m c main_v0) _).trans (congrArg _ (funext fun a => Fin.ext ?_))
    refine (emb0 m t _ a).trans ?_
    match a with
    | ⟨0, _⟩ => exact (congrArg (· * _ + _) (ix_0 (grid0.coords t)).1).trans (by rw [Nat.zero_mul, Nat.zero_add])
    | ⟨1, _⟩ => exact (congrArg (· * _ + _) (ix_0 (grid0.coords t)).2).trans (by rw [Nat.zero_mul, Nat.zero_add])
  · rfl

/-- The bytes of a block of the table. -/
def byteOf (Y : S448x8192.Idx → BitVec 8) (r o : ℕ) : BitVec 8 :=
  if h : r < 448 ∧ o < 8192 then Y (ix2 (n0 := 448) (n1 := 8192) ⟨r, h.1⟩ ⟨o, h.2⟩) else 0#8

theorem xsize1 (t : Fin grid0.N) (a : Fin 2) (y : S448x8192.Idx) (h : 8192 * t.val + (y 1).val < 850000) :
    (y a).val < (Pipeline.Clip.of (cc0_transform_1 (grid0.coords t) a) (S448x8192.size a) (S448x850000.size a)).extent (S448x8192.size a) := by
  match a with
  | ⟨0, _⟩ =>
    have e := (ix_1 t).1
    show (y 0).val < (Pipeline.Clip.of (cc0_transform_1 (grid0.coords t) 0) 448 448).extent 448
    rw [e]; exact (y 0).isLt
  | ⟨1, _⟩ =>
    have e := (ix_1 t).2
    show (y 1).val < (Pipeline.Clip.of (cc0_transform_1 (grid0.coords t) 1) 8192 850000).extent 8192
    have hy : (y 1).val < 8192 := (y 1).isLt
    rw [e]; unfold Pipeline.Clip.of
    split
    · exact hy
    · unfold Pipeline.Clip.extent; dsimp only; omega

theorem finds1 (c : Dev nD) (t : Fin (CF m).N) (Y : S448x8192.Idx → BitVec 8) (h : (rdat m c).Finds (1 : Fin 3) t Y) (r o : ℕ) (hr : r < 448) (ho : o < 8192)
    (hu : 8192 * t.val + o < 850000) : byteOf Y r o = tab m c r (8192 * t.val + o) := by
  obtain ⟨d, rfl⟩ := finds1' m c t Y h
  unfold tab tabOf byteOf
  rw [dif_pos ⟨hr, ho⟩, dif_pos ⟨hr, hu⟩]
  rw [fetched_at (rdat m c) (1 : Fin 3) t d _ (fun a => xsize1 t a (ix2 (n0 := 448) (n1 := 8192) ⟨r, hr⟩ ⟨o, ho⟩) hu)]
  refine (block1 m c t (V m c main_v1) _).trans (congrArg _ (funext fun a => Fin.ext ?_))
  refine (emb1 m t _ a).trans ?_
  match a with
  | ⟨0, _⟩ => exact (congrArg (· * _ + _) (ix_1 t).1).trans (by rw [Nat.zero_mul, Nat.zero_add])
  | ⟨1, _⟩ => exact (congrArg (· * _ + _) (ix_1 t).2).trans (by show t.val * 8192 + o = 8192 * t.val + o; omega)

theorem flush2 (t : Fin grid0.N) : ((CF m).win (2 : Fin 3)).flush t = true ↔ t.val % 104 = 103 :=
  Pipeline.Window.flush_const ((CF m).win (2 : Fin 3)) rfl (fun _ _ => rfl) N_0 rfl t

theorem good_cast {fi la : ℕ → Int} {id tb o} {a b : ℕ} (h : a = b) (hg : Good fi la id tb a o) : Good fi la id tb b o := h ▸ hg

theorem finds2 (c : Dev nD) (t : Fin (CF m).N) (Y : S112x24576.Idx → BitVec 32) (h : (rdat m c).Finds (2 : Fin 3) t Y) (h0 : t.val ≠ 0) :
    Good (first m) (last m) (ids m c) (tab m c) t.val (outOf Y) := by
  have hN : t.val < 104 := lt_of_lt_of_eq t.isLt (show (CF m).N = 104 from N_0)
  rcases ((rdat m c).finds_of_pos (w := (2 : Fin 3)) (Pipeline.Window.fetch_out _ rfl t) h0 Y).mp h with hf | ⟨Z, _, hZ⟩
  · have := (flush2 m _).mp hf
    simp only at this
    omega
  · exact good_cast (Nat.sub_add_cancel (Nat.pos_of_ne_zero h0)) hZ

end Cert.Proof.X
-- ==== Proof.XHost.lean ====
/-
  What the host operations of `_extract` hand to the call: the ids in rows of 128, the table transposed, and the first and
  the last column of each row of ids. Columns are the ids shifted right by seven, hence bounded whatever the ids are.
-/
module

public import proofs.«01_k».proof.Proof.XLaunch

@[expose] public section

set_option maxRecDepth 16384
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄G" => MT nD τ sig Unit (Elt F) ℕ (UR sig nD τ) ℕ

variable (m : (ℓ : Loc nD τ sig) → Buf (Elt F) ℓ) (ρ : Dev nD → PrngReg)

theorem V_v0 (c : Dev nD) : V m c main_v0 = shapeCast S192x128 (m ((c : Thread nD τ).loc main_arg0)) shapeCasts_S24576_S192x128 := by
  unfold V hostOps0; after_results <;> rfl

theorem V_v1 (c : Dev nD) : V m c main_v1 = transpose S448x850000 [1, 0] (m ((c : Thread nD τ).loc main_arg1)) transposes_S850000x448_S448x850000_1_0 := by
  unfold V hostOps0; after_results <;> rfl

/-- The columns of the ids, as the host computes them. -/
def hcol (x : S24576.Idx → BitVec 32) : S192x128.Idx → BitVec 32 :=
  Host.shrsi (shapeCast S192x128 x shapeCasts_S24576_S192x128) (broadcastInDim S192x128 ![] bcast_S_S192x128 (constantI S_ 32 7#32))

theorem V_v5 (c : Dev nD) : V m c main_v5
    = shapeCast S192 (extractStridedSlice S192x1 ![0, 0] (hcol (m ((c : Thread nD τ).loc main_arg0))) slices_S192x128_S192x1_0_0) shapeCasts_S192x1_S192 := by
  unfold V hostOps0; after_results <;> rfl

theorem V_v7 (c : Dev nD) : V m c main_v7
    = shapeCast S192 (extractStridedSlice S192x1 ![0, 127] (hcol (m ((c : Thread nD τ).loc main_arg0))) slices_S192x128_S192x1_0_127) shapeCasts_S192x1_S192 := by
  unfold V hostOps0; after_results <;> rfl

theorem V_arg0 (c : Dev nD) : V m c main_arg0 = m ((c : Thread nD τ).loc main_arg0) := by
  unfold V hostOps0; after_results <;> rfl
theorem V_arg1 (c : Dev nD) : V m c main_arg1 = m ((c : Thread nD τ).loc main_arg1) := by
  unfold V hostOps0; after_results <;> rfl

theorem ids_eq (c : Dev nD) (j l : ℕ) (hj : j < 192) (hl : l < 128) :
    ids m c j l = (m ((c : Thread nD τ).loc main_arg0) : S24576.Idx → BitVec 32) (ix1 (n := 24576) ⟨128 * j + l, by omega⟩) := by
  unfold ids idOf
  rw [dif_pos ⟨hj, hl⟩, V_v0]
  exact shapeCast_apply _ shapeCasts_S24576_S192x128 _ (ix1 (n := 24576) ⟨128 * j + l, by omega⟩)
    (by rw [Shape.rowMajor_val_two, Shape.rowMajor_val_one]; show 128 * j + l = j * 128 + l; omega)

theorem tab_eq (c : Dev nD) (r u : ℕ) (hr : r < 448) (hu : u < 850000) :
    tab m c r u = (m ((c : Thread nD τ).loc main_arg1) : S850000x448.Idx → BitVec 8) (ix2 (n0 := 850000) (n1 := 448) ⟨u, hu⟩ ⟨r, hr⟩) := by
  unfold tab tabOf
  rw [dif_pos ⟨hr, hu⟩, V_v1]
  exact transpose_apply _ _ transposes_S850000x448_S448x850000_1_0 _ (ix2 (n0 := 850000) (n1 := 448) ⟨u, hu⟩ ⟨r, hr⟩) (fun a => match a with | ⟨0, _⟩ => rfl | ⟨1, _⟩ => rfl)

theorem hcol_apply (x : S24576.Idx → BitVec 32) (j l : ℕ) (hj : j < 192) (hl : l < 128) :
    hcol x (ix2 (n0 := 192) (n1 := 128) ⟨j, hj⟩ ⟨l, hl⟩) = IntOp.shrsi .host (x (ix1 (n := 24576) ⟨128 * j + l, by omega⟩)) 7#32 := by
  exact congrArg (fun z => IntOp.shrsi .host z 7#32) (shapeCast_apply x shapeCasts_S24576_S192x128 _ (ix1 (n := 24576) ⟨128 * j + l, by omega⟩)
    (by rw [Shape.rowMajor_val_two, Shape.rowMajor_val_one]; show 128 * j + l = j * 128 + l; omega))

theorem cut_first (x : S192x128.Idx → BitVec 32) (j : ℕ) (hj : j < 192) :
    shapeCast S192 (extractStridedSlice S192x1 ![0, 0] x slices_S192x128_S192x1_0_0) shapeCasts_S192x1_S192 (ix1 (n := 192) ⟨j, hj⟩)
      = x (ix2 (n0 := 192) (n1 := 128) ⟨j, hj⟩ ⟨0, by omega⟩) := by
  refine (shapeCast_apply _ shapeCasts_S192x1_S192 _ (ix2 (n0 := 192) (n1 := 1) ⟨j, hj⟩ ⟨0, by omega⟩) ?_).trans ?_
  · rw [Shape.rowMajor_val_two, Shape.rowMajor_val_one]; show j * 1 + 0 = j; omega
  · exact extractStridedSlice_apply _ x _ _ _ fun a => match a with | ⟨0, _⟩ => (Nat.zero_add _).symm | ⟨1, _⟩ => rfl

theorem first_col (j : ℕ) (hj : j < 192) : first m j = (V m 0 main_v5 (ix1 (n := 192) ⟨j, hj⟩) : BitVec 32).toInt := by
  unfold first colsOf
  rw [dif_pos hj]
  rfl

theorem first_eq (j : ℕ) (hj : j < 192) : first m j = (IntOp.shrsi .host (ids m 0 j 0) 7#32).toInt := by
  rw [first_col m j hj, V_v5, cut_first _ j hj, hcol_apply _ j 0 hj (by omega), ids_eq m 0 j 0 hj (by omega)]

theorem cut_last (x : S192x128.Idx → BitVec 32) (j : ℕ) (hj : j < 192) :
    shapeCast S192 (extractStridedSlice S192x1 ![0, 127] x slices_S192x128_S192x1_0_127) shapeCasts_S192x1_S192 (ix1 (n := 192) ⟨j, hj⟩)
      = x (ix2 (n0 := 192) (n1 := 128) ⟨j, hj⟩ ⟨127, by omega⟩) := by
  refine (shapeCast_apply _ shapeCasts_S192x1_S192 _ (ix2 (n0 := 192) (n1 := 1) ⟨j, hj⟩ ⟨0, by omega⟩) ?_).trans ?_
  · rw [Shape.rowMajor_val_two, Shape.rowMajor_val_one]; show j * 1 + 0 = j; omega
  · exact extractStridedSlice_apply _ x _ _ _ fun a => match a with | ⟨0, _⟩ => (Nat.zero_add _).symm | ⟨1, _⟩ => rfl

theorem last_col (j : ℕ) (hj : j < 192) : last m j = (V m 0 main_v7 (ix1 (n := 192) ⟨j, hj⟩) : BitVec 32).toInt := by
  unfold last colsOf
  rw [dif_pos hj]
  rfl

theorem last_eq (j : ℕ) (hj : j < 192) : last m j = (IntOp.shrsi .host (ids m 0 j 127) 7#32).toInt := by
  rw [last_col m j hj, V_v7, cut_last _ j hj, hcol_apply _ j 127 hj (by omega), ids_eq m 0 j 127 hj (by omega)]

theorem shrsi7 (u : BitVec 32) : IntOp.shrsi .host u 7#32 = u.sshiftRight 7 := rfl

theorem shrsi7_bound (u : BitVec 32) : -2 ^ 25 ≤ (IntOp.shrsi .host u 7#32).toInt ∧ (IntOp.shrsi .host u 7#32).toInt < 2 ^ 25 := by
  have h1 := u.toInt_lt; have h2 := u.le_toInt
  rw [shrsi7, BitVec.toInt_sshiftRight, Int.shiftRight_eq_div_pow]
  omega

theorem first_bound (j : ℕ) : -2 ^ 25 ≤ first m j ∧ first m j < 2 ^ 25 := by
  by_cases hj : j < 192
  · rw [first_eq m j hj]; exact shrsi7_bound _
  · unfold first colsOf; rw [dif_neg hj]; decide
theorem last_bound (j : ℕ) : -2 ^ 25 ≤ last m j ∧ last m j < 2 ^ 25 := by
  by_cases hj : j < 192
  · rw [last_eq m j hj]; exact shrsi7_bound _
  · unfold last colsOf; rw [dif_neg hj]; decide

end Cert.Proof.X
-- ==== Proof.XPoint.lean ====
/-
  The body at one point of the grid, with the arrays as the launch holds them: the two tables of columns are buffers of
  their own, and what the point needs of them is shared out and given back.
-/
module

public import proofs.«01_k».proof.Proof.XHost

@[expose] public section

set_option maxRecDepth 16384
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- A whole buffer's points-to, as the memref over it spells it. -/
theorem pts_whole (c : Dev nD) (b : Ref sig .tc) (q : PosShare TreeShare) (f : Buf (Elt F) ((c : Thread nD τ).loc b)) :
    ((((c : Thread nD τ).loc b) ↦{q} f) : sProp 𝕄G) = ((Memref.whole b).view.loc (c : Thread nD τ) ↦[(Memref.whole b).view.set]{q} f) := by
  simp only [Memref.view_whole, View.set_whole]

/-- The two tables of columns as the contents of their buffers. -/
def firsts (c : Dev nD) : Buf (Elt F) ((c : Thread nD τ).loc main_v5) := (tabs m 0).1 0
def lasts (c : Dev nD) : Buf (Elt F) ((c : Thread nD τ).loc main_v7) := (tabs m 0).1 1

/-- The two tables of columns, one after the other. -/
theorem tables_eq (c : Dev nD) : (Pipeline.ΦT pre0 (tabs m 0).1 c : sProp 𝕄G)
    = iprop((((c : Thread nD τ).loc main_v5) ↦{fullShare.right} firsts m c) ∗ (((c : Thread nD τ).loc main_v7) ↦{fullShare.right} lasts m c)) :=
  bigSep_univ_eq_bigSepL [(0 : Fin 2), (1 : Fin 2)] (by decide) (by decide) _

/-- The body at a point, the staging buffers any. -/
theorem point_owned (c : Dev nD) (i : grid0.Coords)
    (arg3 : Memref sig .tc .vmem S192x128 .i32) (harg3 : arg3.IsWhole) (arg4 : Memref sig .tc .vmem S448x8192 .i8) (harg4 : arg4.IsWhole)
    (arg5 : Memref sig .tc .vmem S112x24576 .i32) (harg5 : arg5.IsWhole) (g3 : S192x128.Idx → BitVec 32) (g4 : S448x8192.Idx → BitVec 8) (g5 : S112x24576.Idx → BitVec 32)
    (h3 : idOf g3 = ids m c)
    (h4 : ∀ r o, r < 448 → o < 8192 → 8192 * (i 0).val + o < 850000 → byteOf g4 r o = tab m c r (8192 * (i 0).val + o))
    (h5 : (i 0).val ≠ 0 → Good (first m) (last m) (ids m c) (tab m c) (i 0).val (outOf g5))
    (f6 : Buf (Elt F) ((c : Thread nD τ).loc cc0_scratch0))
    (h6 : (i 0).val ≠ 0 → ∃ j : ℕ, counter (Memref.whole cc0_scratch0) f6 = BitVec.ofNat 32 j ∧ Past (last m) (i 0).val j) :
    (iprop((((c : Thread nD τ).loc cc0_scratch0) ↦{fullShare} f6) ∗ Pipeline.ΦT pre0 (tabs m 0).1 c
      ∗ owns (c : Thread nD τ) arg3 fullShare g3 ∗ owns (c : Thread nD τ) arg4 fullShare g4 ∗ owns (c : Thread nD τ) arg5 fullShare g5) : sProp 𝕄G)
    ⊢ wp frame (wpE (defs₀ (F := F)) 𝒱₀ (c : Thread nD τ) none) Set.univ
      (cc0_extract (F := F) i (Memref.whole main_v5) (Memref.isWhole_whole _) (Memref.whole main_v7) (Memref.isWhole_whole _) arg3 harg3 arg4 harg4 arg5 harg5 (Memref.whole cc0_scratch0) (Memref.isWhole_whole _))
      (fun _ => iprop((∃ X6 : Buf (Elt F) ((c : Thread nD τ).loc cc0_scratch0), ⌜∃ j : ℕ, counter (Memref.whole cc0_scratch0) X6 = BitVec.ofNat 32 j ∧ Past (last m) ((i 0).val + 1) j⌝
          ∗ ((c : Thread nD τ).loc cc0_scratch0) ↦{fullShare} X6) ∗ Pipeline.ΦT pre0 (tabs m 0).1 c
        ∗ owns (c : Thread nD τ) arg3 fullShare g3 ∗ owns (c : Thread nD τ) arg4 fullShare g4
        ∗ (∃ X, ⌜Good (first m) (last m) (ids m c) (tab m c) ((i 0).val + 1) (outOf X)⌝ ∗ owns (c : Thread nD τ) arg5 fullShare X))) := by
  rw [tables_eq, pts_whole c main_v5, pts_whole c main_v7, pts_whole c cc0_scratch0 fullShare f6]
  unfold owns
  iintro ⟨H6, ⟨H1, H2⟩, ⟨%f3, %e3, H3⟩, ⟨%f4, %e4, H4⟩, ⟨%f5, %e5, H5⟩⟩
  subst e3 e4 e5
  iapply (point_run c fullShare.right i (Memref.whole main_v5) (Memref.isWhole_whole _) arg3 harg3 (Memref.whole main_v7) (Memref.isWhole_whole _) arg5 harg5 arg4 harg4
    (Memref.whole cc0_scratch0) (Memref.isWhole_whole _) (firsts m c) (lasts m c) f3 f4 f5 (tab m c) f6 (first_bound m) (last_bound m) h4
    (fun h => by
      obtain ⟨j, a, b⟩ := h6 h
      refine ⟨j, a, b, ?_⟩
      have h := h5 h
      rw [← h3] at h
      exact h))
  isplitl [H1 H2 H3 H4 H5]
  · unfold Held
    sl_close
  isplitl [H6]
  · iexact H6
  unfold Held
  iintro %X %X6 %hX ⟨H1, H2, H3, H4, H5⟩ H6
  obtain ⟨j, a, b, g⟩ := hX
  isplitl [H6]
  · iexists X6
    isplitr
    · ipureintro; exact ⟨j, a, b⟩
    rw [pts_whole]; iexact H6
  isplitl [H1 H2]
  · isplitl [H1]
    · iexact H1
    iexact H2
  isplitl [H3]
  · iexists f3; isplitr
    · ipureintro; rfl
    iexact H3
  isplitl [H4]
  · iexists f4; isplitr
    · ipureintro; rfl
    iexact H4
  iexists _; isplitr
  · ipureintro
    rw [← h3]; exact g
  iexists X; isplitr
  · ipureintro; rfl
  iexact H5

end Cert.Proof.X
-- ==== Proof.XGrid.lean ====
/-
  The run of `_extract`: the body meets what every grid point asks of it, the launch is entered with the host's values and
  left with the words of the last point written back.
-/
module

public import proofs.«01_k».proof.Proof.XPoint
public import Idealize.ShloMosaic.Lib.Pipeline.FrameBody

@[expose] public section

set_option maxRecDepth 16384
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The body table's row at a point. -/
theorem defs₀_row (t : Fin (CF m).N) : defs₀ (F := F) .tc (CF m).body ((CF m).bodyArgs t ((CF m).slots t))
    = cc0_extract (F := F) (grid0.coords t) (Memref.whole main_v5) (Memref.isWhole_whole _) (Memref.whole main_v7) (Memref.isWhole_whole _)
      (spec0_0.stage ((CF m).slots t 0)) (hstage0_0 (((CF m).slots t 0).cast nbuf0_0)) (spec0_1.stage ((CF m).slots t 1)) (hstage0_1 (((CF m).slots t 1).cast nbuf0_1))
      (spec0_2.stage ((CF m).slots t 2)) (hstage0_2 (((CF m).slots t 2).cast nbuf0_2)) (Memref.whole cc0_scratch0) (Memref.isWhole_whole _) := by
  unfold defs₀; rw [Defs.onTc_tc]

theorem sound_body (c : Dev nD) (t : Fin (CF m).N) (Y0 : S192x128.Idx → BitVec 32) (Y1 : S448x8192.Idx → BitVec 8) (Y2 : S112x24576.Idx → BitVec 32)
    (h0 : (rdat m c).Finds (0 : Fin 3) t Y0) (h1 : (rdat m c).Finds (1 : Fin 3) t Y1) (h2 : (rdat m c).Finds (2 : Fin 3) t Y2) :
    (iprop(Phi m c t.castSucc ∗ (rdat m c).owesAt () t.castSucc
      ∗ owns (c : Thread nD τ) (spec0_0.stage ((CF m).slots t 0)) fullShare Y0 ∗ owns (c : Thread nD τ) (spec0_1.stage ((CF m).slots t 1)) fullShare Y1
      ∗ owns (c : Thread nD τ) (spec0_2.stage ((CF m).slots t 2)) fullShare Y2) : sProp 𝕄G)
    ⊢ wp frame (wpE (defs₀ (F := F)) 𝒱₀ (c : Thread nD τ) none) Set.univ
      (cc0_extract (F := F) (grid0.coords t) (Memref.whole main_v5) (Memref.isWhole_whole _) (Memref.whole main_v7) (Memref.isWhole_whole _)
      (spec0_0.stage ((CF m).slots t 0)) (hstage0_0 (((CF m).slots t 0).cast nbuf0_0)) (spec0_1.stage ((CF m).slots t 1)) (hstage0_1 (((CF m).slots t 1).cast nbuf0_1))
      (spec0_2.stage ((CF m).slots t 2)) (hstage0_2 (((CF m).slots t 2).cast nbuf0_2)) (Memref.whole cc0_scratch0) (Memref.isWhole_whole _))
      (fun _ => iprop(Phi m c t.succ ∗ (rdat m c).owesAt () t.castSucc
        ∗ (∃ X : S192x128.Idx → BitVec 32, ⌜X = Y0⌝ ∗ owns (c : Thread nD τ) (spec0_0.stage ((CF m).slots t 0)) fullShare X)
        ∗ (∃ X : S448x8192.Idx → BitVec 8, ⌜X = Y1⌝ ∗ owns (c : Thread nD τ) (spec0_1.stage ((CF m).slots t 1)) fullShare X)
        ∗ (∃ X : S112x24576.Idx → BitVec 32, ⌜Good (first m) (last m) (ids m c) (tab m c) (t.val + 1) (outOf X)⌝
            ∗ owns (c : Thread nD τ) (spec0_2.stage ((CF m).slots t 2)) fullShare X))) := by
  have et : (grid0.coords t 0).val = t.val := coord_eq t
  generalize (rdat m c).owesAt () t.castSucc = W
  unfold Phi
  rw [show t.castSucc.val = t.val from rfl, show t.succ.val = t.val + 1 from rfl]
  iintro ⟨⟨⟨%f6, %h6, H6⟩, Hg, HT⟩, HO, H0, H1, H2⟩
  have hb := point_owned m c (grid0.coords t) (spec0_0.stage ((CF m).slots t 0)) (hstage0_0 (((CF m).slots t 0).cast nbuf0_0)) (spec0_1.stage ((CF m).slots t 1)) (hstage0_1 (((CF m).slots t 1).cast nbuf0_1))
      (spec0_2.stage ((CF m).slots t 2)) (hstage0_2 (((CF m).slots t 2).cast nbuf0_2)) Y0 Y1 Y2 (finds0 m c t Y0 h0)
      (by rw [et]; exact fun r o hr ho hu => finds1 m c t Y1 h1 r o hr ho hu) (by rw [et]; exact finds2 m c t Y2 h2) f6 (by rw [et]; exact h6)
  rw [et] at hb
  iapply (wp_wand_r (Q := _) _ _ _)
  isplitl [H6 HT H0 H1 H2]
  · iapply hb
    isplitl [H6]; · iexact H6
    isplitl [HT]; · iexact HT
    isplitl [H0]; · iexact H0
    isplitl [H1]; · iexact H1
    iexact H2
  iintro %_ ⟨⟨%X6, %hX6, H6⟩, HT, H0, H1, ⟨%X, %hX, H2⟩⟩
  isplitl [H6 Hg HT]
  · isplitl [H6]
    · iexists X6; isplitr; · ipureintro; exact fun _ => hX6
      iexact H6
    isplitl [Hg]; · iexact Hg
    iexact HT
  isplitl [HO]; · iexact HO
  isplitl [H0]
  · iexists Y0; isplitr; · ipureintro; rfl
    iexact H0
  isplitl [H1]
  · iexists Y1; isplitr; · ipureintro; rfl
    iexact H1
  iexists X; isplitr; · ipureintro; exact hX
  iexact H2

/-- The body does at every point what the data of the run say. -/
theorem body_obligation (c : Dev nD) : (rdat (F := F) m c).BodyObligation (defs₀ (F := F)) 𝒱₀ () Set.univ := fun t Y hY => by
  rw [bigSep_W0, bigSep_W0, defs₀_row]
  exact triple_restated (sound_body m c t (Y (0 : Fin 3)) (Y (1 : Fin 3)) (Y (2 : Fin 3)) (hY 0) (hY 1) (hY 2)) rfl .rfl fun _ => .rfl

theorem enter (c : Dev nD) : iprop(Pipeline.ΦA (CF m).spec c ∗ Pipeline.ΦT (pcfgs (F := F) 0).pre ((tabs m) 0).1 c) ⊢ (Phi m c 0 : sProp 𝕄G) := by
  unfold Pipeline.ΦA Phi
  rw [show (Pipeline.scopedRest (Ix := Unit) (Name := ℕ) (U := UR sig nD τ) (Lvl := ℕ) (Val := Elt F) (CF m).spec c : sProp 𝕄G) = _ from scopedRest0_eq c]
  iintro ⟨⟨⟨%f, H⟩, Hg⟩, HT⟩
  isplitl [H]
  · iexists f; isplitr; · ipureintro; exact fun h => absurd rfl h
    iexact H
  isplitl [Hg]; · iexact Hg
  iexact HT

theorem quit (c : Dev nD) : (Phi m c (Fin.last (CF m).N) : sProp 𝕄G) ⊢ Pipeline.ΦA (CF m).spec c := by
  unfold Pipeline.ΦA Phi
  rw [show (Pipeline.scopedRest (Ix := Unit) (Name := ℕ) (U := UR sig nD τ) (Lvl := ℕ) (Val := Elt F) (CF m).spec c : sProp 𝕄G) = _ from scopedRest0_eq c]
  iintro ⟨⟨%f, -, H⟩, Hg, -⟩
  isplitl [H]
  · iexists f; iexact H
  iexact Hg

-- the run theorem's implicit arguments are found by unifying its conclusion with this statement, which unifies only
-- when unification may unfold plain definitions in a metavariable's type
set_option backward.isDefEq.respectTransparency.types false in
/-- Every weakly fair run ends, the arrays as the data of the run say, the other buffers as the grid found them, every
    counter at zero. -/
theorem run_main :
    θ_run defs (onTc (τ := τ) (main (F := F))) ⟨m, fun _ => 0, ρ⟩
      (fun r => Pipeline.RDat.FramePost (CF m) (rdat m) (V m) r ∧ r.2.sem = fun _ => 0) :=
  RDat.θ_run_frameP_track (Q' := _) (pcfgs (F := F)) (tabs m) (0 : Fin 1) launch0 defs₀ 𝒱₀ (rdat m) m ρ main
    (hbody := body_obligation m) (hshare := fun c w => by unfold RDat.share; dsimp only [rdat]; simp) (howed := fun _ _ => rfl) (V := V m) (hmain := hmain m) (hA := A_eq m)
    (hpf := fun c k => by rw [Subsingleton.elim c 0]; rfl) (hin := enter m) (hout := quit m)

end Cert.Proof.X
-- ==== Proof.XPre.lean ====
/-
  What the precondition says, as a statement about numbers: the ids are rows of the table and they ascend. The columns of the
  blocks then are in order, which is what the loop over blocks needs.
-/
module

public import proofs.«01_k».proof.Proof.Gen.Pre_ascending
public import proofs.«01_k».proof.Proof.XHost
public import Idealize.ShloMosaic.Lib.WordCmp

@[expose] public section

set_option maxRecDepth 16384

noncomputable section

namespace Cert.Proof.X

open Cert.Extract Cert.Extract.Gen
open Idealize.ShloMosaic Idealize.ShloMosaic.TcCoe Idealize.ShloMosaic.ValueIdx

variable {F : FTy → Type} [FloatOps F]

/-- The ids, by number. -/
def slotId (x : S24576.Idx → BitVec 32) (p : ℕ) (h : p < 24576) : ℕ := (x (ix1 (n := 24576) ⟨p, h⟩)).toNat

theorem and_ones : ∀ a b : Bool, BitVec.ofBool a &&& BitVec.ofBool b = 1#1 → a = true ∧ b = true := by decide
theorem and_one : ∀ a b : BitVec 1, a &&& b = 1#1 → a = 1#1 ∧ b = 1#1 := by decide
theorem ofBool_one : ∀ a : Bool, BitVec.ofBool a = 1#1 → a = true := by decide

variable (x : S24576.Idx → BitVec 32) (y : S850000x448.Idx → BitVec 8)
  (h : Cert.Pre_ascending.fn (F := F) x y = fun _ => 1#1)
include h

theorem pre_row (i : S24576.Idx) : (x i).toNat < 850000 := by
  obtain ⟨h1, h3⟩ := and_one _ _ (congrFun h i)
  obtain ⟨_, h2⟩ := and_one _ _ h1
  have l := of_decide_eq_true (ofBool_one _ h3)
  have g := of_decide_eq_true (ofBool_one _ h2)
  have l' : (x i).toInt < 850000 := l
  have g' : 0 ≤ (x i).toInt := g
  have := (x i).isLt
  rw [BitVec.toInt_eq_toNat_cond] at l' g'
  split at l' <;> omega

theorem pre_step (p : ℕ) (hp : p + 1 < 24576) : slotId x p (by omega) ≤ slotId x (p + 1) hp := by
  obtain ⟨h1, _⟩ := and_one _ _ (congrFun h (ix1 (n := 24576) ⟨p + 1, hp⟩))
  obtain ⟨h2, _⟩ := and_one _ _ h1
  have e : concatenate Cert.Pre_ascending.S24576 0 [⟨Cert.Pre_ascending.S1, extractStridedSlice Cert.Pre_ascending.S1 ![0] x Cert.Pre_ascending.Facts.slices_S24576_S1_0⟩,
      ⟨Cert.Pre_ascending.S24575, extractStridedSlice Cert.Pre_ascending.S24575 ![0] x Cert.Pre_ascending.Facts.slices_S24576_S24575_0⟩]
      Cert.Pre_ascending.Facts.concatenates_S1_S24575_S24576_d0 (ix1 (n := 24576) ⟨p + 1, hp⟩) = x (ix1 (n := 24576) ⟨p, by omega⟩) := by
    refine (concatenate_pair_apply_right (t := Cert.Pre_ascending.S24576) (s₁ := Cert.Pre_ascending.S1) (s₂ := Cert.Pre_ascending.S24575) 0 _ _ _ _ rfl rfl (ix1 (n := 24575) ⟨p, by omega⟩)
      (fun b hb => absurd (Subsingleton.elim (α := Fin 1) _ _) hb) rfl).trans ?_
    exact extractStridedSlice_apply _ x _ _ _ fun a => match a with | ⟨0, _⟩ => (Nat.zero_add _).symm
  have g : (concatenate Cert.Pre_ascending.S24576 0 [⟨Cert.Pre_ascending.S1, extractStridedSlice Cert.Pre_ascending.S1 ![0] x Cert.Pre_ascending.Facts.slices_S24576_S1_0⟩,
      ⟨Cert.Pre_ascending.S24575, extractStridedSlice Cert.Pre_ascending.S24575 ![0] x Cert.Pre_ascending.Facts.slices_S24576_S24575_0⟩]
      Cert.Pre_ascending.Facts.concatenates_S1_S24575_S24576_d0 (ix1 (n := 24576) ⟨p + 1, hp⟩)).toInt ≤ (x (ix1 (n := 24576) ⟨p + 1, hp⟩)).toInt :=
    of_decide_eq_true (ofBool_one _ h2)
  rw [e] at g
  have a := pre_row x y h (ix1 (n := 24576) ⟨p, by omega⟩)
  have b := pre_row x y h (ix1 (n := 24576) ⟨p + 1, hp⟩)
  rw [BitVec.toInt_eq_toNat_of_lt (by omega), BitVec.toInt_eq_toNat_of_lt (by omega)] at g
  unfold slotId
  omega

theorem pre_mono (p n : ℕ) (hn : p + n < 24576) : slotId x p (by omega) ≤ slotId x (p + n) hn := by
  induction n with
  | zero => exact Nat.le_refl _
  | succ n ih => exact (ih (by omega)).trans (pre_step x y h (p + n) hn)

theorem pre_le (p q : ℕ) (hpq : p ≤ q) (hq : q < 24576) : slotId x p (by omega) ≤ slotId x q hq := by
  obtain ⟨n, rfl⟩ := Nat.exists_eq_add_of_le hpq
  exact pre_mono x y h p n hq

omit h x y
variable (m : (ℓ : Loc nD τ sig) → Buf (Elt F) ℓ)

theorem ids_slot (c : Dev nD) (j l : ℕ) (hj : j < 192) (hl : l < 128) :
    (ids m c j l).toNat = slotId (m ((c : Thread nD τ).loc main_arg0)) (128 * j + l) (by omega) := by
  rw [ids_eq m c j l hj hl]; rfl

/-- The ids of a run that meets the precondition. -/
theorem asc (c : Dev nD) (h : Cert.Pre_ascending.fn (F := F) (m ((c : Thread nD τ).loc main_arg0)) (m ((c : Thread nD τ).loc main_arg1)) = fun _ => 1#1) :
    Asc (first m) (last m) (ids m c) := by
  obtain rfl : c = 0 := Subsingleton.elim _ _
  have row : ∀ j l, j < 192 → l < 128 → (ids m 0 j l).toNat < 850000 := fun j l hj hl => by
    rw [ids_eq m 0 j l hj hl]; exact pre_row _ _ h _
  have col : ∀ j l, j < 192 → l < 128 → (IntOp.shrsi .host (ids m 0 j l) 7#32).toInt = ((ids m 0 j l).toNat / 128 : ℕ) := fun j l hj hl =>
    (col_lane (row j l hj hl)).1
  have mono : ∀ j l j' l', j < 192 → l < 128 → j' < 192 → l' < 128 → 128 * j + l ≤ 128 * j' + l' → (ids m 0 j l).toNat ≤ (ids m 0 j' l').toNat :=
    fun j l j' l' hj hl hj' hl' hle => by
      rw [ids_slot m 0 j l hj hl, ids_slot m 0 j' l' hj' hl']
      exact pre_le _ _ h _ _ hle (by omega)
  refine ⟨fun j l hj hl => ?_, fun j j' l hjj hj' hl => ?_, row⟩
  · rw [first_eq m j hj, last_eq m j hj, col j 0 hj (by omega), col j 127 hj (by omega), (col_lane (row j l hj hl)).1]
    have a := mono j 0 j l hj (by omega) hj hl (by omega)
    have b := mono j l j 127 hj hl hj (by omega) (by omega)
    exact ⟨by exact_mod_cast Nat.div_le_div_right a, by exact_mod_cast Nat.div_le_div_right b⟩
  · rw [last_eq m j (by omega), col j 127 (by omega) (by omega), (col_lane (row j' l hj' hl)).1]
    exact_mod_cast Nat.div_le_div_right (mono j 127 j' l (by omega) (by omega) hj' hl (by omega))

end Cert.Proof.X
-- ==== Proof.XFinal.lean ====
/-
  What a run of `_extract` leaves: its arguments as they were, and, if the ids ascend, in every slot the words of the row its id names.
-/
module

public import proofs.«01_k».proof.Proof.XGrid
public import proofs.«01_k».proof.Proof.XPre

@[expose] public section

set_option maxRecDepth 16384
set_option maxHeartbeats 4000000

noncomputable section

namespace Cert.Proof.X

open Cert.Extract Cert.Extract.Gen
open Idealize.ShloMosaic Idealize.ShloMosaic.TcCoe Idealize.ShloMosaic.Tactic
open Idealize.ShloMosaic.ValueIdx Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄G" => MT nD τ sig Unit (Elt F) ℕ (UR sig nD τ) ℕ

variable (m : (ℓ : Loc nD τ sig) → Buf (Elt F) ℓ) (ρ : Dev nD → PrngReg)

theorem whole2 : ((CF m).win (2 : Fin 3)).WholeAt (⟨103, by rw [show (CF m).N = 104 from N_0]; omega⟩ : Fin (CF m).N) := by
  refine ⟨(flush2 m _).mpr rfl, fun t h => Fin.ext ?_, fun a => ?_⟩
  · have := (flush2 m t).mp h
    have := lt_of_lt_of_eq t.isLt (show (CF m).N = 104 from N_0)
    show t.val = 103
    omega
  · match a with
    | ⟨0, _⟩ => exact ⟨rfl, rfl⟩
    | ⟨1, _⟩ => exact ⟨rfl, rfl⟩

variable {m ρ}

theorem final_arg0 {r : PUnit × MemSt nD τ sig (Elt F)} (h : Pipeline.RDat.FramePost (CF m) (rdat m) (V m) r) (c : Dev nD) :
    r.2.mem ((c : Thread nD τ).loc main_arg0) = m ((c : Thread nD τ).loc main_arg0) :=
  ((h c).2 main_arg0 (Pipeline.mem_restRefs_of main_arg0 (by decide) (show ∀ w : Fin 3, (spec0 w).arr.view.ref ≠ main_arg0 from by decide))).trans (V_arg0 m c)

theorem final_arg1 {r : PUnit × MemSt nD τ sig (Elt F)} (h : Pipeline.RDat.FramePost (CF m) (rdat m) (V m) r) (c : Dev nD) :
    r.2.mem ((c : Thread nD τ).loc main_arg1) = m ((c : Thread nD τ).loc main_arg1) :=
  ((h c).2 main_arg1 (Pipeline.mem_restRefs_of main_arg1 (by decide) (show ∀ w : Fin 3, (spec0 w).arr.view.ref ≠ main_arg1 from by decide))).trans (V_arg1 m c)

theorem final_good {r : PUnit × MemSt nD τ sig (Elt F)} (h : Pipeline.RDat.FramePost (CF m) (rdat m) (V m) r) (c : Dev nD) :
    Good (first m) (last m) (ids m c) (tab m c) 104 (outOf (r.2.mem ((c : Thread nD τ).loc main_v8))) := by
  obtain ⟨X, ⟨Y, _, hX⟩, hj⟩ := RDat.ArrAt.emb_eq_of_wholeAt ((h c).1 (2 : Fin 3)) (whole2 m)
  have hX' : Good (first m) (last m) (ids m c) (tab m c) 104 (outOf X) := hX
  have e : (r.2.mem ((c : Thread nD τ).loc main_v8) : S112x24576.Idx → BitVec 32) = X := funext fun j => hj j
  rw [e]; exact hX'

/-- The words a run leaves. -/
theorem final_word {r : PUnit × MemSt nD τ sig (Elt F)} (h : Pipeline.RDat.FramePost (CF m) (rdat m) (V m) r) (c : Dev nD)
    (hp : Cert.Pre_ascending.fn (F := F) (m ((c : Thread nD τ).loc main_arg0)) (m ((c : Thread nD τ).loc main_arg1)) = fun _ => 1#1)
    (w : Fin 112) (s : Fin 24576) (hs : ((m ((c : Thread nD τ).loc main_arg0) : S24576.Idx → BitVec 32) (ix1 (n := 24576) s)).toNat < 850000) :
    (r.2.mem ((c : Thread nD τ).loc main_v8) : S112x24576.Idx → BitVec 32) (ix2 (n0 := 112) (n1 := 24576) w s)
      = word4 fun b => (m ((c : Thread nD τ).loc main_arg1) : S850000x448.Idx → BitVec 8) (ix2 (n0 := 850000) (n1 := 448) ⟨_, hs⟩ ⟨4 * w.val + b.val, by omega⟩) := by
  have ha := asc m c hp
  have hj : s.val / 128 < 192 := by omega
  have hl : s.val % 128 < 128 := Nat.mod_lt _ (by omega)
  have es : 128 * (s.val / 128) + s.val % 128 = s.val := Nat.div_add_mod _ _
  have ei : ids m c (s.val / 128) (s.val % 128) = (m ((c : Thread nD τ).loc main_arg0) : S24576.Idx → BitVec 32) (ix1 (n := 24576) s) := by
    rw [ids_eq m c _ _ hj hl]
    exact congrArg _ (congrArg (ix1 (n := 24576)) (Fin.ext es))
  have hr := ha.row _ _ hj hl
  have g := final_good h c ha (s.val / 128) (s.val % 128) hj hl (by rw [(col_lane hr).1]; push_cast; omega) w.val w.isLt
  rw [es, ei] at g
  unfold outOf at g
  rw [dif_pos ⟨w.isLt, s.isLt⟩] at g
  refine g.trans ?_
  unfold gWord
  refine congrArg word4 (funext fun b => ?_)
  exact tab_eq m c _ _ (by omega) hs

end Cert.Proof.X
-- ==== Proof.XGathered.lean ====
/-
  The reference of `_extract` read at an index: word `w` of slot `s` is made of the four bytes `4 w` to `4 w + 3` of the
  table row the slot's id names.
-/
module

public import proofs.«01_k».proof.Proof.Gen.Gathered.Read
public import proofs.«01_k».proof.Proof.XLoop
public import Idealize.ShloMosaic.Lib.Routing.Ops
public import Idealize.ShloMosaic.Lib.Pointwise.Reduce

@[expose] public section

set_option maxRecDepth 16384
set_option maxHeartbeats 1000000

noncomputable section

namespace Cert.Proof.X

open Cert.Gathered Cert.Gathered.Gen Cert.Gathered.Read
open Idealize.ShloMosaic Idealize.ShloMosaic.TcCoe

variable {F : FTy → Type} [FloatOps F]

/-- A byte of a word, in its place. -/
def byteIn (b : BitVec 8) (k : ℕ) : BitVec 32 := b.setWidth 32 <<< (8 * k)

theorem byteIn_bit (b : BitVec 8) (k i : ℕ) (h : (byteIn b k).getLsbD i = true) : 8 * k ≤ i ∧ i < 8 * k + 8 := by
  unfold byteIn at h
  rw [BitVec.getLsbD_shiftLeft, BitVec.getLsbD_setWidth] at h
  by_contra hc
  by_cases h1 : i < 8 * k
  · simp [h1] at h
  · rw [BitVec.getLsbD_of_ge b (i - 8 * k) (by omega)] at h
    simp at h

/-- Words with no bit in common add as they are joined. -/
theorem add_or {x y : BitVec 32} (h : ∀ i, x.getLsbD i = true → y.getLsbD i = true → False) : x + y = x ||| y :=
  BitVec.add_eq_or_of_and_eq_zero x y (BitVec.eq_of_getLsbD_eq fun i _ => by
    rw [BitVec.getLsbD_and, BitVec.getLsbD_zero]
    have := h i
    cases hx : x.getLsbD i <;> cases hy : y.getLsbD i <;> simp_all)

theorem sum_bytes (b : Fin 4 → BitVec 8) :
    byteIn (b 0) 0 + (byteIn (b 1) 1 + (byteIn (b 2) 2 + (byteIn (b 3) 3 + 0#32))) = word4 b := by
  rw [BitVec.add_zero, add_or (x := byteIn (b 2) 2) (fun i h1 h2 => by have := byteIn_bit _ _ _ h1; have := byteIn_bit _ _ _ h2; omega),
    add_or (x := byteIn (b 1) 1) (fun i h1 h2 => by
      rw [BitVec.getLsbD_or, Bool.or_eq_true] at h2
      have := byteIn_bit _ _ _ h1
      rcases h2 with h2 | h2 <;> have := byteIn_bit _ _ _ h2 <;> omega),
    add_or (x := byteIn (b 0) 0) (fun i h1 h2 => by
      rw [BitVec.getLsbD_or, BitVec.getLsbD_or, Bool.or_eq_true, Bool.or_eq_true] at h2
      have := byteIn_bit _ _ _ h1
      rcases h2 with h2 | h2 | h2 <;> have := byteIn_bit _ _ _ h2 <;> omega)]
  unfold word4 byteIn
  rw [← BitVec.or_assoc, ← BitVec.or_assoc, show 8 * 0 = 0 from rfl, BitVec.shiftLeft_zero]

theorem fold_four (f : Fin 4 → BitVec 32) : (Finset.univ : Finset (Fin 4)).fold IntOp.addi 0#32 f = f 0 + (f 1 + (f 2 + (f 3 + 0#32))) := rfl

theorem fold_bytes (g : Fin 4 → BitVec 8) : (Finset.univ : Finset (Fin 4)).fold IntOp.addi 0#32 (fun k => byteIn (g k) k.val) = word4 g :=
  (fold_four _).trans (sum_bytes g)

variable (x0 : S24576.Idx → BitVec 32) (x1 : S850000x448.Idx → BitVec 8)

/-- A row number in range is looked up as it is. -/
theorem lookup (s : Fin 24576) (h : (x0 (ValueIdx.ix1 (n := 24576) s)).toNat < 850000) :
    val_main_v5 (F := F) x0 (ValueIdx.ix2 (n0 := 24576) (n1 := 1) s 0) = x0 (ValueIdx.ix1 (n := 24576) s) := by
  rw [val_main_v5_apply, val_main_v4_apply, val_main_v1_apply, val_main_v0_apply, val_main_c_apply]
  rw [show idx_main_v5 (ValueIdx.ix2 (n0 := 24576) (n1 := 1) s 0) = ValueIdx.ix1 (n := 24576) s from funext fun a => match a with | ⟨0, _⟩ => rfl]
  have e : IntOp.cmpi .slt (x0 (ValueIdx.ix1 (n := 24576) s)) 0#32 = 0#1 := by
    show BitVec.ofBool ((x0 (ValueIdx.ix1 (n := 24576) s)).slt 0#32) = 0#1
    rw [show (x0 (ValueIdx.ix1 (n := 24576) s)).slt 0#32 = false from by
      rw [BitVec.slt_eq_decide, BitVec.toInt_eq_toNat_of_lt (by omega)]; simp]
    rfl
  rw [e]; rfl

/-- The row taken. -/
theorem row_taken (s : Fin 24576) (r : Fin 448) (h : (x0 (ValueIdx.ix1 (n := 24576) s)).toNat < 850000) :
    val_main_v6 (F := F) x0 x1 (ValueIdx.ix2 (n0 := 24576) (n1 := 448) s r) = x1 (ValueIdx.ix2 (n0 := 850000) (n1 := 448) ⟨_, h⟩ r) := by
  unfold val_main_v6
  exact Routing.gather_row (nb := 850000) (B := 448) (n := 24576) gather_S850000x448_S24576x1_S24576x448_1_0_n_n_0_1_1448 rfl rfl rfl rfl rfl x1 _ s r ⟨_, h⟩
    ((lookup x0 s h).trans (by rw [BitVec.ofNat_toNat, BitVec.setWidth_eq])) (by norm_num)

theorem shifts (i : S24576x112x4.Idx) : val_main_v13 (F := F) i = IntOp.muli 8#32 (BitVec.ofNat 32 (i 2).val) := by
  rw [val_main_v13_apply, val_main_v12_apply, val_main_v11_apply, val_main_v10_apply, val_main_c_1_apply, val_main_v8_apply]

theorem shl_byte (z : BitVec 8) : ∀ b : Fin 4, IntOp.shli .host (z.setWidth 32) (IntOp.muli 8#32 (BitVec.ofNat 32 b.val)) = byteIn z b.val
  | ⟨0, _⟩ => rfl | ⟨1, _⟩ => rfl | ⟨2, _⟩ => rfl | ⟨3, _⟩ => rfl

theorem byte_shifted (i : S24576x112x4.Idx) (s : Fin 24576) (w : Fin 112) (b : Fin 4) (hs : (i 0).val = s.val) (hw : (i 1).val = w.val) (hb : (i 2).val = b.val)
    (h : (x0 (ValueIdx.ix1 (n := 24576) s)).toNat < 850000) :
    val_main_v14 (F := F) x0 x1 i = byteIn (x1 (ValueIdx.ix2 (n0 := 850000) (n1 := 448) ⟨_, h⟩ ⟨4 * w.val + b.val, by omega⟩)) b.val := by
  rw [val_main_v14_apply, shifts, val_main_v9_apply, val_main_v7_apply,
    show idx_main_v9 i = ValueIdx.ix2 (n0 := 24576) (n1 := 448) s ⟨4 * w.val + b.val, by omega⟩ from
      funext fun a => match a with
        | ⟨0, _⟩ => Fin.ext (by show (((i 0).val * 112 + (i 1).val) * 4 + (i 2).val) / 448 = s.val; omega)
        | ⟨1, _⟩ => Fin.ext (by show (((i 0).val * 112 + (i 1).val) * 4 + (i 2).val) % 448 = 4 * w.val + b.val; omega),
    row_taken x0 x1 s _ h, hb]
  exact shl_byte _ b

/-- The reference's word. -/
theorem word_taken (w : Fin 112) (s : Fin 24576) (h : (x0 (ValueIdx.ix1 (n := 24576) s)).toNat < 850000) :
    val_main_v16 (F := F) x0 x1 (ValueIdx.ix2 (n0 := 112) (n1 := 24576) w s)
      = word4 fun b => x1 (ValueIdx.ix2 (n0 := 850000) (n1 := 448) ⟨_, h⟩ ⟨4 * w.val + b.val, by omega⟩) := by
  rw [val_main_v16_apply]
  unfold val_main_v15
  rw [Host.reduce_eq_fold, Shape.ReducesTo.fold_fiber_r3_a2, val_main_c_2_apply]
  refine (congrArg (Finset.fold IntOp.addi 0#32 · Finset.univ) (funext fun k => byte_shifted x0 x1 _ s w k rfl rfl rfl h)).trans ?_
  exact fold_bytes fun b => x1 (ValueIdx.ix2 (n0 := 850000) (n1 := 448) ⟨_, h⟩ ⟨4 * w.val + b.val, by omega⟩)

end Cert.Proof.X
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Extract
public import proofs.«01_k».proof.Proof.Gen.Extract.Skeleton
public import proofs.«01_k».proof.Proof.Gen.Extract.Launch
public import proofs.«01_k».proof.Proof.Gen.Extract.Loops
public import proofs.«01_k».proof.Proof.Gen.Gathered
public import proofs.«01_k».proof.Proof.Gen.Gathered.Run
public import proofs.«01_k».proof.Proof.Gen.Gathered.Read
public import proofs.«01_k».proof.Proof.Gen.Pre_ascending
public import proofs.«01_k».proof.Proof.Equation
public import proofs.«01_k».proof.Proof.XFinal
public import proofs.«01_k».proof.Proof.XGathered
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments and has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2.2.2.2, sem_eq_zero_of_no_sems rfl r.2⟩) (Cert.ReferenceIdeal.Value.run m g)

/-- The kernel's four arrays are the reference's, from equal arguments with a finite gradient. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hagree
  refine ⟨fun c => Cert.KernelIdeal.Value.G7 m c, fun c => Cert.KernelIdeal.Value.G8 m c, fun c => Cert.KernelIdeal.Value.G9 m c, fun c => Cert.KernelIdeal.Value.G10 m c,
    Cert.KernelIdeal.Value.run m g, (θ_run _ _ _).mono (fun r h c => ?_) (Cert.ReferenceIdeal.Value.run m' g')⟩
  have hx := Cert.Eqn.finite_of_pre _ _ _ _ _ _ _ (hpre c)
  obtain ⟨a0, a1, a2, a3, a4, a5, a6⟩ := hagree c
  refine ⟨?_, ?_, ?_, ?_, (h c).2.2.2.2⟩
  · rw [(h c).1, Cert.ReferenceIdeal.Read.val_main_v64_eq, a0, a1, a2, a3, a4, a5, a6]
    exact Cert.Eqn.codes_eq m c hx
  · rw [(h c).2.1, Cert.ReferenceIdeal.Read.val_main_v67_eq, a0, a1, a2, a4, a5, a6]
    exact Cert.Eqn.scale_eq m c hx
  · refine (h c).2.2.1.trans ((Cert.ReferenceIdeal.Read.val_main_v68_eq _ _ _ _ _ _).trans ?_)
    rw [a0, a1, a2, a4, a5, a6]
    exact Cert.Eqn.bias_eq m c hx
  · refine (h c).2.2.2.1.trans ((Cert.ReferenceIdeal.Read.val_main_v69_eq _ _ _).trans ?_)
    rw [a0, a1, a6]
    exact Cert.Eqn.state_eq m c hx

/-- The gathering call runs, leaves its arguments and every semaphore at zero, whatever the ids. -/
theorem extract_frame (m : (ℓ : Loc Cert.Extract.nD Cert.Extract.τ Cert.Extract.sig) → Buf (Elt Bits) ℓ)
    (g : Dev Cert.Extract.nD → PrngReg) :
    θ_run (Cert.Extract.defs (F := Bits)) (onTc (τ := Cert.Extract.τ) (Cert.Extract.main (F := Bits))) ⟨m, fun _ => 0, g⟩ (fun r => (∀ c : Dev Cert.Extract.nD,
      r.2.mem ((c.tc : Thread Cert.Extract.nD Cert.Extract.τ).loc Cert.Extract.main_arg0) = m ((c.tc : Thread Cert.Extract.nD Cert.Extract.τ).loc Cert.Extract.main_arg0)
      ∧ r.2.mem ((c.tc : Thread Cert.Extract.nD Cert.Extract.τ).loc Cert.Extract.main_arg1) = m ((c.tc : Thread Cert.Extract.nD Cert.Extract.τ).loc Cert.Extract.main_arg1))
      ∧ r.2.sem = fun _ => 0) :=
  (θ_run _ _ _).mono (fun r h => ⟨fun c => ⟨X.final_arg0 h.1 c, X.final_arg1 h.1 c⟩, h.2⟩) (X.run_main m g)

/-- Its reference runs, leaves its arguments and has no semaphore. -/
theorem gathered_frame (m : (ℓ : Loc Cert.Gathered.nD Cert.Gathered.τ Cert.Gathered.sig) → Buf (Elt Bits) ℓ)
    (g : Dev Cert.Gathered.nD → PrngReg) :
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1))
      ∧ r.2.sem = fun _ => 0) :=
  (θ_run _ _ _).mono (fun r h => ⟨fun c => (h c).2, sem_eq_zero_of_no_sems rfl r.2⟩) (Cert.Gathered.Value.run m g)

/-- For ascending ids that are rows of the table the gathering call's words are its reference's. -/
theorem bitexact : Cert.bitexact_Extract_Gathered_pre_ascending (hExtract := Cert.Extract.Gen.facts) (hGathered := Cert.Gathered.Gen.facts) (hPre_ascending := Cert.Pre_ascending.Gen.facts) := by
  intro m g m' g' hpre hagree
  refine ⟨fun c => Cert.Gathered.Read.val_main_v16 (F := Bits) (m ((c.tc : Thread Cert.Extract.nD Cert.Extract.τ).loc Cert.Extract.main_arg0)) (m ((c.tc : Thread Cert.Extract.nD Cert.Extract.τ).loc Cert.Extract.main_arg1)),
    (θ_run _ _ _).mono (fun r h c => ⟨?_, X.final_arg0 h.1 c, X.final_arg1 h.1 c⟩) (X.run_main m g),
    (θ_run _ _ _).mono (fun r h c => ⟨?_, (h c).2⟩) (Cert.Gathered.Value.run m' g')⟩
  · refine funext fun i => ?_
    have hs := X.pre_row _ _ (hpre c) (ValueIdx.ix1 (n := 24576) (i 1))
    have e : i = ValueIdx.ix2 (n0 := 112) (n1 := 24576) (i 0) (i 1) := funext fun a => match a with | ⟨0, _⟩ => rfl | ⟨1, _⟩ => rfl
    rw [e]
    exact (X.final_word h.1 c (hpre c) (i 0) (i 1) hs).trans (X.word_taken _ _ (i 0) (i 1) hs).symm
  · obtain ⟨a0, a1⟩ := hagree c
    rw [(h c).1, Cert.Gathered.Read.val_main_v16_eq, a0, a1]

/-- Everything claimed. -/
theorem claim : Cert.Claim := ⟨Cert.Kernel.Gen.facts, Cert.KernelIdeal.Gen.facts, Cert.ReferenceIdeal.Gen.facts, Cert.Extract.Gen.facts, Cert.Gathered.Gen.facts, Cert.Pre_finite.Gen.facts, Cert.Pre_ascending.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  fun m g _ => extract_frame m g,
  fun m g _ => extract_frame m g,
  fun m g _ => gathered_frame m g,
  fun m g _ => gathered_frame m g,
  trivial,
  algebraic,
  bitexact⟩

end Cert.Proof

end
